-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))) = (fun _ => 1#1)

def Pre_Up [hPre_experts_up : Cert.Pre_experts_up.Facts] (m : (ℓ : Loc Cert.Up.nD Cert.Up.τ Cert.Up.sig) → Buf (Elt Bits) ℓ) : Prop :=
  ∀ c : Dev Cert.Up.nD,
    (Cert.Pre_experts_up.fn (F := Bits) (m ((c.tc : Thread Cert.Up.nD Cert.Up.τ).loc Cert.Up.main_arg0)) (m ((c.tc : Thread Cert.Up.nD Cert.Up.τ).loc Cert.Up.main_arg1)) (m ((c.tc : Thread Cert.Up.nD Cert.Up.τ).loc Cert.Up.main_arg2)) (m ((c.tc : Thread Cert.Up.nD Cert.Up.τ).loc Cert.Up.main_arg3)) (m ((c.tc : Thread Cert.Up.nD Cert.Up.τ).loc Cert.Up.main_arg4))) = (fun _ => 1#1)

def Pre_UpIdeal [hPre_experts_up : Cert.Pre_experts_up.Facts] (m : (ℓ : Loc Cert.UpIdeal.nD Cert.UpIdeal.τ Cert.UpIdeal.sig) → Buf (Elt Ideal) ℓ) : Prop :=
  ∀ c : Dev Cert.UpIdeal.nD,
    (Cert.Pre_experts_up.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4))) = (fun _ => 1#1)

def Pre_UpRefIdeal (m : (ℓ : Loc Cert.UpRefIdeal.nD Cert.UpRefIdeal.τ Cert.UpRefIdeal.sig) → Buf (Elt Ideal) ℓ) : Prop :=
  True

def Pre_UpRefIdeal_experts_up [hPre_experts_up : Cert.Pre_experts_up.Facts] (m : (ℓ : Loc Cert.UpRefIdeal.nD Cert.UpRefIdeal.τ Cert.UpRefIdeal.sig) → Buf (Elt Ideal) ℓ) : Prop :=
  ∀ c : Dev Cert.UpRefIdeal.nD,
    (Cert.Pre_experts_up.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4))) = (fun _ => 1#1)

def Pre_Down [hPre_experts_down : Cert.Pre_experts_down.Facts] (m : (ℓ : Loc Cert.Down.nD Cert.Down.τ Cert.Down.sig) → Buf (Elt Bits) ℓ) : Prop :=
  ∀ c : Dev Cert.Down.nD,
    (Cert.Pre_experts_down.fn (F := Bits) (m ((c.tc : Thread Cert.Down.nD Cert.Down.τ).loc Cert.Down.main_arg0)) (m ((c.tc : Thread Cert.Down.nD Cert.Down.τ).loc Cert.Down.main_arg1)) (m ((c.tc : Thread Cert.Down.nD Cert.Down.τ).loc Cert.Down.main_arg2)) (m ((c.tc : Thread Cert.Down.nD Cert.Down.τ).loc Cert.Down.main_arg3))) = (fun _ => 1#1)

def Pre_DownIdeal [hPre_experts_down : Cert.Pre_experts_down.Facts] (m : (ℓ : Loc Cert.DownIdeal.nD Cert.DownIdeal.τ Cert.DownIdeal.sig) → Buf (Elt Ideal) ℓ) : Prop :=
  ∀ c : Dev Cert.DownIdeal.nD,
    (Cert.Pre_experts_down.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3))) = (fun _ => 1#1)

def Pre_DownRefIdeal (m : (ℓ : Loc Cert.DownRefIdeal.nD Cert.DownRefIdeal.τ Cert.DownRefIdeal.sig) → Buf (Elt Ideal) ℓ) : Prop :=
  True

def Pre_DownRefIdeal_experts_down [hPre_experts_down : Cert.Pre_experts_down.Facts] (m : (ℓ : Loc Cert.DownRefIdeal.nD Cert.DownRefIdeal.τ Cert.DownRefIdeal.sig) → Buf (Elt Ideal) ℓ) : Prop :=
  ∀ c : Dev Cert.DownRefIdeal.nD,
    (Cert.Pre_experts_down.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_MergeOne (m : (ℓ : Loc Cert.MergeOne.nD Cert.MergeOne.τ Cert.MergeOne.sig) → Buf (Elt Bits) ℓ) : Prop :=
  True

def Pre_MergeOneIdeal (m : (ℓ : Loc Cert.MergeOneIdeal.nD Cert.MergeOneIdeal.τ Cert.MergeOneIdeal.sig) → Buf (Elt Ideal) ℓ) : Prop :=
  True

def Pre_MergeOneRefIdeal (m : (ℓ : Loc Cert.MergeOneRefIdeal.nD Cert.MergeOneRefIdeal.τ Cert.MergeOneRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6))
      ∧ r.2.sem = fun _ => 0)

def quiescent_Up [hUp : Cert.Up.Facts] [hPre_experts_up : Cert.Pre_experts_up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4))
      ∧ r.2.sem = fun _ => 0)

def quiescent_UpIdeal [hUpIdeal : Cert.UpIdeal.Facts] [hPre_experts_up : Cert.Pre_experts_up.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4))
      ∧ r.2.sem = fun _ => 0)

def quiescent_UpRefIdeal_pre_experts_up [hUpRefIdeal : Cert.UpRefIdeal.Facts] [hPre_experts_up : Cert.Pre_experts_up.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal_experts_up m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4))
      ∧ r.2.sem = fun _ => 0)

def quiescent_Down [hDown : Cert.Down.Facts] [hPre_experts_down : Cert.Pre_experts_down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] [hPre_experts_down : Cert.Pre_experts_down.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_DownRefIdeal_pre_experts_down [hDownRefIdeal : Cert.DownRefIdeal.Facts] [hPre_experts_down : Cert.Pre_experts_down.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal_experts_down m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12))
      ∧ r.2.sem = fun _ => 0)

def quiescent_MergeOne [hMergeOne : Cert.MergeOne.Facts] : Prop :=
  ∀ (m : (ℓ : Loc Cert.MergeOne.nD Cert.MergeOne.τ Cert.MergeOne.sig) → Buf (Elt Bits) ℓ) (g : Dev Cert.MergeOne.nD → PrngReg), Pre_MergeOne m →
    θ_run (Cert.MergeOne.defs (F := Bits)) (onTc (τ := Cert.MergeOne.τ) (Cert.MergeOne.main (F := Bits))) ⟨m, fun _ => 0, g⟩ (fun r => (∀ c : Dev Cert.MergeOne.nD,
      r.2.mem ((c.tc : Thread Cert.MergeOne.nD Cert.MergeOne.τ).loc Cert.MergeOne.main_arg0) = m ((c.tc : Thread Cert.MergeOne.nD Cert.MergeOne.τ).loc Cert.MergeOne.main_arg0)
      ∧ r.2.mem ((c.tc : Thread Cert.MergeOne.nD Cert.MergeOne.τ).loc Cert.MergeOne.main_arg1) = m ((c.tc : Thread Cert.MergeOne.nD Cert.MergeOne.τ).loc Cert.MergeOne.main_arg1)
      ∧ r.2.mem ((c.tc : Thread Cert.MergeOne.nD Cert.MergeOne.τ).loc Cert.MergeOne.main_arg2) = m ((c.tc : Thread Cert.MergeOne.nD Cert.MergeOne.τ).loc Cert.MergeOne.main_arg2)
      ∧ r.2.mem ((c.tc : Thread Cert.MergeOne.nD Cert.MergeOne.τ).loc Cert.MergeOne.main_arg3) = m ((c.tc : Thread Cert.MergeOne.nD Cert.MergeOne.τ).loc Cert.MergeOne.main_arg3)
      ∧ r.2.mem ((c.tc : Thread Cert.MergeOne.nD Cert.MergeOne.τ).loc Cert.MergeOne.main_arg4) = m ((c.tc : Thread Cert.MergeOne.nD Cert.MergeOne.τ).loc Cert.MergeOne.main_arg4)
      ∧ r.2.mem ((c.tc : Thread Cert.MergeOne.nD Cert.MergeOne.τ).loc Cert.MergeOne.main_arg5) = m ((c.tc : Thread Cert.MergeOne.nD Cert.MergeOne.τ).loc Cert.MergeOne.main_arg5)
      ∧ r.2.mem ((c.tc : Thread Cert.MergeOne.nD Cert.MergeOne.τ).loc Cert.MergeOne.main_arg6) = m ((c.tc : Thread Cert.MergeOne.nD Cert.MergeOne.τ).loc Cert.MergeOne.main_arg6)
      ∧ r.2.mem ((c.tc : Thread Cert.MergeOne.nD Cert.MergeOne.τ).loc Cert.MergeOne.main_arg7) = m ((c.tc : Thread Cert.MergeOne.nD Cert.MergeOne.τ).loc Cert.MergeOne.main_arg7)
      ∧ r.2.mem ((c.tc : Thread Cert.MergeOne.nD Cert.MergeOne.τ).loc Cert.MergeOne.main_arg8) = m ((c.tc : Thread Cert.MergeOne.nD Cert.MergeOne.τ).loc Cert.MergeOne.main_arg8)
      ∧ r.2.mem ((c.tc : Thread Cert.MergeOne.nD Cert.MergeOne.τ).loc Cert.MergeOne.main_arg9) = m ((c.tc : Thread Cert.MergeOne.nD Cert.MergeOne.τ).loc Cert.MergeOne.main_arg9)
      ∧ r.2.mem ((c.tc : Thread Cert.MergeOne.nD Cert.MergeOne.τ).loc Cert.MergeOne.main_arg10) = m ((c.tc : Thread Cert.MergeOne.nD Cert.MergeOne.τ).loc Cert.MergeOne.main_arg10)
      ∧ r.2.mem ((c.tc : Thread Cert.MergeOne.nD Cert.MergeOne.τ).loc Cert.MergeOne.main_arg11) = m ((c.tc : Thread Cert.MergeOne.nD Cert.MergeOne.τ).loc Cert.MergeOne.main_arg11))
      ∧ r.2.sem = fun _ => 0)

def quiescent_MergeOneIdeal [hMergeOneIdeal : Cert.MergeOneIdeal.Facts] : Prop :=
  ∀ (m : (ℓ : Loc Cert.MergeOneIdeal.nD Cert.MergeOneIdeal.τ Cert.MergeOneIdeal.sig) → Buf (Elt Ideal) ℓ) (g : Dev Cert.MergeOneIdeal.nD → PrngReg), Pre_MergeOneIdeal m →
    θ_run (Cert.MergeOneIdeal.defs (F := Ideal)) (onTc (τ := Cert.MergeOneIdeal.τ) (Cert.MergeOneIdeal.main (F := Ideal))) ⟨m, fun _ => 0, g⟩ (fun r => (∀ c : Dev Cert.MergeOneIdeal.nD,
      r.2.mem ((c.tc : Thread Cert.MergeOneIdeal.nD Cert.MergeOneIdeal.τ).loc Cert.MergeOneIdeal.main_arg0) = m ((c.tc : Thread Cert.MergeOneIdeal.nD Cert.MergeOneIdeal.τ).loc Cert.MergeOneIdeal.main_arg0)
      ∧ r.2.mem ((c.tc : Thread Cert.MergeOneIdeal.nD Cert.MergeOneIdeal.τ).loc Cert.MergeOneIdeal.main_arg1) = m ((c.tc : Thread Cert.MergeOneIdeal.nD Cert.MergeOneIdeal.τ).loc Cert.MergeOneIdeal.main_arg1)
      ∧ r.2.mem ((c.tc : Thread Cert.MergeOneIdeal.nD Cert.MergeOneIdeal.τ).loc Cert.MergeOneIdeal.main_arg2) = m ((c.tc : Thread Cert.MergeOneIdeal.nD Cert.MergeOneIdeal.τ).loc Cert.MergeOneIdeal.main_arg2)
      ∧ r.2.mem ((c.tc : Thread Cert.MergeOneIdeal.nD Cert.MergeOneIdeal.τ).loc Cert.MergeOneIdeal.main_arg3) = m ((c.tc : Thread Cert.MergeOneIdeal.nD Cert.MergeOneIdeal.τ).loc Cert.MergeOneIdeal.main_arg3)
      ∧ r.2.mem ((c.tc : Thread Cert.MergeOneIdeal.nD Cert.MergeOneIdeal.τ).loc Cert.MergeOneIdeal.main_arg4) = m ((c.tc : Thread Cert.MergeOneIdeal.nD Cert.MergeOneIdeal.τ).loc Cert.MergeOneIdeal.main_arg4)
      ∧ r.2.mem ((c.tc : Thread Cert.MergeOneIdeal.nD Cert.MergeOneIdeal.τ).loc Cert.MergeOneIdeal.main_arg5) = m ((c.tc : Thread Cert.MergeOneIdeal.nD Cert.MergeOneIdeal.τ).loc Cert.MergeOneIdeal.main_arg5)
      ∧ r.2.mem ((c.tc : Thread Cert.MergeOneIdeal.nD Cert.MergeOneIdeal.τ).loc Cert.MergeOneIdeal.main_arg6) = m ((c.tc : Thread Cert.MergeOneIdeal.nD Cert.MergeOneIdeal.τ).loc Cert.MergeOneIdeal.main_arg6)
      ∧ r.2.mem ((c.tc : Thread Cert.MergeOneIdeal.nD Cert.MergeOneIdeal.τ).loc Cert.MergeOneIdeal.main_arg7) = m ((c.tc : Thread Cert.MergeOneIdeal.nD Cert.MergeOneIdeal.τ).loc Cert.MergeOneIdeal.main_arg7)
      ∧ r.2.mem ((c.tc : Thread Cert.MergeOneIdeal.nD Cert.MergeOneIdeal.τ).loc Cert.MergeOneIdeal.main_arg8) = m ((c.tc : Thread Cert.MergeOneIdeal.nD Cert.MergeOneIdeal.τ).loc Cert.MergeOneIdeal.main_arg8)
      ∧ r.2.mem ((c.tc : Thread Cert.MergeOneIdeal.nD Cert.MergeOneIdeal.τ).loc Cert.MergeOneIdeal.main_arg9) = m ((c.tc : Thread Cert.MergeOneIdeal.nD Cert.MergeOneIdeal.τ).loc Cert.MergeOneIdeal.main_arg9)
      ∧ r.2.mem ((c.tc : Thread Cert.MergeOneIdeal.nD Cert.MergeOneIdeal.τ).loc Cert.MergeOneIdeal.main_arg10) = m ((c.tc : Thread Cert.MergeOneIdeal.nD Cert.MergeOneIdeal.τ).loc Cert.MergeOneIdeal.main_arg10)
      ∧ r.2.mem ((c.tc : Thread Cert.MergeOneIdeal.nD Cert.MergeOneIdeal.τ).loc Cert.MergeOneIdeal.main_arg11) = m ((c.tc : Thread Cert.MergeOneIdeal.nD Cert.MergeOneIdeal.τ).loc Cert.MergeOneIdeal.main_arg11))
      ∧ r.2.sem = fun _ => 0)

def quiescent_MergeOneRefIdeal [hMergeOneRefIdeal : Cert.MergeOneRefIdeal.Facts] : Prop :=
  ∀ (m : (ℓ : Loc Cert.MergeOneRefIdeal.nD Cert.MergeOneRefIdeal.τ Cert.MergeOneRefIdeal.sig) → Buf (Elt Ideal) ℓ) (g : Dev Cert.MergeOneRefIdeal.nD → PrngReg), Pre_MergeOneRefIdeal m →
    θ_run (Cert.MergeOneRefIdeal.defs (F := Ideal)) (onTc (τ := Cert.MergeOneRefIdeal.τ) (Cert.MergeOneRefIdeal.main (F := Ideal))) ⟨m, fun _ => 0, g⟩ (fun r => (∀ c : Dev Cert.MergeOneRefIdeal.nD,
      r.2.mem ((c.tc : Thread Cert.MergeOneRefIdeal.nD Cert.MergeOneRefIdeal.τ).loc Cert.MergeOneRefIdeal.main_arg0) = m ((c.tc : Thread Cert.MergeOneRefIdeal.nD Cert.MergeOneRefIdeal.τ).loc Cert.MergeOneRefIdeal.main_arg0)
      ∧ r.2.mem ((c.tc : Thread Cert.MergeOneRefIdeal.nD Cert.MergeOneRefIdeal.τ).loc Cert.MergeOneRefIdeal.main_arg1) = m ((c.tc : Thread Cert.MergeOneRefIdeal.nD Cert.MergeOneRefIdeal.τ).loc Cert.MergeOneRefIdeal.main_arg1)
      ∧ r.2.mem ((c.tc : Thread Cert.MergeOneRefIdeal.nD Cert.MergeOneRefIdeal.τ).loc Cert.MergeOneRefIdeal.main_arg2) = m ((c.tc : Thread Cert.MergeOneRefIdeal.nD Cert.MergeOneRefIdeal.τ).loc Cert.MergeOneRefIdeal.main_arg2)
      ∧ r.2.mem ((c.tc : Thread Cert.MergeOneRefIdeal.nD Cert.MergeOneRefIdeal.τ).loc Cert.MergeOneRefIdeal.main_arg3) = m ((c.tc : Thread Cert.MergeOneRefIdeal.nD Cert.MergeOneRefIdeal.τ).loc Cert.MergeOneRefIdeal.main_arg3)
      ∧ r.2.mem ((c.tc : Thread Cert.MergeOneRefIdeal.nD Cert.MergeOneRefIdeal.τ).loc Cert.MergeOneRefIdeal.main_arg4) = m ((c.tc : Thread Cert.MergeOneRefIdeal.nD Cert.MergeOneRefIdeal.τ).loc Cert.MergeOneRefIdeal.main_arg4)
      ∧ r.2.mem ((c.tc : Thread Cert.MergeOneRefIdeal.nD Cert.MergeOneRefIdeal.τ).loc Cert.MergeOneRefIdeal.main_arg5) = m ((c.tc : Thread Cert.MergeOneRefIdeal.nD Cert.MergeOneRefIdeal.τ).loc Cert.MergeOneRefIdeal.main_arg5)
      ∧ r.2.mem ((c.tc : Thread Cert.MergeOneRefIdeal.nD Cert.MergeOneRefIdeal.τ).loc Cert.MergeOneRefIdeal.main_arg6) = m ((c.tc : Thread Cert.MergeOneRefIdeal.nD Cert.MergeOneRefIdeal.τ).loc Cert.MergeOneRefIdeal.main_arg6)
      ∧ r.2.mem ((c.tc : Thread Cert.MergeOneRefIdeal.nD Cert.MergeOneRefIdeal.τ).loc Cert.MergeOneRefIdeal.main_arg7) = m ((c.tc : Thread Cert.MergeOneRefIdeal.nD Cert.MergeOneRefIdeal.τ).loc Cert.MergeOneRefIdeal.main_arg7)
      ∧ r.2.mem ((c.tc : Thread Cert.MergeOneRefIdeal.nD Cert.MergeOneRefIdeal.τ).loc Cert.MergeOneRefIdeal.main_arg8) = m ((c.tc : Thread Cert.MergeOneRefIdeal.nD Cert.MergeOneRefIdeal.τ).loc Cert.MergeOneRefIdeal.main_arg8)
      ∧ r.2.mem ((c.tc : Thread Cert.MergeOneRefIdeal.nD Cert.MergeOneRefIdeal.τ).loc Cert.MergeOneRefIdeal.main_arg9) = m ((c.tc : Thread Cert.MergeOneRefIdeal.nD Cert.MergeOneRefIdeal.τ).loc Cert.MergeOneRefIdeal.main_arg9)
      ∧ r.2.mem ((c.tc : Thread Cert.MergeOneRefIdeal.nD Cert.MergeOneRefIdeal.τ).loc Cert.MergeOneRefIdeal.main_arg10) = m ((c.tc : Thread Cert.MergeOneRefIdeal.nD Cert.MergeOneRefIdeal.τ).loc Cert.MergeOneRefIdeal.main_arg10)
      ∧ r.2.mem ((c.tc : Thread Cert.MergeOneRefIdeal.nD Cert.MergeOneRefIdeal.τ).loc Cert.MergeOneRefIdeal.main_arg11) = m ((c.tc : Thread Cert.MergeOneRefIdeal.nD Cert.MergeOneRefIdeal.τ).loc Cert.MergeOneRefIdeal.main_arg11))
      ∧ r.2.sem = fun _ => 0)

def preserves_Attn_AttnIdeal : Prop :=
  True

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)) →
    ∃ (v0 : (c : Dev Cert.AttnIdeal.nD) → Buf (Elt Ideal) ((c.tc : Thread Cert.AttnIdeal.nD Cert.AttnIdeal.τ).loc Cert.AttnIdeal.main_v1)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v1) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v77) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6))

def preserves_Up_UpIdeal : Prop :=
  True

def algebraic_UpIdeal_UpRefIdeal [hUpIdeal : Cert.UpIdeal.Facts] [hUpRefIdeal : Cert.UpRefIdeal.Facts] [hPre_experts_up : Cert.Pre_experts_up.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)
      ∧ m' ((c.tc : Thread Cert.UpRefIdeal.nD Cert.UpRefIdeal.τ).loc Cert.UpRefIdeal.main_arg4) = m ((c.tc : Thread Cert.UpIdeal.nD Cert.UpIdeal.τ).loc Cert.UpIdeal.main_arg4)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v36) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4))

def preserves_Down_DownIdeal : Prop :=
  True

def algebraic_DownIdeal_DownRefIdeal [hDownIdeal : Cert.DownIdeal.Facts] [hDownRefIdeal : Cert.DownRefIdeal.Facts] [hPre_experts_down : Cert.Pre_experts_down.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v19) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_InProj_InProjIdeal : Prop :=
  True

def algebraic_InProjIdeal_InRefIdeal [hInProjIdeal : Cert.InProjIdeal.Facts] [hInRefIdeal : Cert.InRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InRefIdeal.nD Cert.InRefIdeal.τ Cert.InRefIdeal.sig) → Buf (Elt Ideal) ℓ) (g' : Dev Cert.InRefIdeal.nD → PrngReg), Pre_InProjIdeal m →
    (∀ c : Dev Cert.InProjIdeal.nD,
      m' ((c.tc : Thread Cert.InRefIdeal.nD Cert.InRefIdeal.τ).loc Cert.InRefIdeal.main_arg0) = m ((c.tc : Thread Cert.InProjIdeal.nD Cert.InProjIdeal.τ).loc Cert.InProjIdeal.main_arg0)
      ∧ m' ((c.tc : Thread Cert.InRefIdeal.nD Cert.InRefIdeal.τ).loc Cert.InRefIdeal.main_arg1) = m ((c.tc : Thread Cert.InProjIdeal.nD Cert.InProjIdeal.τ).loc Cert.InProjIdeal.main_arg1)
      ∧ m' ((c.tc : Thread Cert.InRefIdeal.nD Cert.InRefIdeal.τ).loc Cert.InRefIdeal.main_arg2) = m ((c.tc : Thread Cert.InProjIdeal.nD Cert.InProjIdeal.τ).loc Cert.InProjIdeal.main_arg2)
      ∧ m' ((c.tc : Thread Cert.InRefIdeal.nD Cert.InRefIdeal.τ).loc Cert.InRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v26) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v72) = v0 c
          ∧ r.2.mem ((c.tc : Thread Cert.MergeRefIdeal.nD Cert.MergeRefIdeal.τ).loc Cert.MergeRefIdeal.main_v74) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12))

def preserves_MergeOne_MergeOneIdeal : Prop :=
  True

def algebraic_MergeOneIdeal_MergeOneRefIdeal [hMergeOneIdeal : Cert.MergeOneIdeal.Facts] [hMergeOneRefIdeal : Cert.MergeOneRefIdeal.Facts] : Prop :=
  ∀ (m : (ℓ : Loc Cert.MergeOneIdeal.nD Cert.MergeOneIdeal.τ Cert.MergeOneIdeal.sig) → Buf (Elt Ideal) ℓ) (g : Dev Cert.MergeOneIdeal.nD → PrngReg)
    (m' : (ℓ : Loc Cert.MergeOneRefIdeal.nD Cert.MergeOneRefIdeal.τ Cert.MergeOneRefIdeal.sig) → Buf (Elt Ideal) ℓ) (g' : Dev Cert.MergeOneRefIdeal.nD → PrngReg), Pre_MergeOneIdeal m →
    (∀ c : Dev Cert.MergeOneIdeal.nD,
      m' ((c.tc : Thread Cert.MergeOneRefIdeal.nD Cert.MergeOneRefIdeal.τ).loc Cert.MergeOneRefIdeal.main_arg0) = m ((c.tc : Thread Cert.MergeOneIdeal.nD Cert.MergeOneIdeal.τ).loc Cert.MergeOneIdeal.main_arg0)
      ∧ m' ((c.tc : Thread Cert.MergeOneRefIdeal.nD Cert.MergeOneRefIdeal.τ).loc Cert.MergeOneRefIdeal.main_arg1) = m ((c.tc : Thread Cert.MergeOneIdeal.nD Cert.MergeOneIdeal.τ).loc Cert.MergeOneIdeal.main_arg1)
      ∧ m' ((c.tc : Thread Cert.MergeOneRefIdeal.nD Cert.MergeOneRefIdeal.τ).loc Cert.MergeOneRefIdeal.main_arg2) = m ((c.tc : Thread Cert.MergeOneIdeal.nD Cert.MergeOneIdeal.τ).loc Cert.MergeOneIdeal.main_arg2)
      ∧ m' ((c.tc : Thread Cert.MergeOneRefIdeal.nD Cert.MergeOneRefIdeal.τ).loc Cert.MergeOneRefIdeal.main_arg3) = m ((c.tc : Thread Cert.MergeOneIdeal.nD Cert.MergeOneIdeal.τ).loc Cert.MergeOneIdeal.main_arg3)
      ∧ m' ((c.tc : Thread Cert.MergeOneRefIdeal.nD Cert.MergeOneRefIdeal.τ).loc Cert.MergeOneRefIdeal.main_arg4) = m ((c.tc : Thread Cert.MergeOneIdeal.nD Cert.MergeOneIdeal.τ).loc Cert.MergeOneIdeal.main_arg4)
      ∧ m' ((c.tc : Thread Cert.MergeOneRefIdeal.nD Cert.MergeOneRefIdeal.τ).loc Cert.MergeOneRefIdeal.main_arg5) = m ((c.tc : Thread Cert.MergeOneIdeal.nD Cert.MergeOneIdeal.τ).loc Cert.MergeOneIdeal.main_arg5)
      ∧ m' ((c.tc : Thread Cert.MergeOneRefIdeal.nD Cert.MergeOneRefIdeal.τ).loc Cert.MergeOneRefIdeal.main_arg6) = m ((c.tc : Thread Cert.MergeOneIdeal.nD Cert.MergeOneIdeal.τ).loc Cert.MergeOneIdeal.main_arg6)
      ∧ m' ((c.tc : Thread Cert.MergeOneRefIdeal.nD Cert.MergeOneRefIdeal.τ).loc Cert.MergeOneRefIdeal.main_arg7) = m ((c.tc : Thread Cert.MergeOneIdeal.nD Cert.MergeOneIdeal.τ).loc Cert.MergeOneIdeal.main_arg7)
      ∧ m' ((c.tc : Thread Cert.MergeOneRefIdeal.nD Cert.MergeOneRefIdeal.τ).loc Cert.MergeOneRefIdeal.main_arg8) = m ((c.tc : Thread Cert.MergeOneIdeal.nD Cert.MergeOneIdeal.τ).loc Cert.MergeOneIdeal.main_arg8)
      ∧ m' ((c.tc : Thread Cert.MergeOneRefIdeal.nD Cert.MergeOneRefIdeal.τ).loc Cert.MergeOneRefIdeal.main_arg9) = m ((c.tc : Thread Cert.MergeOneIdeal.nD Cert.MergeOneIdeal.τ).loc Cert.MergeOneIdeal.main_arg9)
      ∧ m' ((c.tc : Thread Cert.MergeOneRefIdeal.nD Cert.MergeOneRefIdeal.τ).loc Cert.MergeOneRefIdeal.main_arg10) = m ((c.tc : Thread Cert.MergeOneIdeal.nD Cert.MergeOneIdeal.τ).loc Cert.MergeOneIdeal.main_arg10)
      ∧ m' ((c.tc : Thread Cert.MergeOneRefIdeal.nD Cert.MergeOneRefIdeal.τ).loc Cert.MergeOneRefIdeal.main_arg11) = m ((c.tc : Thread Cert.MergeOneIdeal.nD Cert.MergeOneIdeal.τ).loc Cert.MergeOneIdeal.main_arg11)) →
    ∃ (v0 : (c : Dev Cert.MergeOneIdeal.nD) → Buf (Elt Ideal) ((c.tc : Thread Cert.MergeOneIdeal.nD Cert.MergeOneIdeal.τ).loc Cert.MergeOneIdeal.main_v0)),
      θ_run (Cert.MergeOneIdeal.defs (F := Ideal)) (onTc (τ := Cert.MergeOneIdeal.τ) (Cert.MergeOneIdeal.main (F := Ideal))) ⟨m, fun _ => 0, g⟩ (fun r => ∀ c : Dev Cert.MergeOneIdeal.nD,
          r.2.mem ((c.tc : Thread Cert.MergeOneIdeal.nD Cert.MergeOneIdeal.τ).loc Cert.MergeOneIdeal.main_v0) = v0 c
          ∧ r.2.mem ((c.tc : Thread Cert.MergeOneIdeal.nD Cert.MergeOneIdeal.τ).loc Cert.MergeOneIdeal.main_arg0) = m ((c.tc : Thread Cert.MergeOneIdeal.nD Cert.MergeOneIdeal.τ).loc Cert.MergeOneIdeal.main_arg0)
          ∧ r.2.mem ((c.tc : Thread Cert.MergeOneIdeal.nD Cert.MergeOneIdeal.τ).loc Cert.MergeOneIdeal.main_arg1) = m ((c.tc : Thread Cert.MergeOneIdeal.nD Cert.MergeOneIdeal.τ).loc Cert.MergeOneIdeal.main_arg1)
          ∧ r.2.mem ((c.tc : Thread Cert.MergeOneIdeal.nD Cert.MergeOneIdeal.τ).loc Cert.MergeOneIdeal.main_arg2) = m ((c.tc : Thread Cert.MergeOneIdeal.nD Cert.MergeOneIdeal.τ).loc Cert.MergeOneIdeal.main_arg2)
          ∧ r.2.mem ((c.tc : Thread Cert.MergeOneIdeal.nD Cert.MergeOneIdeal.τ).loc Cert.MergeOneIdeal.main_arg3) = m ((c.tc : Thread Cert.MergeOneIdeal.nD Cert.MergeOneIdeal.τ).loc Cert.MergeOneIdeal.main_arg3)
          ∧ r.2.mem ((c.tc : Thread Cert.MergeOneIdeal.nD Cert.MergeOneIdeal.τ).loc Cert.MergeOneIdeal.main_arg4) = m ((c.tc : Thread Cert.MergeOneIdeal.nD Cert.MergeOneIdeal.τ).loc Cert.MergeOneIdeal.main_arg4)
          ∧ r.2.mem ((c.tc : Thread Cert.MergeOneIdeal.nD Cert.MergeOneIdeal.τ).loc Cert.MergeOneIdeal.main_arg5) = m ((c.tc : Thread Cert.MergeOneIdeal.nD Cert.MergeOneIdeal.τ).loc Cert.MergeOneIdeal.main_arg5)
          ∧ r.2.mem ((c.tc : Thread Cert.MergeOneIdeal.nD Cert.MergeOneIdeal.τ).loc Cert.MergeOneIdeal.main_arg6) = m ((c.tc : Thread Cert.MergeOneIdeal.nD Cert.MergeOneIdeal.τ).loc Cert.MergeOneIdeal.main_arg6)
          ∧ r.2.mem ((c.tc : Thread Cert.MergeOneIdeal.nD Cert.MergeOneIdeal.τ).loc Cert.MergeOneIdeal.main_arg7) = m ((c.tc : Thread Cert.MergeOneIdeal.nD Cert.MergeOneIdeal.τ).loc Cert.MergeOneIdeal.main_arg7)
          ∧ r.2.mem ((c.tc : Thread Cert.MergeOneIdeal.nD Cert.MergeOneIdeal.τ).loc Cert.MergeOneIdeal.main_arg8) = m ((c.tc : Thread Cert.MergeOneIdeal.nD Cert.MergeOneIdeal.τ).loc Cert.MergeOneIdeal.main_arg8)
          ∧ r.2.mem ((c.tc : Thread Cert.MergeOneIdeal.nD Cert.MergeOneIdeal.τ).loc Cert.MergeOneIdeal.main_arg9) = m ((c.tc : Thread Cert.MergeOneIdeal.nD Cert.MergeOneIdeal.τ).loc Cert.MergeOneIdeal.main_arg9)
          ∧ r.2.mem ((c.tc : Thread Cert.MergeOneIdeal.nD Cert.MergeOneIdeal.τ).loc Cert.MergeOneIdeal.main_arg10) = m ((c.tc : Thread Cert.MergeOneIdeal.nD Cert.MergeOneIdeal.τ).loc Cert.MergeOneIdeal.main_arg10)
          ∧ r.2.mem ((c.tc : Thread Cert.MergeOneIdeal.nD Cert.MergeOneIdeal.τ).loc Cert.MergeOneIdeal.main_arg11) = m ((c.tc : Thread Cert.MergeOneIdeal.nD Cert.MergeOneIdeal.τ).loc Cert.MergeOneIdeal.main_arg11))
      ∧ θ_run (Cert.MergeOneRefIdeal.defs (F := Ideal)) (onTc (τ := Cert.MergeOneRefIdeal.τ) (Cert.MergeOneRefIdeal.main (F := Ideal))) ⟨m', fun _ => 0, g'⟩ (fun r => ∀ c : Dev Cert.MergeOneRefIdeal.nD,
          r.2.mem ((c.tc : Thread Cert.MergeOneRefIdeal.nD Cert.MergeOneRefIdeal.τ).loc Cert.MergeOneRefIdeal.main_v50) = v0 c
          ∧ r.2.mem ((c.tc : Thread Cert.MergeOneRefIdeal.nD Cert.MergeOneRefIdeal.τ).loc Cert.MergeOneRefIdeal.main_arg0) = m' ((c.tc : Thread Cert.MergeOneRefIdeal.nD Cert.MergeOneRefIdeal.τ).loc Cert.MergeOneRefIdeal.main_arg0)
          ∧ r.2.mem ((c.tc : Thread Cert.MergeOneRefIdeal.nD Cert.MergeOneRefIdeal.τ).loc Cert.MergeOneRefIdeal.main_arg1) = m' ((c.tc : Thread Cert.MergeOneRefIdeal.nD Cert.MergeOneRefIdeal.τ).loc Cert.MergeOneRefIdeal.main_arg1)
          ∧ r.2.mem ((c.tc : Thread Cert.MergeOneRefIdeal.nD Cert.MergeOneRefIdeal.τ).loc Cert.MergeOneRefIdeal.main_arg2) = m' ((c.tc : Thread Cert.MergeOneRefIdeal.nD Cert.MergeOneRefIdeal.τ).loc Cert.MergeOneRefIdeal.main_arg2)
          ∧ r.2.mem ((c.tc : Thread Cert.MergeOneRefIdeal.nD Cert.MergeOneRefIdeal.τ).loc Cert.MergeOneRefIdeal.main_arg3) = m' ((c.tc : Thread Cert.MergeOneRefIdeal.nD Cert.MergeOneRefIdeal.τ).loc Cert.MergeOneRefIdeal.main_arg3)
          ∧ r.2.mem ((c.tc : Thread Cert.MergeOneRefIdeal.nD Cert.MergeOneRefIdeal.τ).loc Cert.MergeOneRefIdeal.main_arg4) = m' ((c.tc : Thread Cert.MergeOneRefIdeal.nD Cert.MergeOneRefIdeal.τ).loc Cert.MergeOneRefIdeal.main_arg4)
          ∧ r.2.mem ((c.tc : Thread Cert.MergeOneRefIdeal.nD Cert.MergeOneRefIdeal.τ).loc Cert.MergeOneRefIdeal.main_arg5) = m' ((c.tc : Thread Cert.MergeOneRefIdeal.nD Cert.MergeOneRefIdeal.τ).loc Cert.MergeOneRefIdeal.main_arg5)
          ∧ r.2.mem ((c.tc : Thread Cert.MergeOneRefIdeal.nD Cert.MergeOneRefIdeal.τ).loc Cert.MergeOneRefIdeal.main_arg6) = m' ((c.tc : Thread Cert.MergeOneRefIdeal.nD Cert.MergeOneRefIdeal.τ).loc Cert.MergeOneRefIdeal.main_arg6)
          ∧ r.2.mem ((c.tc : Thread Cert.MergeOneRefIdeal.nD Cert.MergeOneRefIdeal.τ).loc Cert.MergeOneRefIdeal.main_arg7) = m' ((c.tc : Thread Cert.MergeOneRefIdeal.nD Cert.MergeOneRefIdeal.τ).loc Cert.MergeOneRefIdeal.main_arg7)
          ∧ r.2.mem ((c.tc : Thread Cert.MergeOneRefIdeal.nD Cert.MergeOneRefIdeal.τ).loc Cert.MergeOneRefIdeal.main_arg8) = m' ((c.tc : Thread Cert.MergeOneRefIdeal.nD Cert.MergeOneRefIdeal.τ).loc Cert.MergeOneRefIdeal.main_arg8)
          ∧ r.2.mem ((c.tc : Thread Cert.MergeOneRefIdeal.nD Cert.MergeOneRefIdeal.τ).loc Cert.MergeOneRefIdeal.main_arg9) = m' ((c.tc : Thread Cert.MergeOneRefIdeal.nD Cert.MergeOneRefIdeal.τ).loc Cert.MergeOneRefIdeal.main_arg9)
          ∧ r.2.mem ((c.tc : Thread Cert.MergeOneRefIdeal.nD Cert.MergeOneRefIdeal.τ).loc Cert.MergeOneRefIdeal.main_arg10) = m' ((c.tc : Thread Cert.MergeOneRefIdeal.nD Cert.MergeOneRefIdeal.τ).loc Cert.MergeOneRefIdeal.main_arg10)
          ∧ r.2.mem ((c.tc : Thread Cert.MergeOneRefIdeal.nD Cert.MergeOneRefIdeal.τ).loc Cert.MergeOneRefIdeal.main_arg11) = m' ((c.tc : Thread Cert.MergeOneRefIdeal.nD Cert.MergeOneRefIdeal.τ).loc Cert.MergeOneRefIdeal.main_arg11))

def Claim : Prop :=
  ∃ (hAttn : Cert.Attn.Facts) (hAttnIdeal : Cert.AttnIdeal.Facts) (hAttnRefIdeal : Cert.AttnRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hInProj : Cert.InProj.Facts) (hInProjIdeal : Cert.InProjIdeal.Facts) (hInRefIdeal : Cert.InRefIdeal.Facts) (hMerge : Cert.Merge.Facts) (hMergeIdeal : Cert.MergeIdeal.Facts) (hMergeRefIdeal : Cert.MergeRefIdeal.Facts) (hMergeOne : Cert.MergeOne.Facts) (hMergeOneIdeal : Cert.MergeOneIdeal.Facts) (hMergeOneRefIdeal : Cert.MergeOneRefIdeal.Facts) (hPre_finite : Cert.Pre_finite.Facts) (hPre_experts_up : Cert.Pre_experts_up.Facts) (hPre_experts_down : Cert.Pre_experts_down.Facts),
    quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_Up (hUp := hUp) (hPre_experts_up := hPre_experts_up)
    ∧ quiescent_UpIdeal (hUpIdeal := hUpIdeal) (hPre_experts_up := hPre_experts_up)
    ∧ quiescent_UpRefIdeal (hUpRefIdeal := hUpRefIdeal)
    ∧ quiescent_UpRefIdeal_pre_experts_up (hUpRefIdeal := hUpRefIdeal) (hPre_experts_up := hPre_experts_up)
    ∧ quiescent_Down (hDown := hDown) (hPre_experts_down := hPre_experts_down)
    ∧ quiescent_DownIdeal (hDownIdeal := hDownIdeal) (hPre_experts_down := hPre_experts_down)
    ∧ quiescent_DownRefIdeal (hDownRefIdeal := hDownRefIdeal)
    ∧ quiescent_DownRefIdeal_pre_experts_down (hDownRefIdeal := hDownRefIdeal) (hPre_experts_down := hPre_experts_down)
    ∧ quiescent_InProj (hInProj := hInProj)
    ∧ quiescent_InProjIdeal (hInProjIdeal := hInProjIdeal)
    ∧ quiescent_InRefIdeal (hInRefIdeal := hInRefIdeal)
    ∧ quiescent_Merge (hMerge := hMerge)
    ∧ quiescent_MergeIdeal (hMergeIdeal := hMergeIdeal)
    ∧ quiescent_MergeRefIdeal (hMergeRefIdeal := hMergeRefIdeal)
    ∧ quiescent_MergeOne (hMergeOne := hMergeOne)
    ∧ quiescent_MergeOneIdeal (hMergeOneIdeal := hMergeOneIdeal)
    ∧ quiescent_MergeOneRefIdeal (hMergeOneRefIdeal := hMergeOneRefIdeal)
    ∧ preserves_Attn_AttnIdeal
    ∧ algebraic_AttnIdeal_AttnRefIdeal_pre_finite (hAttnIdeal := hAttnIdeal) (hAttnRefIdeal := hAttnRefIdeal) (hPre_finite := hPre_finite)
    ∧ preserves_Up_UpIdeal
    ∧ algebraic_UpIdeal_UpRefIdeal (hUpIdeal := hUpIdeal) (hUpRefIdeal := hUpRefIdeal) (hPre_experts_up := hPre_experts_up)
    ∧ preserves_Down_DownIdeal
    ∧ algebraic_DownIdeal_DownRefIdeal (hDownIdeal := hDownIdeal) (hDownRefIdeal := hDownRefIdeal) (hPre_experts_down := hPre_experts_down)
    ∧ preserves_InProj_InProjIdeal
    ∧ algebraic_InProjIdeal_InRefIdeal (hInProjIdeal := hInProjIdeal) (hInRefIdeal := hInRefIdeal)
    ∧ preserves_Merge_MergeIdeal
    ∧ algebraic_MergeIdeal_MergeRefIdeal (hMergeIdeal := hMergeIdeal) (hMergeRefIdeal := hMergeRefIdeal)
    ∧ preserves_MergeOne_MergeOneIdeal
    ∧ algebraic_MergeOneIdeal_MergeOneRefIdeal (hMergeOneIdeal := hMergeOneIdeal) (hMergeOneRefIdeal := hMergeOneRefIdeal)
-- ==== Pre_experts_down.lean ====
abbrev S74 : Shape := ⟨1, ![74]⟩
abbrev S1 : Shape := ⟨1, ![1]⟩
abbrev S37888x5632 : Shape := ⟨2, ![37888, 5632]⟩
abbrev S16x5632x2048 : Shape := ⟨3, ![16, 5632, 2048]⟩
abbrev S_ : Shape := ⟨0, ![]⟩

class Facts : Prop where
  bcast_S_S74 : S_.BroadcastsInDim S74 (![] : Fin 0 → Fin S74.rank)

variable [Facts]

def fn {F : FTy → Type} [FloatOps F] (main_arg0 : IVec S74 32) (main_arg1 : IVec S1 32) (main_arg2 : FVec F S37888x5632 .bf16) (main_arg3 : FVec F S16x5632x2048 .f32) : IVec S74 1 :=
  let main_c : IVec S_ 32 := constantI S_ 32 0#32
  let main_v0 : IVec S74 32 := broadcastInDim S74 ![] bcast_S_S74 main_c
  let main_v1 : IVec S74 1 := cmpi .sge main_arg0 main_v0
  let main_c_0 : IVec S_ 32 := constantI S_ 32 16#32
  let main_v2 : IVec S74 32 := broadcastInDim S74 ![] bcast_S_S74 main_c_0
  let main_v3 : IVec S74 1 := cmpi .slt main_arg0 main_v2
  let main_v4 : IVec S74 1 := andi main_v1 main_v3
  main_v4
-- ==== Pre_experts_up.lean ====
abbrev S37 : Shape := ⟨1, ![37]⟩
abbrev S1 : Shape := ⟨1, ![1]⟩
abbrev S37888x2048 : Shape := ⟨2, ![37888, 2048]⟩
abbrev S16x2048x5632 : Shape := ⟨3, ![16, 2048, 5632]⟩
abbrev S_ : Shape := ⟨0, ![]⟩

class Facts : Prop where
  bcast_S_S37 : S_.BroadcastsInDim S37 (![] : Fin 0 → Fin S37.rank)

variable [Facts]

def fn {F : FTy → Type} [FloatOps F] (main_arg0 : IVec S37 32) (main_arg1 : IVec S1 32) (main_arg2 : FVec F S37888x2048 .bf16) (main_arg3 : FVec F S16x2048x5632 .f32) (main_arg4 : FVec F S16x2048x5632 .f32) : IVec S37 1 :=
  let main_c : IVec S_ 32 := constantI S_ 32 0#32
  let main_v0 : IVec S37 32 := broadcastInDim S37 ![] bcast_S_S37 main_c
  let main_v1 : IVec S37 1 := cmpi .sge main_arg0 main_v0
  let main_c_0 : IVec S_ 32 := constantI S_ 32 16#32
  let main_v2 : IVec S37 32 := broadcastInDim S37 ![] bcast_S_S37 main_c_0
  let main_v3 : IVec S37 1 := cmpi .slt main_arg0 main_v2
  let main_v4 : IVec S37 1 := andi main_v1 main_v3
  main_v4
-- ==== Pre_finite.lean ====
abbrev S4x8192x1024 : Shape := ⟨3, ![4, 8192, 1024]⟩
abbrev S4x256x10752 : Shape := ⟨3, ![4, 256, 10752]⟩
abbrev S2x4x8192x1024 : Shape := ⟨4, ![2, 4, 8192, 1024]⟩
abbrev S4x8192x10752 : Shape := ⟨3, ![4, 8192, 10752]⟩
abbrev S4x64 : Shape := ⟨2, ![4, 64]⟩
abbrev S1x128 : Shape := ⟨2, ![1, 128]⟩
abbrev S_ : Shape := ⟨0, ![]⟩
abbrev S4x256x2048 : Shape := ⟨3, ![4, 256, 2048]⟩
abbrev S1x4x8192x1024 : Shape := ⟨4, ![1, 4, 8192, 1024]⟩

class Facts : Prop where
  bitsLt_bf16_f32 : FTy.bits .bf16 < FTy.bits .f32
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  slices_S4x256x10752_S4x256x2048_0_0_7168 : S4x256x10752.Slices ![0, 0, 7168] S4x256x2048
  bcast_S_S4x256x2048 : S_.BroadcastsInDim S4x256x2048 (![] : Fin 0 → Fin S4x256x2048.rank)
  reducesTo_S4x256x2048_S_d0_1_2 : S4x256x2048.ReducesTo [0, 1, 2] S_
  slices_S2x4x8192x1024_S1x4x8192x1024_1_0_0_0 : S2x4x8192x1024.Slices ![1, 0, 0, 0] S1x4x8192x1024
  shapeCasts_S1x4x8192x1024_S4x8192x1024 : S1x4x8192x1024.ShapeCasts S4x8192x1024
  slices_S4x8192x10752_S4x8192x1024_0_0_8192 : S4x8192x10752.Slices ![0, 0, 8192] S4x8192x1024
  bcast_S_S4x64 : S_.BroadcastsInDim S4x64 (![] : Fin 0 → Fin S4x64.rank)
  reducesTo_S4x64_S_d0_1 : S4x64.ReducesTo [0, 1] S_
  reducesTo_S_S_d : S_.ReducesTo [] S_

variable [Facts]

def fn_part1 {F : FTy → Type} [FloatOps F] (main_arg3 : FVec F S4x8192x10752 .bf16) (main_arg4 : FVec F S4x64 .f32) (main_arg6 : FVec F S_ .f32) (main_v11 : IVec S_ 1) (main_v17 : IVec S4x8192x1024 1) (main_c_3 : IVec S_ 1) : IVec S_ 1 :=
  let main_v18 : IVec S_ 1 := (fun x v => Host.reduce IntOp.andi x v reducesTo_S4x8192x1024_S_d0_1_2 h_S_) main_v17 main_c_3
  let main_v19 : IVec S_ 1 := andi main_v11 main_v18
  let main_v20 : FVec F S4x8192x1024 .bf16 := (extractStridedSlice S4x8192x1024 ![0, 0, 8192] · slices_S4x8192x10752_S4x8192x1024_0_0_8192) main_arg3
  let main_v21 : FVec F S4x8192x1024 .f32 := (extf .f32 · bitsLt_bf16_f32) main_v20
  let main_v22 : FVec F S4x8192x1024 .f32 := Host.absf main_v21
  let main_cst_4 : FVec F S_ .f32 := constant S_ .f32 0x7F800000#32
  let main_v23 : FVec F S4x8192x1024 .f32 := broadcastInDim S4x8192x1024 ![] bcast_S_S4x8192x1024 main_cst_4
  let main_v24 : IVec S4x8192x1024 1 := cmpf .olt main_v22 main_v23
  let main_c_5 : IVec S_ 1 := constantI S_ 1 1#1
  let main_v25 : IVec S_ 1 := (fun x v => Host.reduce IntOp.andi x v reducesTo_S4x8192x1024_S_d0_1_2 h_S_) main_v24 main_c_5
  let main_v26 : IVec S_ 1 := andi main_v19 main_v25
  let main_v27 : FVec F S4x64 .f32 := Host.absf main_arg4
  let main_cst_6 : FVec F S_ .f32 := constant S_ .f32 0x7F800000#32
  let main_v28 : FVec F S4x64 .f32 := broadcastInDim S4x64 ![] bcast_S_S4x64 main_cst_6
  let main_v29 : IVec S4x64 1 := cmpf .olt main_v27 main_v28
  let main_c_7 : IVec S_ 1 := constantI S_ 1 1#1
  let main_v30 : IVec S_ 1 := (fun x v => Host.reduce IntOp.andi x v reducesTo_S4x64_S_d0_1 h_S_) main_v29 main_c_7
  let main_v31 : IVec S_ 1 := andi main_v26 main_v30
  let main_v32 : FVec F S_ .f32 := Host.absf main_arg6
  let main_cst_8 : FVec F S_ .f32 := constant S_ .f32 0x7F800000#32
  let main_v33 : IVec S_ 1 := cmpf .olt main_v32 main_cst_8
  let main_c_9 : IVec S_ 1 := constantI S_ 1 1#1
  let main_v34 : IVec S_ 1 := (fun x v => Host.reduce IntOp.andi x v reducesTo_S_S_d h_S_) main_v33 main_c_9
  let main_v35 : IVec S_ 1 := andi main_v31 main_v34
  main_v35

def fn {F : FTy → Type} [FloatOps F] (main_arg0 : FVec F S4x8192x1024 .bf16) (main_arg1 : FVec F S4x256x10752 .bf16) (main_arg2 : FVec F S2x4x8192x1024 .bf16) (main_arg3 : FVec F S4x8192x10752 .bf16) (main_arg4 : FVec F S4x64 .f32) (main_arg5 : FVec F S1x128 .f32) (main_arg6 : FVec F S_ .f32) : IVec S_ 1 :=
  let main_v0 : FVec F S4x8192x1024 .f32 := (extf .f32 · bitsLt_bf16_f32) main_arg0
  let main_v1 : FVec F S4x8192x1024 .f32 := Host.absf main_v0
  let main_cst : FVec F S_ .f32 := constant S_ .f32 0x7F800000#32
  let main_v2 : FVec F S4x8192x1024 .f32 := broadcastInDim S4x8192x1024 ![] bcast_S_S4x8192x1024 main_cst
  let main_v3 : IVec S4x8192x1024 1 := cmpf .olt main_v1 main_v2
  let main_c : IVec S_ 1 := constantI S_ 1 1#1
  let main_v4 : IVec S_ 1 := (fun x v => Host.reduce IntOp.andi x v reducesTo_S4x8192x1024_S_d0_1_2 h_S_) main_v3 main_c
  let main_v5 : FVec F S4x256x2048 .bf16 := (extractStridedSlice S4x256x2048 ![0, 0, 7168] · slices_S4x256x10752_S4x256x2048_0_0_7168) main_arg1
  let main_v6 : FVec F S4x256x2048 .f32 := (extf .f32 · bitsLt_bf16_f32) main_v5
  let main_v7 : FVec F S4x256x2048 .f32 := Host.absf main_v6
  let main_cst_0 : FVec F S_ .f32 := constant S_ .f32 0x7F800000#32
  let main_v8 : FVec F S4x256x2048 .f32 := broadcastInDim S4x256x2048 ![] bcast_S_S4x256x2048 main_cst_0
  let main_v9 : IVec S4x256x2048 1 := cmpf .olt main_v7 main_v8
  let main_c_1 : IVec S_ 1 := constantI S_ 1 1#1
  let main_v10 : IVec S_ 1 := (fun x v => Host.reduce IntOp.andi x v reducesTo_S4x256x2048_S_d0_1_2 h_S_) main_v9 main_c_1
  let main_v11 : IVec S_ 1 := andi main_v4 main_v10
  let main_v12 : FVec F S1x4x8192x1024 .bf16 := (extractStridedSlice S1x4x8192x1024 ![1, 0, 0, 0] · slices_S2x4x8192x1024_S1x4x8192x1024_1_0_0_0) main_arg2
  let main_v13 : FVec F S4x8192x1024 .bf16 := shapeCast S4x8192x1024 main_v12 shapeCasts_S1x4x8192x1024_S4x8192x1024
  let main_v14 : FVec F S4x8192x1024 .f32 := (extf .f32 · bitsLt_bf16_f32) main_v13
  let main_v15 : FVec F S4x8192x1024 .f32 := Host.absf main_v14
  let main_cst_2 : FVec F S_ .f32 := constant S_ .f32 0x7F800000#32
  let main_v16 : FVec F S4x8192x1024 .f32 := broadcastInDim S4x8192x1024 ![] bcast_S_S4x8192x1024 main_cst_2
  let main_v17 : IVec S4x8192x1024 1 := cmpf .olt main_v15 main_v16
  let main_c_3 : IVec S_ 1 := constantI S_ 1 1#1
  fn_part1 (F := F) main_arg3 main_arg4 main_arg6 main_v11 main_v17 main_c_3
-- ==== Attn.lean ====
abbrev S4x8192x1024 : Shape := ⟨3, ![4, 8192, 1024]⟩
abbrev S4x256x10752 : Shape := ⟨3, ![4, 256, 10752]⟩
abbrev S2x4x8192x1024 : Shape := ⟨4, ![2, 4, 8192, 1024]⟩
abbrev S4x8192x10752 : Shape := ⟨3, ![4, 8192, 10752]⟩
abbrev S4x64 : Shape := ⟨2, ![4, 64]⟩
abbrev S1x128 : Shape := ⟨2, ![1, 128]⟩
abbrev S_ : Shape := ⟨0, ![]⟩
abbrev S1x1024x128 : Shape := ⟨3, ![1, 1024, 128]⟩
abbrev S1x256x128 : Shape := ⟨3, ![1, 256, 128]⟩
abbrev S1x1x8192x128 : Shape := ⟨4, ![1, 1, 8192, 128]⟩
abbrev S1x8192x128 : Shape := ⟨3, ![1, 8192, 128]⟩
abbrev S2048x128 : Shape := ⟨2, ![2048, 128]⟩
abbrev S8448x256 : Shape := ⟨2, ![8448, 256]⟩
abbrev S256x128 : Shape := ⟨2, ![256, 128]⟩
abbrev S8192x128 : Shape := ⟨2, ![8192, 128]⟩
abbrev S1024x128 : Shape := ⟨2, ![1024, 128]⟩
abbrev S1x1x256x128 : Shape := ⟨4, ![1, 1, 256, 128]⟩
abbrev S2048x1 : Shape := ⟨2, ![2048, 1]⟩
abbrev S2048x256 : Shape := ⟨2, ![2048, 256]⟩
abbrev S2048 : Shape := ⟨1, ![2048]⟩
abbrev S256x256 : Shape := ⟨2, ![256, 256]⟩
abbrev S1x64 : Shape := ⟨2, ![1, 64]⟩
abbrev S1 : Shape := ⟨1, ![1]⟩
abbrev S1x1 : Shape := ⟨2, ![1, 1]⟩
abbrev S1024 : Shape := ⟨1, ![1024]⟩
abbrev S1024x1 : Shape := ⟨2, ![1024, 1]⟩

abbrev nBuf : Space → Nat
  | .hbm => 9
  | .vmem => 17
  | .smem => 0
  | _ => 0

abbrev bufTy : (tb : Table) → Fin (tcTables nBuf tb) → BufTy
  | .hbm, ⟨0, _⟩ => ⟨S4x8192x1024, .bf16⟩
  | .hbm, ⟨1, _⟩ => ⟨S4x256x10752, .bf16⟩
  | .hbm, ⟨2, _⟩ => ⟨S2x4x8192x1024, .bf16⟩
  | .hbm, ⟨3, _⟩ => ⟨S4x8192x10752, .bf16⟩
  | .hbm, ⟨4, _⟩ => ⟨S4x64, .f32⟩
  | .hbm, ⟨5, _⟩ => ⟨S1x128, .f32⟩
  | .hbm, ⟨6, _⟩ => ⟨S_, .f32⟩
  | .hbm, ⟨7, _⟩ => ⟨S1x128, .f32⟩
  | .hbm, ⟨8, _⟩ => ⟨S4x8192x1024, .bf16⟩
  | .local _ .vmem, ⟨0, _⟩ => ⟨S1x1024x128, .bf16⟩
  | .local _ .vmem, ⟨1, _⟩ => ⟨S1x1024x128, .bf16⟩
  | .local _ .vmem, ⟨2, _⟩ => ⟨S1x256x128, .bf16⟩
  | .local _ .vmem, ⟨3, _⟩ => ⟨S1x256x128, .bf16⟩
  | .local _ .vmem, ⟨4, _⟩ => ⟨S1x256x128, .bf16⟩
  | .local _ .vmem, ⟨5, _⟩ => ⟨S1x256x128, .bf16⟩
  | .local _ .vmem, ⟨6, _⟩ => ⟨S1x1x8192x128, .bf16⟩
  | .local _ .vmem, ⟨7, _⟩ => ⟨S1x1x8192x128, .bf16⟩
  | .local _ .vmem, ⟨8, _⟩ => ⟨S1x8192x128, .bf16⟩
  | .local _ .vmem, ⟨9, _⟩ => ⟨S1x8192x128, .bf16⟩
  | .local _ .vmem, ⟨10, _⟩ => ⟨S4x64, .f32⟩
  | .local _ .vmem, ⟨11, _⟩ => ⟨S1x128, .f32⟩
  | .local _ .vmem, ⟨12, _⟩ => ⟨S1x128, .f32⟩
  | .local _ .vmem, ⟨13, _⟩ => ⟨S1x1024x128, .bf16⟩
  | .local _ .vmem, ⟨14, _⟩ => ⟨S1x1024x128, .bf16⟩
  | .local _ .vmem, ⟨15, _⟩ => ⟨S2048x128, .bf16⟩
  | .local _ .vmem, ⟨16, _⟩ => ⟨S8448x256, .bf16⟩
  | _, _ => ⟨S4x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨3, ![4, 8, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c56_i32 : BitVec 32 := 56#32
  let v0 : BitVec 32 := Scalar.addi c56_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg1
  let c0_i32 : BitVec 32 := 0#32
  let c0_i32_0 : BitVec 32 := 0#32
  ![arg0.toNat, c0_i32.toNat, v0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg1
  let c0_i32 : BitVec 32 := 0#32
  let c0_i32_0 : BitVec 32 := 0#32
  ![arg0.toNat, c0_i32.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S4x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== AttnRefIdeal.lean ====
abbrev S4x8192x1024 : Shape := ⟨3, ![4, 8192, 1024]⟩
abbrev S4x256x10752 : Shape := ⟨3, ![4, 256, 10752]⟩
abbrev S2x4x8192x1024 : Shape := ⟨4, ![2, 4, 8192, 1024]⟩
abbrev S4x8192x10752 : Shape := ⟨3, ![4, 8192, 10752]⟩
abbrev S4x64 : Shape := ⟨2, ![4, 64]⟩
abbrev S1x128 : Shape := ⟨2, ![1, 128]⟩
abbrev S_ : Shape := ⟨0, ![]⟩
abbrev S4x256x1024 : Shape := ⟨3, ![4, 256, 1024]⟩
abbrev S1x4x8192x1024 : Shape := ⟨4, ![1, 4, 8192, 1024]⟩
abbrev S4x8448x1024 : Shape := ⟨3, ![4, 8448, 1024]⟩
abbrev S4x8192x16x64 : Shape := ⟨4, ![4, 8192, 16, 64]⟩
abbrev S4x16x8192x64 : Shape := ⟨4, ![4, 16, 8192, 64]⟩
abbrev S4x8448x16x64 : Shape := ⟨4, ![4, 8448, 16, 64]⟩
abbrev S4x16x8448x64 : Shape := ⟨4, ![4, 16, 8448, 64]⟩
abbrev S4x8448x8x128 : Shape := ⟨4, ![4, 8448, 8, 128]⟩
abbrev S4x8x8448x128 : Shape := ⟨4, ![4, 8, 8448, 128]⟩
abbrev S1x64 : Shape := ⟨2, ![1, 64]⟩
abbrev S64 : Shape := ⟨1, ![64]⟩
abbrev S4x16x8192x8448 : Shape := ⟨4, ![4, 16, 8192, 8448]⟩
abbrev S4x16x8192 : Shape := ⟨3, ![4, 16, 8192]⟩
abbrev S4x16x8192x1 : Shape := ⟨4, ![4, 16, 8192, 1]⟩
abbrev S4x8x2x8192x8448 : Shape := ⟨5, ![4, 8, 2, 8192, 8448]⟩
abbrev S4x8x1x8192x8448 : Shape := ⟨5, ![4, 8, 1, 8192, 8448]⟩
abbrev S4x8x8192x8448 : Shape := ⟨4, ![4, 8, 8192, 8448]⟩
abbrev S4x8x8192x128 : Shape := ⟨4, ![4, 8, 8192, 128]⟩
abbrev S128 : Shape := ⟨1, ![128]⟩
abbrev S4x8x8192 : Shape := ⟨3, ![4, 8, 8192]⟩
abbrev S4x8x8192x1 : Shape := ⟨4, ![4, 8, 8192, 1]⟩
abbrev S1x1x1x128 : Shape := ⟨4, ![1, 1, 1, 128]⟩
abbrev S4x8192x8x128 : Shape := ⟨4, ![4, 8192, 8, 128]⟩

abbrev nBuf : Space → Nat
  | .hbm => 95
  | .vmem => 0
  | .smem => 0
  | _ => 0

abbrev bufTy : (tb : Table) → Fin (tcTables nBuf tb) → BufTy
  | .hbm, ⟨0, _⟩ => ⟨S4x8192x1024, .bf16⟩
  | .hbm, ⟨1, _⟩ => ⟨S4x256x10752, .bf16⟩
  | .hbm, ⟨2, _⟩ => ⟨S2x4x8192x1024, .bf16⟩
  | .hbm, ⟨3, _⟩ => ⟨S4x8192x10752, .bf16⟩
  | .hbm, ⟨4, _⟩ => ⟨S4x64, .f32⟩
  | .hbm, ⟨5, _⟩ => ⟨S1x128, .f32⟩
  | .hbm, ⟨6, _⟩ => ⟨S_, .f32⟩
  | .hbm, ⟨7, _⟩ => ⟨S4x256x1024, .bf16⟩
  | .hbm, ⟨8, _⟩ => ⟨S1x4x8192x1024, .bf16⟩
  | .hbm, ⟨9, _⟩ => ⟨S4x8192x1024, .bf16⟩
  | .hbm, ⟨10, _⟩ => ⟨S4x8448x1024, .bf16⟩
  | .hbm, ⟨11, _⟩ => ⟨S4x256x1024, .bf16⟩
  | .hbm, ⟨12, _⟩ => ⟨S4x8192x1024, .bf16⟩
  | .hbm, ⟨13, _⟩ => ⟨S4x8448x1024, .bf16⟩
  | .hbm, ⟨14, _⟩ => ⟨S4x8192x16x64, .bf16⟩
  | .hbm, ⟨15, _⟩ => ⟨S4x16x8192x64, .bf16⟩
  | .hbm, ⟨16, _⟩ => ⟨S4x8448x16x64, .bf16⟩
  | .hbm, ⟨17, _⟩ => ⟨S4x16x8448x64, .bf16⟩
  | .hbm, ⟨18, _⟩ => ⟨S4x8448x8x128, .bf16⟩
  | .hbm, ⟨19, _⟩ => ⟨S4x8x8448x128, .bf16⟩
  | .hbm, ⟨20, _⟩ => ⟨S1x64, .f32⟩
  | .hbm, ⟨21, _⟩ => ⟨S64, .f32⟩
  | .hbm, ⟨22, _⟩ => ⟨S1x64, .f32⟩
  | .hbm, ⟨23, _⟩ => ⟨S64, .f32⟩
  | .hbm, ⟨24, _⟩ => ⟨S64, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S1x64, .f32⟩
  | .hbm, ⟨29, _⟩ => ⟨S64, .f32⟩
  | .hbm, ⟨30, _⟩ => ⟨S1x64, .f32⟩
  | .hbm, ⟨31, _⟩ => ⟨S64, .f32⟩
  | .hbm, ⟨32, _⟩ => ⟨S64, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S4x16x8192x8448, .f32⟩
  | .hbm, ⟨39, _⟩ => ⟨S_, .f32⟩
  | .hbm, ⟨40, _⟩ => ⟨S_, .f32⟩
  | .hbm, ⟨41, _⟩ => ⟨S4x16x8192x8448, .f32⟩
  | .hbm, ⟨42, _⟩ => ⟨S4x16x8192x8448, .f32⟩
  | .hbm, ⟨43, _⟩ => ⟨S_, .f32⟩
  | .hbm, ⟨44, _⟩ => ⟨S4x16x8192, .f32⟩
  | .hbm, ⟨45, _⟩ => ⟨S_, .f32⟩
  | .hbm, ⟨46, _⟩ => ⟨S4x16x8192, .f32⟩
  | .hbm, ⟨47, _⟩ => ⟨S4x16x8192, .f32⟩
  | .hbm, ⟨48, _⟩ => ⟨S4x16x8192x1, .f32⟩
  | .hbm, ⟨49, _⟩ => ⟨S4x16x8192x8448, .f32⟩
  | .hbm, ⟨50, _⟩ => ⟨S4x16x8192x8448, .f32⟩
  | .hbm, ⟨51, _⟩ => ⟨S4x16x8192x8448, .f32⟩
  | .hbm, ⟨52, _⟩ => ⟨S_, .f32⟩
  | .hbm, ⟨53, _⟩ => ⟨S4x16x8192, .f32⟩
  | .hbm, ⟨54, _⟩ => ⟨S4x16x8192x1, .f32⟩
  | .hbm, ⟨55, _⟩ => ⟨S4x16x8192x8448, .f32⟩
  | .hbm, ⟨56, _⟩ => ⟨S4x16x8192x8448, .f32⟩
  | .hbm, ⟨57, _⟩ => ⟨S4x8x2x8192x8448, .f32⟩
  | .hbm, ⟨58, _⟩ => ⟨S4x8x1x8192x8448, .f32⟩
  | .hbm, ⟨59, _⟩ => ⟨S4x8x8192x8448, .f32⟩
  | .hbm, ⟨60, _⟩ => ⟨S4x8x1x8192x8448, .f32⟩
  | .hbm, ⟨61, _⟩ => ⟨S4x8x8192x8448, .f32⟩
  | .hbm, ⟨62, _⟩ => ⟨S4x8x8192x8448, .f32⟩
  | .hbm, ⟨63, _⟩ => ⟨S4x8x8192x8448, .f32⟩
  | .hbm, ⟨64, _⟩ => ⟨S4x8x8192x8448, .f32⟩
  | .hbm, ⟨65, _⟩ => ⟨S4x8x8192x8448, .bf16⟩
  | .hbm, ⟨66, _⟩ => ⟨S4x8x8192x128, .f32⟩
  | .hbm, ⟨67, _⟩ => ⟨S4x8x8192x128, .bf16⟩
  | .hbm, ⟨68, _⟩ => ⟨S128, .f32⟩
  | .hbm, ⟨69, _⟩ => ⟨S4x8x8192x128, .f32⟩
  | .hbm, ⟨70, _⟩ => ⟨S4x8x8192x128, .f32⟩
  | .hbm, ⟨71, _⟩ => ⟨S_, .f32⟩
  | .hbm, ⟨72, _⟩ => ⟨S4x8x8192, .f32⟩
  | .hbm, ⟨73, _⟩ => ⟨S4x8x8192x1, .f32⟩
  | .hbm, ⟨74, _⟩ => ⟨S_, .f32⟩
  | .hbm, ⟨75, _⟩ => ⟨S4x8x8192x1, .f32⟩
  | .hbm, ⟨76, _⟩ => ⟨S4x8x8192x1, .f32⟩
  | .hbm, ⟨77, _⟩ => ⟨S_, .f32⟩
  | .hbm, ⟨78, _⟩ => ⟨S4x8x8192x1, .f32⟩
  | .hbm, ⟨79, _⟩ => ⟨S4x8x8192x1, .f32⟩
  | .hbm, ⟨80, _⟩ => ⟨S4x8x8192x1, .f32⟩
  | .hbm, ⟨81, _⟩ => ⟨S4x8x8192x128, .f32⟩
  | .hbm, ⟨82, _⟩ => ⟨S4x8x8192x128, .f32⟩
  | .hbm, ⟨83, _⟩ => ⟨S1x1x1x128, .f32⟩
  | .hbm, ⟨84, _⟩ => ⟨S4x8x8192x128, .f32⟩
  | .hbm, ⟨85, _⟩ => ⟨S4x8x8192x128, .f32⟩
  | .hbm, ⟨86, _⟩ => ⟨S4x8x8192x128, .bf16⟩
  | .hbm, ⟨87, _⟩ => ⟨S4x8x8192x128, .f32⟩
  | .hbm, ⟨88, _⟩ => ⟨S_, .f32⟩
  | .hbm, ⟨89, _⟩ => ⟨S_, .f32⟩
  | .hbm, ⟨90, _⟩ => ⟨S4x8x8192x128, .f32⟩
  | .hbm, ⟨91, _⟩ => ⟨S4x8x8192x128, .f32⟩
  | .hbm, ⟨92, _⟩ => ⟨S4x8x8192x128, .bf16⟩
  | .hbm, ⟨93, _⟩ => ⟨S4x8192x8x128, .bf16⟩
  | .hbm, ⟨94, _⟩ => ⟨S4x8192x1024, .bf16⟩
  | _, _ => ⟨S4x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_0 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_1 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_2 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_4 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_5 : Ref sig .tc := ⟨.hbm, 71, rfl⟩
abbrev main_v58 : Ref sig .tc := ⟨.hbm, 72, rfl⟩
abbrev main_v59 : Ref sig .tc := ⟨.hbm, 73, rfl⟩
abbrev main_cst_6 : Ref sig .tc := ⟨.hbm, 74, rfl⟩
abbrev main_v60 : Ref sig .tc := ⟨.hbm, 75, rfl⟩
abbrev main_v61 : Ref sig .tc := ⟨.hbm, 76, rfl⟩
abbrev main_cst_7 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_cst_8 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩

abbrev nD : Nat := 1
abbrev τ : Topo := Topo.v7x

variable {F : FTy → Type} [FloatOps F]
-- ==== Up.lean ====
abbrev S37 : Shape := ⟨1, ![37]⟩
abbrev S1 : Shape := ⟨1, ![1]⟩
abbrev S37888x2048 : Shape := ⟨2, ![37888, 2048]⟩
abbrev S16x2048x5632 : Shape := ⟨3, ![16, 2048, 5632]⟩
abbrev S37888x5632 : Shape := ⟨2, ![37888, 5632]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 4
  | .vmem => 10
  | .smem => 2
  | _ => 0

abbrev bufTy : (tb : Table) → Fin (tcTables nBuf tb) → BufTy
  | .hbm, ⟨0, _⟩ => ⟨S37888x2048, .bf16⟩
  | .hbm, ⟨1, _⟩ => ⟨S16x2048x5632, .f32⟩
  | .hbm, ⟨2, _⟩ => ⟨S16x2048x5632, .f32⟩
  | .hbm, ⟨3, _⟩ => ⟨S37888x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1024x512, .bf16⟩
  | .local _ .vmem, ⟨7, _⟩ => ⟨S1024x512, .bf16⟩
  | .local _ .vmem, ⟨8, _⟩ => ⟨S2048x512, .bf16⟩
  | .local _ .vmem, ⟨9, _⟩ => ⟨S2048x512, .bf16⟩
  | .local _ .smem, ⟨0, _⟩ => ⟨S37, .i32⟩
  | .local _ .smem, ⟨1, _⟩ => ⟨S1, .i32⟩
  | _, _ => ⟨S37888x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 37], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v5 : BitVec 32 := Scalar.subi arg1 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg1 : BitVec 32 := BitVec.ofNat 32 (i 1).val
  let v1 : BitVec 1 := Scalar.cmpi .slt arg1 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg1 : BitVec 32 := BitVec.ofNat 32 (i 1).val
  let v1 : BitVec 1 := Scalar.cmpi .slt arg1 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let c0_i32 : BitVec 32 := 0#32
  let v2 : BitVec 32 := Scalar.maxsi v1 c0_i32
  let v3 : BitVec 32 := Scalar.minsi arg1 v2
  let c0_i32_0 : BitVec 32 := 0#32
  let c0_i32_1 : BitVec 32 := 0#32
  ![v3.toNat, c0_i32_0.toNat]

def cc0_transform_1 (k0_off1_inb : ∀ i : grid0.Coords, ∀ a, (k0_off1 i) a + S1.size a ≤ S37.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S37) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S37.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S37) ![v0.toNat] S1.size (k0_off1_inb i)) numel1_S1
  let c0_i32 : BitVec 32 := 0#32
  let c0_i32_0 : BitVec 32 := 0#32
  ![v1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpRefIdeal.lean ====
abbrev S37 : Shape := ⟨1, ![37]⟩
abbrev S1 : Shape := ⟨1, ![1]⟩
abbrev S37888x2048 : Shape := ⟨2, ![37888, 2048]⟩
abbrev S16x2048x5632 : Shape := ⟨3, ![16, 2048, 5632]⟩
abbrev S37x1024x2048 : Shape := ⟨3, ![37, 1024, 2048]⟩
abbrev S_ : Shape := ⟨0, ![]⟩
abbrev S37x1 : Shape := ⟨2, ![37, 1]⟩
abbrev S37x2048x5632 : Shape := ⟨3, ![37, 2048, 5632]⟩
abbrev S37x1024x5632 : Shape := ⟨3, ![37, 1024, 5632]⟩
abbrev S37x1x1 : Shape := ⟨3, ![37, 1, 1]⟩
abbrev S37888x5632 : Shape := ⟨2, ![37888, 5632]⟩

abbrev nBuf : Space → Nat
  | .hbm => 49
  | .vmem => 0
  | .smem => 0
  | _ => 0

abbrev bufTy : (tb : Table) → Fin (tcTables nBuf tb) → BufTy
  | .hbm, ⟨0, _⟩ => ⟨S37, .i32⟩
  | .hbm, ⟨1, _⟩ => ⟨S1, .i32⟩
  | .hbm, ⟨2, _⟩ => ⟨S37888x2048, .bf16⟩
  | .hbm, ⟨3, _⟩ => ⟨S16x2048x5632, .f32⟩
  | .hbm, ⟨4, _⟩ => ⟨S16x2048x5632, .f32⟩
  | .hbm, ⟨5, _⟩ => ⟨S37x1024x2048, .bf16⟩
  | .hbm, ⟨6, _⟩ => ⟨S37x1024x2048, .f32⟩
  | .hbm, ⟨7, _⟩ => ⟨S_, .i32⟩
  | .hbm, ⟨8, _⟩ => ⟨S37, .i32⟩
  | .hbm, ⟨9, _⟩ => ⟨S37, .i1⟩
  | .hbm, ⟨10, _⟩ => ⟨S_, .i32⟩
  | .hbm, ⟨11, _⟩ => ⟨S37, .i32⟩
  | .hbm, ⟨12, _⟩ => ⟨S37, .i32⟩
  | .hbm, ⟨13, _⟩ => ⟨S37, .i32⟩
  | .hbm, ⟨14, _⟩ => ⟨S37x1, .i32⟩
  | .hbm, ⟨15, _⟩ => ⟨S37x2048x5632, .f32⟩
  | .hbm, ⟨16, _⟩ => ⟨S37x1024x5632, .f32⟩
  | .hbm, ⟨17, _⟩ => ⟨S37x1024x2048, .f32⟩
  | .hbm, ⟨18, _⟩ => ⟨S_, .i32⟩
  | .hbm, ⟨19, _⟩ => ⟨S37, .i32⟩
  | .hbm, ⟨20, _⟩ => ⟨S37, .i1⟩
  | .hbm, ⟨21, _⟩ => ⟨S_, .i32⟩
  | .hbm, ⟨22, _⟩ => ⟨S37, .i32⟩
  | .hbm, ⟨23, _⟩ => ⟨S37, .i32⟩
  | .hbm, ⟨24, _⟩ => ⟨S37, .i32⟩
  | .hbm, ⟨25, _⟩ => ⟨S37x1, .i32⟩
  | .hbm, ⟨26, _⟩ => ⟨S37x2048x5632, .f32⟩
  | .hbm, ⟨27, _⟩ => ⟨S37x1024x5632, .f32⟩
  | .hbm, ⟨28, _⟩ => ⟨S37x1024x5632, .f32⟩
  | .hbm, ⟨29, _⟩ => ⟨S37x1024x5632, .f32⟩
  | .hbm, ⟨30, _⟩ => ⟨S_, .f32⟩
  | .hbm, ⟨31, _⟩ => ⟨S37x1024x5632, .f32⟩
  | .hbm, ⟨32, _⟩ => ⟨S37x1024x5632, .f32⟩
  | .hbm, ⟨33, _⟩ => ⟨S_, .f32⟩
  | .hbm, ⟨34, _⟩ => ⟨S37x1024x5632, .f32⟩
  | .hbm, ⟨35, _⟩ => ⟨S37x1024x5632, .f32⟩
  | .hbm, ⟨36, _⟩ => ⟨S37x1024x5632, .f32⟩
  | .hbm, ⟨37, _⟩ => ⟨S37x1024x5632, .f32⟩
  | .hbm, ⟨38, _⟩ => ⟨S37x1024x5632, .bf16⟩
  | .hbm, ⟨39, _⟩ => ⟨S37, .i32⟩
  | .hbm, ⟨40, _⟩ => ⟨S_, .i32⟩
  | .hbm, ⟨41, _⟩ => ⟨S37, .i32⟩
  | .hbm, ⟨42, _⟩ => ⟨S37, .i1⟩
  | .hbm, ⟨43, _⟩ => ⟨S37x1x1, .i1⟩
  | .hbm, ⟨44, _⟩ => ⟨S37x1024x5632, .i1⟩
  | .hbm, ⟨45, _⟩ => ⟨S_, .bf16⟩
  | .hbm, ⟨46, _⟩ => ⟨S37x1024x5632, .bf16⟩
  | .hbm, ⟨47, _⟩ => ⟨S37x1024x5632, .bf16⟩
  | .hbm, ⟨48, _⟩ => ⟨S37888x5632, .bf16⟩
  | _, _ => ⟨S37, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Down.lean ====
abbrev S74 : Shape := ⟨1, ![74]⟩
abbrev S1 : Shape := ⟨1, ![1]⟩
abbrev S37888x5632 : Shape := ⟨2, ![37888, 5632]⟩
abbrev S16x5632x2048 : Shape := ⟨3, ![16, 5632, 2048]⟩
abbrev S37888x2048 : Shape := ⟨2, ![37888, 2048]⟩
abbrev S512x5632 : Shape := ⟨2, ![512, 5632]⟩
abbrev S1x5632x1024 : Shape := ⟨3, ![1, 5632, 1024]⟩
abbrev S512x1024 : Shape := ⟨2, ![512, 1024]⟩
abbrev S5632x1024 : Shape := ⟨2, ![5632, 1024]⟩

abbrev nBuf : Space → Nat
  | .hbm => 3
  | .vmem => 6
  | .smem => 2
  | _ => 0

abbrev bufTy : (tb : Table) → Fin (tcTables nBuf tb) → BufTy
  | .hbm, ⟨0, _⟩ => ⟨S37888x5632, .bf16⟩
  | .hbm, ⟨1, _⟩ => ⟨S16x5632x2048, .f32⟩
  | .hbm, ⟨2, _⟩ => ⟨S37888x2048, .bf16⟩
  | .local _ .vmem, ⟨0, _⟩ => ⟨S512x5632, .bf16⟩
  | .local _ .vmem, ⟨1, _⟩ => ⟨S512x5632, .bf16⟩
  | .local _ .vmem, ⟨2, _⟩ => ⟨S1x5632x1024, .f32⟩
  | .local _ .vmem, ⟨3, _⟩ => ⟨S512x1024, .bf16⟩
  | .local _ .vmem, ⟨4, _⟩ => ⟨S512x1024, .bf16⟩
  | .local _ .vmem, ⟨5, _⟩ => ⟨S5632x1024, .bf16⟩
  | .local _ .smem, ⟨0, _⟩ => ⟨S74, .i32⟩
  | .local _ .smem, ⟨1, _⟩ => ⟨S1, .i32⟩
  | _, _ => ⟨S37888x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_v0 : Ref sig .tc := ⟨.hbm, 2, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 74], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v5 : BitVec 32 := Scalar.subi arg1 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg1 : BitVec 32 := BitVec.ofNat 32 (i 1).val
  let v1 : BitVec 1 := Scalar.cmpi .slt arg1 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg1 : BitVec 32 := BitVec.ofNat 32 (i 1).val
  let v1 : BitVec 1 := Scalar.cmpi .slt arg1 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let c0_i32 : BitVec 32 := 0#32
  let v2 : BitVec 32 := Scalar.maxsi v1 c0_i32
  let v3 : BitVec 32 := Scalar.minsi arg1 v2
  let c0_i32_0 : BitVec 32 := 0#32
  let c0_i32_1 : BitVec 32 := 0#32
  ![v3.toNat, c0_i32_0.toNat]

def cc0_transform_1 (k0_off1_inb : ∀ i : grid0.Coords, ∀ a, (k0_off1 i) a + S1.size a ≤ S74.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S74) ![v0.toNat] S1.size (k0_off1_inb i)) numel1_S1
  let c0_i32 : BitVec 32 := 0#32
  let c0_i32_0 : BitVec 32 := 0#32
  ![v1.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![v0.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x5632x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownRefIdeal.lean ====
abbrev S74 : Shape := ⟨1, ![74]⟩
abbrev S1 : Shape := ⟨1, ![1]⟩
abbrev S37888x5632 : Shape := ⟨2, ![37888, 5632]⟩
abbrev S16x5632x2048 : Shape := ⟨3, ![16, 5632, 2048]⟩
abbrev S74x512x5632 : Shape := ⟨3, ![74, 512, 5632]⟩
abbrev S_ : Shape := ⟨0, ![]⟩
abbrev S74x1 : Shape := ⟨2, ![74, 1]⟩
abbrev S74x5632x2048 : Shape := ⟨3, ![74, 5632, 2048]⟩
abbrev S74x512x2048 : Shape := ⟨3, ![74, 512, 2048]⟩
abbrev S74x1x1 : Shape := ⟨3, ![74, 1, 1]⟩
abbrev S37888x2048 : Shape := ⟨2, ![37888, 2048]⟩

abbrev nBuf : Space → Nat
  | .hbm => 27
  | .vmem => 0
  | .smem => 0
  | _ => 0

abbrev bufTy : (tb : Table) → Fin (tcTables nBuf tb) → BufTy
  | .hbm, ⟨0, _⟩ => ⟨S74, .i32⟩
  | .hbm, ⟨1, _⟩ => ⟨S1, .i32⟩
  | .hbm, ⟨2, _⟩ => ⟨S37888x5632, .bf16⟩
  | .hbm, ⟨3, _⟩ => ⟨S16x5632x2048, .f32⟩
  | .hbm, ⟨4, _⟩ => ⟨S74x512x5632, .bf16⟩
  | .hbm, ⟨5, _⟩ => ⟨S74x512x5632, .f32⟩
  | .hbm, ⟨6, _⟩ => ⟨S_, .i32⟩
  | .hbm, ⟨7, _⟩ => ⟨S74, .i32⟩
  | .hbm, ⟨8, _⟩ => ⟨S74, .i1⟩
  | .hbm, ⟨9, _⟩ => ⟨S_, .i32⟩
  | .hbm, ⟨10, _⟩ => ⟨S74, .i32⟩
  | .hbm, ⟨11, _⟩ => ⟨S74, .i32⟩
  | .hbm, ⟨12, _⟩ => ⟨S74, .i32⟩
  | .hbm, ⟨13, _⟩ => ⟨S74x1, .i32⟩
  | .hbm, ⟨14, _⟩ => ⟨S74x5632x2048, .f32⟩
  | .hbm, ⟨15, _⟩ => ⟨S74x512x2048, .f32⟩
  | .hbm, ⟨16, _⟩ => ⟨S74x512x2048, .bf16⟩
  | .hbm, ⟨17, _⟩ => ⟨S74, .i32⟩
  | .hbm, ⟨18, _⟩ => ⟨S_, .i32⟩
  | .hbm, ⟨19, _⟩ => ⟨S74, .i32⟩
  | .hbm, ⟨20, _⟩ => ⟨S74, .i1⟩
  | .hbm, ⟨21, _⟩ => ⟨S74x1x1, .i1⟩
  | .hbm, ⟨22, _⟩ => ⟨S74x512x2048, .i1⟩
  | .hbm, ⟨23, _⟩ => ⟨S_, .bf16⟩
  | .hbm, ⟨24, _⟩ => ⟨S74x512x2048, .bf16⟩
  | .hbm, ⟨25, _⟩ => ⟨S74x512x2048, .bf16⟩
  | .hbm, ⟨26, _⟩ => ⟨S37888x2048, .bf16⟩
  | _, _ => ⟨S74, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== InProj.lean ====
abbrev S32768x2048 : Shape := ⟨2, ![32768, 2048]⟩
abbrev S1x2048 : Shape := ⟨2, ![1, 2048]⟩
abbrev S4x6x2048 : Shape := ⟨3, ![4, 6, 2048]⟩
abbrev S2048x10752 : Shape := ⟨2, ![2048, 10752]⟩
abbrev S32768x10752 : Shape := ⟨2, ![32768, 10752]⟩
abbrev S1024x2048 : Shape := ⟨2, ![1024, 2048]⟩
abbrev S1x6x2048 : Shape := ⟨3, ![1, 6, 2048]⟩
abbrev S2048x1536 : Shape := ⟨2, ![2048, 1536]⟩
abbrev S1024x1536 : Shape := ⟨2, ![1024, 1536]⟩
abbrev S6x2048 : Shape := ⟨2, ![6, 2048]⟩
abbrev S1024 : Shape := ⟨1, ![1024]⟩
abbrev S1024x1 : Shape := ⟨2, ![1024, 1]⟩

abbrev nBuf : Space → Nat
  | .hbm => 5
  | .vmem => 10
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S4x6x2048, .f32⟩
  | .hbm, ⟨3, _⟩ => ⟨S2048x10752, .bf16⟩
  | .hbm, ⟨4, _⟩ => ⟨S32768x10752, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x6x2048, .f32⟩
  | .local _ .vmem, ⟨4, _⟩ => ⟨S1x6x2048, .f32⟩
  | .local _ .vmem, ⟨5, _⟩ => ⟨S2048x1536, .bf16⟩
  | .local _ .vmem, ⟨6, _⟩ => ⟨S2048x1536, .bf16⟩
  | .local _ .vmem, ⟨7, _⟩ => ⟨S1024x1536, .bf16⟩
  | .local _ .vmem, ⟨8, _⟩ => ⟨S1024x1536, .bf16⟩
  | .local _ .vmem, ⟨9, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InRefIdeal.lean ====
abbrev S32768x2048 : Shape := ⟨2, ![32768, 2048]⟩
abbrev S1x2048 : Shape := ⟨2, ![1, 2048]⟩
abbrev S4x6x2048 : Shape := ⟨3, ![4, 6, 2048]⟩
abbrev S2048x10752 : Shape := ⟨2, ![2048, 10752]⟩
abbrev S4x8192x2048 : Shape := ⟨3, ![4, 8192, 2048]⟩
abbrev S_ : Shape := ⟨0, ![]⟩
abbrev S4x8192 : Shape := ⟨2, ![4, 8192]⟩
abbrev S4x8192x1 : Shape := ⟨3, ![4, 8192, 1]⟩
abbrev S2048 : Shape := ⟨1, ![2048]⟩
abbrev S1x1x2048 : Shape := ⟨3, ![1, 1, 2048]⟩
abbrev S4x1x2048 : Shape := ⟨3, ![4, 1, 2048]⟩
abbrev S4x8192x10752 : Shape := ⟨3, ![4, 8192, 10752]⟩
abbrev S32768x10752 : Shape := ⟨2, ![32768, 10752]⟩

abbrev nBuf : Space → Nat
  | .hbm => 35
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S4x6x2048, .f32⟩
  | .hbm, ⟨3, _⟩ => ⟨S2048x10752, .bf16⟩
  | .hbm, ⟨4, _⟩ => ⟨S4x8192x2048, .f32⟩
  | .hbm, ⟨5, _⟩ => ⟨S4x8192x2048, .f32⟩
  | .hbm, ⟨6, _⟩ => ⟨S_, .f32⟩
  | .hbm, ⟨7, _⟩ => ⟨S4x8192, .f32⟩
  | .hbm, ⟨8, _⟩ => ⟨S4x8192x1, .f32⟩
  | .hbm, ⟨9, _⟩ => ⟨S_, .f32⟩
  | .hbm, ⟨10, _⟩ => ⟨S4x8192x1, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S4x8192x1, .f32⟩
  | .hbm, ⟨16, _⟩ => ⟨S4x8192x2048, .f32⟩
  | .hbm, ⟨17, _⟩ => ⟨S4x8192x2048, .f32⟩
  | .hbm, ⟨18, _⟩ => ⟨S2048, .f32⟩
  | .hbm, ⟨19, _⟩ => ⟨S1x1x2048, .f32⟩
  | .hbm, ⟨20, _⟩ => ⟨S4x8192x2048, .f32⟩
  | .hbm, ⟨21, _⟩ => ⟨S4x8192x2048, .f32⟩
  | .hbm, ⟨22, _⟩ => ⟨S4x1x2048, .f32⟩
  | .hbm, ⟨23, _⟩ => ⟨S_, .f32⟩
  | .hbm, ⟨24, _⟩ => ⟨S4x1x2048, .f32⟩
  | .hbm, ⟨25, _⟩ => ⟨S4x1x2048, .f32⟩
  | .hbm, ⟨26, _⟩ => ⟨S4x8192x2048, .f32⟩
  | .hbm, ⟨27, _⟩ => ⟨S4x8192x2048, .f32⟩
  | .hbm, ⟨28, _⟩ => ⟨S4x1x2048, .f32⟩
  | .hbm, ⟨29, _⟩ => ⟨S4x8192x2048, .f32⟩
  | .hbm, ⟨30, _⟩ => ⟨S4x8192x2048, .f32⟩
  | .hbm, ⟨31, _⟩ => ⟨S2048x10752, .f32⟩
  | .hbm, ⟨32, _⟩ => ⟨S4x8192x10752, .f32⟩
  | .hbm, ⟨33, _⟩ => ⟨S4x8192x10752, .bf16⟩
  | .hbm, ⟨34, _⟩ => ⟨S32768x10752, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== Merge.lean ====
abbrev S32768x10752 : Shape := ⟨2, ![32768, 10752]⟩
abbrev S32768x512 : Shape := ⟨2, ![32768, 512]⟩
abbrev S32768x1024 : Shape := ⟨2, ![32768, 1024]⟩
abbrev S32768x2048 : Shape := ⟨2, ![32768, 2048]⟩
abbrev S1x6144 : Shape := ⟨2, ![1, 6144]⟩
abbrev S512x2048 : Shape := ⟨2, ![512, 2048]⟩
abbrev S1024x2048 : Shape := ⟨2, ![1024, 2048]⟩
abbrev S2048x2048 : Shape := ⟨2, ![2048, 2048]⟩
abbrev S1x2048 : Shape := ⟨2, ![1, 2048]⟩
abbrev S4x6x2048 : Shape := ⟨3, ![4, 6, 2048]⟩
abbrev S256x2048 : Shape := ⟨2, ![256, 2048]⟩
abbrev S256x512 : Shape := ⟨2, ![256, 512]⟩
abbrev S256x1024 : Shape := ⟨2, ![256, 1024]⟩
abbrev S1x6x2048 : Shape := ⟨3, ![1, 6, 2048]⟩
abbrev S6x2048 : Shape := ⟨2, ![6, 2048]⟩
abbrev S256 : Shape := ⟨1, ![256]⟩
abbrev S256x1 : Shape := ⟨2, ![256, 1]⟩

abbrev nBuf : Space → Nat
  | .hbm => 15
  | .vmem => 27
  | .smem => 0
  | _ => 0

abbrev bufTy : (tb : Table) → Fin (tcTables nBuf tb) → BufTy
  | .hbm, ⟨0, _⟩ => ⟨S32768x10752, .bf16⟩
  | .hbm, ⟨1, _⟩ => ⟨S32768x512, .f32⟩
  | .hbm, ⟨2, _⟩ => ⟨S32768x512, .bf16⟩
  | .hbm, ⟨3, _⟩ => ⟨S32768x1024, .bf16⟩
  | .hbm, ⟨4, _⟩ => ⟨S32768x2048, .f32⟩
  | .hbm, ⟨5, _⟩ => ⟨S1x6144, .f32⟩
  | .hbm, ⟨6, _⟩ => ⟨S512x2048, .bf16⟩
  | .hbm, ⟨7, _⟩ => ⟨S512x2048, .bf16⟩
  | .hbm, ⟨8, _⟩ => ⟨S1024x2048, .bf16⟩
  | .hbm, ⟨9, _⟩ => ⟨S2048x2048, .bf16⟩
  | .hbm, ⟨10, _⟩ => ⟨S1x2048, .f32⟩
  | .hbm, ⟨11, _⟩ => ⟨S4x6x2048, .f32⟩
  | .hbm, ⟨12, _⟩ => ⟨S1x2048, .f32⟩
  | .hbm, ⟨13, _⟩ => ⟨S32768x2048, .f32⟩
  | .hbm, ⟨14, _⟩ => ⟨S32768x2048, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x512, .f32⟩
  | .local _ .vmem, ⟨7, _⟩ => ⟨S256x512, .f32⟩
  | .local _ .vmem, ⟨8, _⟩ => ⟨S256x512, .bf16⟩
  | .local _ .vmem, ⟨9, _⟩ => ⟨S256x512, .bf16⟩
  | .local _ .vmem, ⟨10, _⟩ => ⟨S256x1024, .bf16⟩
  | .local _ .vmem, ⟨11, _⟩ => ⟨S256x1024, .bf16⟩
  | .local _ .vmem, ⟨12, _⟩ => ⟨S256x2048, .f32⟩
  | .local _ .vmem, ⟨13, _⟩ => ⟨S256x2048, .f32⟩
  | .local _ .vmem, ⟨14, _⟩ => ⟨S1x6144, .f32⟩
  | .local _ .vmem, ⟨15, _⟩ => ⟨S512x2048, .bf16⟩
  | .local _ .vmem, ⟨16, _⟩ => ⟨S512x2048, .bf16⟩
  | .local _ .vmem, ⟨17, _⟩ => ⟨S1024x2048, .bf16⟩
  | .local _ .vmem, ⟨18, _⟩ => ⟨S2048x2048, .bf16⟩
  | .local _ .vmem, ⟨19, _⟩ => ⟨S1x2048, .f32⟩
  | .local _ .vmem, ⟨20, _⟩ => ⟨S1x6x2048, .f32⟩
  | .local _ .vmem, ⟨21, _⟩ => ⟨S1x6x2048, .f32⟩
  | .local _ .vmem, ⟨22, _⟩ => ⟨S1x2048, .f32⟩
  | .local _ .vmem, ⟨23, _⟩ => ⟨S256x2048, .f32⟩
  | .local _ .vmem, ⟨24, _⟩ => ⟨S256x2048, .f32⟩
  | .local _ .vmem, ⟨25, _⟩ => ⟨S256x2048, .bf16⟩
  | .local _ .vmem, ⟨26, _⟩ => ⟨S256x2048, .bf16⟩
  | _, _ => ⟨S32768x10752, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem15_0 : DmaSem sig := 23
abbrev cc0_sem15_1 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x6144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1x6x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MergeRefIdeal.lean ====
abbrev S32768x10752 : Shape := ⟨2, ![32768, 10752]⟩
abbrev S32768x512 : Shape := ⟨2, ![32768, 512]⟩
abbrev S32768x1024 : Shape := ⟨2, ![32768, 1024]⟩
abbrev S32768x2048 : Shape := ⟨2, ![32768, 2048]⟩
abbrev S1x6144 : Shape := ⟨2, ![1, 6144]⟩
abbrev S512x2048 : Shape := ⟨2, ![512, 2048]⟩
abbrev S1024x2048 : Shape := ⟨2, ![1024, 2048]⟩
abbrev S2048x2048 : Shape := ⟨2, ![2048, 2048]⟩
abbrev S1x2048 : Shape := ⟨2, ![1, 2048]⟩
abbrev S4x6x2048 : Shape := ⟨3, ![4, 6, 2048]⟩
abbrev S32768x6144 : Shape := ⟨2, ![32768, 6144]⟩
abbrev S6144 : Shape := ⟨1, ![6144]⟩
abbrev S_ : Shape := ⟨0, ![]⟩
abbrev S32768 : Shape := ⟨1, ![32768]⟩
abbrev S32768x1 : Shape := ⟨2, ![32768, 1]⟩
abbrev S2048 : Shape := ⟨1, ![2048]⟩
abbrev S4x8192x2048 : Shape := ⟨3, ![4, 8192, 2048]⟩
abbrev S4x1x2048 : Shape := ⟨3, ![4, 1, 2048]⟩
abbrev S4x8192 : Shape := ⟨2, ![4, 8192]⟩
abbrev S4x8192x1 : Shape := ⟨3, ![4, 8192, 1]⟩
abbrev S1x1x2048 : Shape := ⟨3, ![1, 1, 2048]⟩

abbrev nBuf : Space → Nat
  | .hbm => 97
  | .vmem => 0
  | .smem => 0
  | _ => 0

abbrev bufTy : (tb : Table) → Fin (tcTables nBuf tb) → BufTy
  | .hbm, ⟨0, _⟩ => ⟨S32768x10752, .bf16⟩
  | .hbm, ⟨1, _⟩ => ⟨S32768x512, .f32⟩
  | .hbm, ⟨2, _⟩ => ⟨S32768x512, .bf16⟩
  | .hbm, ⟨3, _⟩ => ⟨S32768x1024, .bf16⟩
  | .hbm, ⟨4, _⟩ => ⟨S32768x2048, .f32⟩
  | .hbm, ⟨5, _⟩ => ⟨S1x6144, .f32⟩
  | .hbm, ⟨6, _⟩ => ⟨S512x2048, .bf16⟩
  | .hbm, ⟨7, _⟩ => ⟨S512x2048, .bf16⟩
  | .hbm, ⟨8, _⟩ => ⟨S1024x2048, .bf16⟩
  | .hbm, ⟨9, _⟩ => ⟨S2048x2048, .bf16⟩
  | .hbm, ⟨10, _⟩ => ⟨S1x2048, .f32⟩
  | .hbm, ⟨11, _⟩ => ⟨S4x6x2048, .f32⟩
  | .hbm, ⟨12, _⟩ => ⟨S1x2048, .f32⟩
  | .hbm, ⟨13, _⟩ => ⟨S32768x6144, .bf16⟩
  | .hbm, ⟨14, _⟩ => ⟨S32768x6144, .f32⟩
  | .hbm, ⟨15, _⟩ => ⟨S6144, .f32⟩
  | .hbm, ⟨16, _⟩ => ⟨S1x6144, .f32⟩
  | .hbm, ⟨17, _⟩ => ⟨S32768x6144, .f32⟩
  | .hbm, ⟨18, _⟩ => ⟨S32768x6144, .f32⟩
  | .hbm, ⟨19, _⟩ => ⟨S32768x6144, .f32⟩
  | .hbm, ⟨20, _⟩ => ⟨S32768x6144, .f32⟩
  | .hbm, ⟨21, _⟩ => ⟨S_, .f32⟩
  | .hbm, ⟨22, _⟩ => ⟨S32768x6144, .f32⟩
  | .hbm, ⟨23, _⟩ => ⟨S32768x6144, .f32⟩
  | .hbm, ⟨24, _⟩ => ⟨S_, .f32⟩
  | .hbm, ⟨25, _⟩ => ⟨S32768x6144, .f32⟩
  | .hbm, ⟨26, _⟩ => ⟨S32768x6144, .f32⟩
  | .hbm, ⟨27, _⟩ => ⟨S32768x2048, .f32⟩
  | .hbm, ⟨28, _⟩ => ⟨S512x2048, .f32⟩
  | .hbm, ⟨29, _⟩ => ⟨S32768x2048, .f32⟩
  | .hbm, ⟨30, _⟩ => ⟨S32768x2048, .f32⟩
  | .hbm, ⟨31, _⟩ => ⟨S32768x2048, .f32⟩
  | .hbm, ⟨32, _⟩ => ⟨S32768x512, .f32⟩
  | .hbm, ⟨33, _⟩ => ⟨S512x2048, .f32⟩
  | .hbm, ⟨34, _⟩ => ⟨S32768x2048, .f32⟩
  | .hbm, ⟨35, _⟩ => ⟨S32768x2048, .f32⟩
  | .hbm, ⟨36, _⟩ => ⟨S32768x2048, .f32⟩
  | .hbm, ⟨37, _⟩ => ⟨S32768x2048, .f32⟩
  | .hbm, ⟨38, _⟩ => ⟨S32768x1024, .f32⟩
  | .hbm, ⟨39, _⟩ => ⟨S1024x2048, .f32⟩
  | .hbm, ⟨40, _⟩ => ⟨S32768x2048, .f32⟩
  | .hbm, ⟨41, _⟩ => ⟨S32768x2048, .f32⟩
  | .hbm, ⟨42, _⟩ => ⟨S32768x2048, .f32⟩
  | .hbm, ⟨43, _⟩ => ⟨S2048x2048, .f32⟩
  | .hbm, ⟨44, _⟩ => ⟨S32768x2048, .f32⟩
  | .hbm, ⟨45, _⟩ => ⟨S32768x2048, .f32⟩
  | .hbm, ⟨46, _⟩ => ⟨S_, .f32⟩
  | .hbm, ⟨47, _⟩ => ⟨S32768, .f32⟩
  | .hbm, ⟨48, _⟩ => ⟨S32768x1, .f32⟩
  | .hbm, ⟨49, _⟩ => ⟨S_, .f32⟩
  | .hbm, ⟨50, _⟩ => ⟨S32768x1, .f32⟩
  | .hbm, ⟨51, _⟩ => ⟨S32768x1, .f32⟩
  | .hbm, ⟨52, _⟩ => ⟨S_, .f32⟩
  | .hbm, ⟨53, _⟩ => ⟨S32768x1, .f32⟩
  | .hbm, ⟨54, _⟩ => ⟨S32768x1, .f32⟩
  | .hbm, ⟨55, _⟩ => ⟨S32768x1, .f32⟩
  | .hbm, ⟨56, _⟩ => ⟨S32768x2048, .f32⟩
  | .hbm, ⟨57, _⟩ => ⟨S32768x2048, .f32⟩
  | .hbm, ⟨58, _⟩ => ⟨S2048, .f32⟩
  | .hbm, ⟨59, _⟩ => ⟨S1x2048, .f32⟩
  | .hbm, ⟨60, _⟩ => ⟨S32768x2048, .f32⟩
  | .hbm, ⟨61, _⟩ => ⟨S32768x2048, .f32⟩
  | .hbm, ⟨62, _⟩ => ⟨S4x8192x2048, .f32⟩
  | .hbm, ⟨63, _⟩ => ⟨S4x1x2048, .f32⟩
  | .hbm, ⟨64, _⟩ => ⟨S4x8192x2048, .f32⟩
  | .hbm, ⟨65, _⟩ => ⟨S4x8192x2048, .f32⟩
  | .hbm, ⟨66, _⟩ => ⟨S4x8192x2048, .f32⟩
  | .hbm, ⟨67, _⟩ => ⟨S4x8192x2048, .f32⟩
  | .hbm, ⟨68, _⟩ => ⟨S4x8192x2048, .f32⟩
  | .hbm, ⟨69, _⟩ => ⟨S_, .f32⟩
  | .hbm, ⟨70, _⟩ => ⟨S4x8192, .f32⟩
  | .hbm, ⟨71, _⟩ => ⟨S4x8192x1, .f32⟩
  | .hbm, ⟨72, _⟩ => ⟨S_, .f32⟩
  | .hbm, ⟨73, _⟩ => ⟨S4x8192x1, .f32⟩
  | .hbm, ⟨74, _⟩ => ⟨S4x8192x1, .f32⟩
  | .hbm, ⟨75, _⟩ => ⟨S_, .f32⟩
  | .hbm, ⟨76, _⟩ => ⟨S4x8192x1, .f32⟩
  | .hbm, ⟨77, _⟩ => ⟨S4x8192x1, .f32⟩
  | .hbm, ⟨78, _⟩ => ⟨S4x8192x1, .f32⟩
  | .hbm, ⟨79, _⟩ => ⟨S4x8192x2048, .f32⟩
  | .hbm, ⟨80, _⟩ => ⟨S4x8192x2048, .f32⟩
  | .hbm, ⟨81, _⟩ => ⟨S2048, .f32⟩
  | .hbm, ⟨82, _⟩ => ⟨S1x1x2048, .f32⟩
  | .hbm, ⟨83, _⟩ => ⟨S4x8192x2048, .f32⟩
  | .hbm, ⟨84, _⟩ => ⟨S4x8192x2048, .f32⟩
  | .hbm, ⟨85, _⟩ => ⟨S4x1x2048, .f32⟩
  | .hbm, ⟨86, _⟩ => ⟨S_, .f32⟩
  | .hbm, ⟨87, _⟩ => ⟨S4x1x2048, .f32⟩
  | .hbm, ⟨88, _⟩ => ⟨S4x1x2048, .f32⟩
  | .hbm, ⟨89, _⟩ => ⟨S4x8192x2048, .f32⟩
  | .hbm, ⟨90, _⟩ => ⟨S4x8192x2048, .f32⟩
  | .hbm, ⟨91, _⟩ => ⟨S4x1x2048, .f32⟩
  | .hbm, ⟨92, _⟩ => ⟨S4x8192x2048, .f32⟩
  | .hbm, ⟨93, _⟩ => ⟨S4x8192x2048, .f32⟩
  | .hbm, ⟨94, _⟩ => ⟨S32768x2048, .f32⟩
  | .hbm, ⟨95, _⟩ => ⟨S4x8192x2048, .bf16⟩
  | .hbm, ⟨96, _⟩ => ⟨S32768x2048, .bf16⟩
  | _, _ => ⟨S32768x10752, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_1 : Ref sig .tc := ⟨.hbm, 46, rfl⟩
abbrev main_v31 : Ref sig .tc := ⟨.hbm, 47, rfl⟩
abbrev main_v32 : Ref sig .tc := ⟨.hbm, 48, rfl⟩
abbrev main_cst_2 : Ref sig .tc := ⟨.hbm, 49, rfl⟩
abbrev main_v33 : Ref sig .tc := ⟨.hbm, 50, rfl⟩
abbrev main_v34 : Ref sig .tc := ⟨.hbm, 51, rfl⟩
abbrev main_cst_3 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_4 : Ref sig .tc := ⟨.hbm, 69, rfl⟩
abbrev main_v51 : Ref sig .tc := ⟨.hbm, 70, rfl⟩
abbrev main_v52 : Ref sig .tc := ⟨.hbm, 71, rfl⟩
abbrev main_cst_5 : Ref sig .tc := ⟨.hbm, 72, rfl⟩
abbrev main_v53 : Ref sig .tc := ⟨.hbm, 73, rfl⟩
abbrev main_v54 : Ref sig .tc := ⟨.hbm, 74, rfl⟩
abbrev main_cst_6 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_7 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩

abbrev nD : Nat := 1
abbrev τ : Topo := Topo.v7x

variable {F : FTy → Type} [FloatOps F]
-- ==== MergeOne.lean ====
abbrev S32768x10752 : Shape := ⟨2, ![32768, 10752]⟩
abbrev S32768x512 : Shape := ⟨2, ![32768, 512]⟩
abbrev S32768x1024 : Shape := ⟨2, ![32768, 1024]⟩
abbrev S32768x2048 : Shape := ⟨2, ![32768, 2048]⟩
abbrev S1x6144 : Shape := ⟨2, ![1, 6144]⟩
abbrev S512x2048 : Shape := ⟨2, ![512, 2048]⟩
abbrev S1024x2048 : Shape := ⟨2, ![1024, 2048]⟩
abbrev S2048x2048 : Shape := ⟨2, ![2048, 2048]⟩
abbrev S1x2048 : Shape := ⟨2, ![1, 2048]⟩
abbrev S4x6x2048 : Shape := ⟨3, ![4, 6, 2048]⟩
abbrev S256x2048 : Shape := ⟨2, ![256, 2048]⟩
abbrev S256x512 : Shape := ⟨2, ![256, 512]⟩
abbrev S256x1024 : Shape := ⟨2, ![256, 1024]⟩
abbrev S1x6x2048 : Shape := ⟨3, ![1, 6, 2048]⟩
abbrev S6x2048 : Shape := ⟨2, ![6, 2048]⟩
abbrev S256 : Shape := ⟨1, ![256]⟩
abbrev S256x1 : Shape := ⟨2, ![256, 1]⟩

abbrev nBuf : Space → Nat
  | .hbm => 13
  | .vmem => 24
  | .smem => 0
  | _ => 0

abbrev bufTy : (tb : Table) → Fin (tcTables nBuf tb) → BufTy
  | .hbm, ⟨0, _⟩ => ⟨S32768x10752, .bf16⟩
  | .hbm, ⟨1, _⟩ => ⟨S32768x512, .f32⟩
  | .hbm, ⟨2, _⟩ => ⟨S32768x512, .bf16⟩
  | .hbm, ⟨3, _⟩ => ⟨S32768x1024, .bf16⟩
  | .hbm, ⟨4, _⟩ => ⟨S32768x2048, .f32⟩
  | .hbm, ⟨5, _⟩ => ⟨S1x6144, .f32⟩
  | .hbm, ⟨6, _⟩ => ⟨S512x2048, .bf16⟩
  | .hbm, ⟨7, _⟩ => ⟨S512x2048, .bf16⟩
  | .hbm, ⟨8, _⟩ => ⟨S1024x2048, .bf16⟩
  | .hbm, ⟨9, _⟩ => ⟨S2048x2048, .bf16⟩
  | .hbm, ⟨10, _⟩ => ⟨S1x2048, .f32⟩
  | .hbm, ⟨11, _⟩ => ⟨S4x6x2048, .f32⟩
  | .hbm, ⟨12, _⟩ => ⟨S32768x2048, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x512, .f32⟩
  | .local _ .vmem, ⟨7, _⟩ => ⟨S256x512, .f32⟩
  | .local _ .vmem, ⟨8, _⟩ => ⟨S256x512, .bf16⟩
  | .local _ .vmem, ⟨9, _⟩ => ⟨S256x512, .bf16⟩
  | .local _ .vmem, ⟨10, _⟩ => ⟨S256x1024, .bf16⟩
  | .local _ .vmem, ⟨11, _⟩ => ⟨S256x1024, .bf16⟩
  | .local _ .vmem, ⟨12, _⟩ => ⟨S256x2048, .f32⟩
  | .local _ .vmem, ⟨13, _⟩ => ⟨S256x2048, .f32⟩
  | .local _ .vmem, ⟨14, _⟩ => ⟨S1x6144, .f32⟩
  | .local _ .vmem, ⟨15, _⟩ => ⟨S512x2048, .bf16⟩
  | .local _ .vmem, ⟨16, _⟩ => ⟨S512x2048, .bf16⟩
  | .local _ .vmem, ⟨17, _⟩ => ⟨S1024x2048, .bf16⟩
  | .local _ .vmem, ⟨18, _⟩ => ⟨S2048x2048, .bf16⟩
  | .local _ .vmem, ⟨19, _⟩ => ⟨S1x2048, .f32⟩
  | .local _ .vmem, ⟨20, _⟩ => ⟨S1x6x2048, .f32⟩
  | .local _ .vmem, ⟨21, _⟩ => ⟨S1x6x2048, .f32⟩
  | .local _ .vmem, ⟨22, _⟩ => ⟨S256x2048, .f32⟩
  | .local _ .vmem, ⟨23, _⟩ => ⟨S256x2048, .f32⟩
  | _, _ => ⟨S32768x10752, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x6144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1x6x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MergeOneRefIdeal.lean ====
abbrev S32768x10752 : Shape := ⟨2, ![32768, 10752]⟩
abbrev S32768x512 : Shape := ⟨2, ![32768, 512]⟩
abbrev S32768x1024 : Shape := ⟨2, ![32768, 1024]⟩
abbrev S32768x2048 : Shape := ⟨2, ![32768, 2048]⟩
abbrev S1x6144 : Shape := ⟨2, ![1, 6144]⟩
abbrev S512x2048 : Shape := ⟨2, ![512, 2048]⟩
abbrev S1024x2048 : Shape := ⟨2, ![1024, 2048]⟩
abbrev S2048x2048 : Shape := ⟨2, ![2048, 2048]⟩
abbrev S1x2048 : Shape := ⟨2, ![1, 2048]⟩
abbrev S4x6x2048 : Shape := ⟨3, ![4, 6, 2048]⟩
abbrev S32768x6144 : Shape := ⟨2, ![32768, 6144]⟩
abbrev S6144 : Shape := ⟨1, ![6144]⟩
abbrev S_ : Shape := ⟨0, ![]⟩
abbrev S32768 : Shape := ⟨1, ![32768]⟩
abbrev S32768x1 : Shape := ⟨2, ![32768, 1]⟩
abbrev S2048 : Shape := ⟨1, ![2048]⟩
abbrev S4x8192x2048 : Shape := ⟨3, ![4, 8192, 2048]⟩
abbrev S4x1x2048 : Shape := ⟨3, ![4, 1, 2048]⟩

abbrev nBuf : Space → Nat
  | .hbm => 68
  | .vmem => 0
  | .smem => 0
  | _ => 0

abbrev bufTy : (tb : Table) → Fin (tcTables nBuf tb) → BufTy
  | .hbm, ⟨0, _⟩ => ⟨S32768x10752, .bf16⟩
  | .hbm, ⟨1, _⟩ => ⟨S32768x512, .f32⟩
  | .hbm, ⟨2, _⟩ => ⟨S32768x512, .bf16⟩
  | .hbm, ⟨3, _⟩ => ⟨S32768x1024, .bf16⟩
  | .hbm, ⟨4, _⟩ => ⟨S32768x2048, .f32⟩
  | .hbm, ⟨5, _⟩ => ⟨S1x6144, .f32⟩
  | .hbm, ⟨6, _⟩ => ⟨S512x2048, .bf16⟩
  | .hbm, ⟨7, _⟩ => ⟨S512x2048, .bf16⟩
  | .hbm, ⟨8, _⟩ => ⟨S1024x2048, .bf16⟩
  | .hbm, ⟨9, _⟩ => ⟨S2048x2048, .bf16⟩
  | .hbm, ⟨10, _⟩ => ⟨S1x2048, .f32⟩
  | .hbm, ⟨11, _⟩ => ⟨S4x6x2048, .f32⟩
  | .hbm, ⟨12, _⟩ => ⟨S32768x6144, .bf16⟩
  | .hbm, ⟨13, _⟩ => ⟨S32768x6144, .f32⟩
  | .hbm, ⟨14, _⟩ => ⟨S6144, .f32⟩
  | .hbm, ⟨15, _⟩ => ⟨S1x6144, .f32⟩
  | .hbm, ⟨16, _⟩ => ⟨S32768x6144, .f32⟩
  | .hbm, ⟨17, _⟩ => ⟨S32768x6144, .f32⟩
  | .hbm, ⟨18, _⟩ => ⟨S32768x6144, .f32⟩
  | .hbm, ⟨19, _⟩ => ⟨S32768x6144, .f32⟩
  | .hbm, ⟨20, _⟩ => ⟨S_, .f32⟩
  | .hbm, ⟨21, _⟩ => ⟨S32768x6144, .f32⟩
  | .hbm, ⟨22, _⟩ => ⟨S32768x6144, .f32⟩
  | .hbm, ⟨23, _⟩ => ⟨S_, .f32⟩
  | .hbm, ⟨24, _⟩ => ⟨S32768x6144, .f32⟩
  | .hbm, ⟨25, _⟩ => ⟨S32768x6144, .f32⟩
  | .hbm, ⟨26, _⟩ => ⟨S32768x2048, .f32⟩
  | .hbm, ⟨27, _⟩ => ⟨S512x2048, .f32⟩
  | .hbm, ⟨28, _⟩ => ⟨S32768x2048, .f32⟩
  | .hbm, ⟨29, _⟩ => ⟨S32768x2048, .f32⟩
  | .hbm, ⟨30, _⟩ => ⟨S32768x2048, .f32⟩
  | .hbm, ⟨31, _⟩ => ⟨S32768x512, .f32⟩
  | .hbm, ⟨32, _⟩ => ⟨S512x2048, .f32⟩
  | .hbm, ⟨33, _⟩ => ⟨S32768x2048, .f32⟩
  | .hbm, ⟨34, _⟩ => ⟨S32768x2048, .f32⟩
  | .hbm, ⟨35, _⟩ => ⟨S32768x2048, .f32⟩
  | .hbm, ⟨36, _⟩ => ⟨S32768x2048, .f32⟩
  | .hbm, ⟨37, _⟩ => ⟨S32768x1024, .f32⟩
  | .hbm, ⟨38, _⟩ => ⟨S1024x2048, .f32⟩
  | .hbm, ⟨39, _⟩ => ⟨S32768x2048, .f32⟩
  | .hbm, ⟨40, _⟩ => ⟨S32768x2048, .f32⟩
  | .hbm, ⟨41, _⟩ => ⟨S32768x2048, .f32⟩
  | .hbm, ⟨42, _⟩ => ⟨S2048x2048, .f32⟩
  | .hbm, ⟨43, _⟩ => ⟨S32768x2048, .f32⟩
  | .hbm, ⟨44, _⟩ => ⟨S32768x2048, .f32⟩
  | .hbm, ⟨45, _⟩ => ⟨S_, .f32⟩
  | .hbm, ⟨46, _⟩ => ⟨S32768, .f32⟩
  | .hbm, ⟨47, _⟩ => ⟨S32768x1, .f32⟩
  | .hbm, ⟨48, _⟩ => ⟨S_, .f32⟩
  | .hbm, ⟨49, _⟩ => ⟨S32768x1, .f32⟩
  | .hbm, ⟨50, _⟩ => ⟨S32768x1, .f32⟩
  | .hbm, ⟨51, _⟩ => ⟨S_, .f32⟩
  | .hbm, ⟨52, _⟩ => ⟨S32768x1, .f32⟩
  | .hbm, ⟨53, _⟩ => ⟨S32768x1, .f32⟩
  | .hbm, ⟨54, _⟩ => ⟨S32768x1, .f32⟩
  | .hbm, ⟨55, _⟩ => ⟨S32768x2048, .f32⟩
  | .hbm, ⟨56, _⟩ => ⟨S32768x2048, .f32⟩
  | .hbm, ⟨57, _⟩ => ⟨S2048, .f32⟩
  | .hbm, ⟨58, _⟩ => ⟨S1x2048, .f32⟩
  | .hbm, ⟨59, _⟩ => ⟨S32768x2048, .f32⟩
  | .hbm, ⟨60, _⟩ => ⟨S32768x2048, .f32⟩
  | .hbm, ⟨61, _⟩ => ⟨S4x8192x2048, .f32⟩
  | .hbm, ⟨62, _⟩ => ⟨S4x1x2048, .f32⟩
  | .hbm, ⟨63, _⟩ => ⟨S4x8192x2048, .f32⟩
  | .hbm, ⟨64, _⟩ => ⟨S4x8192x2048, .f32⟩
  | .hbm, ⟨65, _⟩ => ⟨S4x8192x2048, .f32⟩
  | .hbm, ⟨66, _⟩ => ⟨S4x8192x2048, .f32⟩
  | .hbm, ⟨67, _⟩ => ⟨S32768x2048, .f32⟩
  | _, _ => ⟨S32768x10752, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_1 : Ref sig .tc := ⟨.hbm, 45, rfl⟩
abbrev main_v31 : Ref sig .tc := ⟨.hbm, 46, rfl⟩
abbrev main_v32 : Ref sig .tc := ⟨.hbm, 47, rfl⟩
abbrev main_cst_2 : Ref sig .tc := ⟨.hbm, 48, rfl⟩
abbrev main_v33 : Ref sig .tc := ⟨.hbm, 49, rfl⟩
abbrev main_v34 : Ref sig .tc := ⟨.hbm, 50, rfl⟩
abbrev main_cst_3 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩

abbrev nD : Nat := 1
abbrev τ : Topo := Topo.v7x

variable {F : FTy → Type} [FloatOps F]
-- ==== Proof.Attn.Block.lean ====
/-
The attention kernel's block at one grid point, as a loop over the key chunks.

A point holds 2048 rows of masked queries (1024 query rows, once per map of the pair of heads) and passes over 33 chunks
of 256 keys: one of the context, 32 of the latent sequence. `mst n` is the running row maximum after `n` chunks, `ast n`
the running weighted sum of the values next to the running sum of the weights. The theorem of this file, `block_eq`, says
that the block which a point leaves in the output is the closing step (`k0_pay132`) of `ast 33`.
-/
module
public import proofs.«01_k».proof.Proof.Gen.AttnIdeal.Value
public import Idealize.ShloMosaic.Lib.Pipeline.ValueKit
public import Idealize.ShloMosaic.Lib.Pipeline.ReadBack
public import Idealize.ShloMosaic.Lib.Pointwise
@[expose] public section
set_option maxRecDepth 16384
noncomputable section
namespace Cert.AttnIdeal.Val
open Cert.AttnIdeal Cert.AttnIdeal.Gen Idealize.ShloMosaic Idealize.ShloMosaic.TcCoe Idealize.SL.Sem Idealize.ShloMosaic.Pointwise

/-- The running maximum after one more chunk of keys `k`. -/
def mx (q : Vec Ideal S2048x128 .bf16) (k : FVec Ideal S256x128 .bf16) (m : FVec Ideal S2048x1 .f32) : FVec Ideal S2048x1 .f32 := k0_pay45 q k m

/-- The running sums after one more chunk of keys `k` with values `v`: the old sums are rescaled to the new maximum. -/
def ac (q : Vec Ideal S2048x128 .bf16) (k : FVec Ideal S256x128 .bf16) (v : FVec Ideal S256x256 .bf16) (m : FVec Ideal S2048x1 .f32)
    (a : FVec Ideal S2048x256 .f32) : FVec Ideal S2048x256 .f32 :=
  addf (mulf (broadcastTo S2048x256 (exp2 (subf m (mx q k m))) broadcasts_S2048x1_S2048x256) a)
    (matmul dot_S2048x256_S256x256_S2048x256_1_0_0_1_n_n none
      (truncf .bf16 (exp2 (subf (k0_pay44 q k) (broadcastTo S2048x256 (mx q k m) broadcasts_S2048x1_S2048x256))) bitsLt_bf16_f32)
      v (constant S2048x256 .f32 0x00000000#32))

/-- A sum of nothing added: the array of zeros. -/
def zeros : FVec Ideal S2048x256 .f32 := fun _ => 0

/-- The closing step takes the last sums in two halves; only their sum matters. -/
theorem tail_eq (a b : FVec Ideal S2048x256 .f32) (dl : Vec Ideal S4x64 .f32) (li g : Vec Ideal S1x128 .f32) :
    k0_pay132 a b dl li g = k0_pay132 (addf a b) zeros dl li g := by
  have h : addf (addf a b) zeros = addf a b := funext fun j => add_zero (addf a b j)
  unfold k0_pay132; rw [h]

section Groups
variable (q : Vec Ideal S2048x128 .bf16) (k₁ k₂ k₃ : FVec Ideal S256x128 .bf16) (m : FVec Ideal S2048x1 .f32)
  (a b : FVec Ideal S2048x256 .f32) (v₁ v₂ v₃ : Vec Ideal S256x256 .bf16)

/-- The program takes the chunks in groups of three. The maximum after the first group, -/
theorem gm0 : k0_pay49 q k₁ k₂ k₃ m = mx q k₃ (mx q k₂ (mx q k₁ m)) := rfl

/-- after a later one, -/
theorem gm1 : k0_pay57 q k₁ k₂ k₃ m = mx q k₃ (mx q k₂ (mx q k₁ m)) := rfl

/-- the sums after the first group, from zero, -/
theorem ga0 (z : Ideal .f32) : addf (k0_pay50 q k₁ k₂ k₃ m z v₁ v₂) (k0_pay51 q k₁ k₂ k₃ m v₃) =
    ac q k₃ v₃ (mx q k₂ (mx q k₁ m)) (ac q k₂ v₂ (mx q k₁ m) (ac q k₁ v₁ m (broadcast S2048x256 z))) := rfl

/-- and after a later one, from what the group before left. -/
theorem ga1 : addf (k0_pay58 q k₁ k₂ k₃ m a b v₁ v₂) (k0_pay59 q k₁ k₂ k₃ m v₃) =
    ac q k₃ v₃ (mx q k₂ (mx q k₁ m)) (ac q k₂ v₂ (mx q k₁ m) (ac q k₁ v₁ m (addf a b))) := rfl

/-- The later groups are one function of their operands: the maxima, -/
theorem sm : @k0_pay65 Ideal _ = k0_pay57 ∧ @k0_pay73 Ideal _ = k0_pay57 ∧ @k0_pay81 Ideal _ = k0_pay57 ∧ @k0_pay89 Ideal _ = k0_pay57 ∧
    @k0_pay97 Ideal _ = k0_pay57 ∧ @k0_pay105 Ideal _ = k0_pay57 ∧ @k0_pay113 Ideal _ = k0_pay57 ∧ @k0_pay121 Ideal _ = k0_pay57 ∧
    @k0_pay129 Ideal _ = k0_pay57 := ⟨rfl, rfl, rfl, rfl, rfl, rfl, rfl, rfl, rfl⟩

/-- the sums after two chunks, -/
theorem sa : @k0_pay66 Ideal _ = k0_pay58 ∧ @k0_pay74 Ideal _ = k0_pay58 ∧ @k0_pay82 Ideal _ = k0_pay58 ∧ @k0_pay90 Ideal _ = k0_pay58 ∧
    @k0_pay98 Ideal _ = k0_pay58 ∧ @k0_pay106 Ideal _ = k0_pay58 ∧ @k0_pay114 Ideal _ = k0_pay58 ∧ @k0_pay122 Ideal _ = k0_pay58 ∧
    @k0_pay130 Ideal _ = k0_pay58 := ⟨rfl, rfl, rfl, rfl, rfl, rfl, rfl, rfl, rfl⟩

/-- the third chunk's addend. -/
theorem sb : @k0_pay67 Ideal _ = k0_pay59 ∧ @k0_pay75 Ideal _ = k0_pay59 ∧ @k0_pay83 Ideal _ = k0_pay59 ∧ @k0_pay91 Ideal _ = k0_pay59 ∧
    @k0_pay99 Ideal _ = k0_pay59 ∧ @k0_pay107 Ideal _ = k0_pay59 ∧ @k0_pay115 Ideal _ = k0_pay59 ∧ @k0_pay123 Ideal _ = k0_pay59 ∧
    @k0_pay131 Ideal _ = k0_pay59 := ⟨rfl, rfl, rfl, rfl, rfl, rfl, rfl, rfl, rfl⟩
end Groups

/-- The masked queries of a point: its query block twice, stacked, each half with the other map's lanes set to zero. -/
def qOf (x₀ : Vec Ideal S1x1024x128 .bf16) : Vec Ideal S2048x128 .bf16 :=
  View.canon (Val := Elt Ideal) (s := S2048x128) (e := .bf16)
    [⟨Rect.unit ![1024, 0] ![1024, 128] inb_S2048x128_S1024x128_1024_0, k0_pay9 x₀⟩,
     ⟨Rect.unit ![0, 0] ![1024, 128] inb_S2048x128_S1024x128_0_0, k0_pay8 x₀⟩]

/-- 256 keys of the latent sequence from `off` on. -/
def keyAt (x₃ : Vec Ideal S1x1x8192x128 .bf16) (off : ℕ) : FVec Ideal S256x128 .bf16 :=
  fun j => x₃ (ix4 0 0 ⟨(off + (j 0).val) % 8192, Nat.mod_lt _ (by decide)⟩ (j 1))

/-- 256 rows, from `off` on, of the values stored next to a block of ones. -/
def vAt (X : Vec Ideal S8448x256 .bf16) (off : ℕ) : Vec Ideal S256x256 .bf16 :=
  fun j => X (ix2 ⟨(off + (j 0).val) % 8448, Nat.mod_lt _ (by decide)⟩ (j 1))

/-- The keys of chunk `n`: the context's, then the latent sequence's. -/
def keys (x₁ : Vec Ideal S1x256x128 .bf16) (x₃ : Vec Ideal S1x1x8192x128 .bf16) : ℕ → FVec Ideal S256x128 .bf16
  | 0 => k0_pay10 x₁
  | n + 1 => keyAt x₃ (256 * n)

/-- The running maximum after `n` chunks. -/
def mst (q : Vec Ideal S2048x128 .bf16) (K : ℕ → FVec Ideal S256x128 .bf16) : ℕ → FVec Ideal S2048x1 .f32
  | 0 => k0_pay43
  | n + 1 => mx q (K n) (mst q K n)

/-- The running sums after `n` chunks. -/
def ast (q : Vec Ideal S2048x128 .bf16) (K : ℕ → FVec Ideal S256x128 .bf16) (X : Vec Ideal S8448x256 .bf16) :
    ℕ → FVec Ideal S2048x256 .f32
  | 0 => broadcast S2048x256 (Scalar.ofBits .f32 0x00000000#32)
  | n + 1 => ac q (K n) (vAt X (256 * n)) (mst q K n) (ast q K X n)

/-- A load of 256 latent keys, under the shape the product takes it in. -/
theorem key_load (x₃ : Vec Ideal S1x1x8192x128 .bf16) (off : ℕ) (inb) :
    k0_pay11 (View.ld (Val := Elt Ideal) (e' := .bf16) x₃ (Rect.unit (s := S1x1x8192x128) ![0, 0, off, 0] ![1, 1, 256, 128] inb)) = keyAt x₃ off := by
  have h := inb 2
  simp only [Matrix.cons_val, S1x1x8192x128] at h
  funext j
  idx_vars j
  unfold keyAt k0_pay11
  pointwise
  have e : (off + j0.val) % 8192 = off + j0.val := Nat.mod_eq_of_lt (by have := j0.isLt; omega)
  simp only [e]

/-- A load of 256 rows of the stored values. -/
theorem v_load (X : Vec Ideal S8448x256 .bf16) (off : ℕ) (inb) :
    View.ld (Val := Elt Ideal) (e' := .bf16) X (Rect.unit (s := S8448x256) ![off, 0] ![256, 256] inb) = vAt X off := by
  have h := inb 0
  simp only [Matrix.cons_val, S8448x256] at h
  funext j
  refine View.ld_unit_apply_of X _ _ inb _ _ fun a => ?_
  have hj : (j 0).val < 256 := (j 0).isLt
  fin_cases a
  · show (off + (j 0).val) % 8448 = off + (j 0).val
    omega
  · show (j 1).val = 0 + (j 1).val
    omega

/-- The same load at a point that has just stored the values: it reads what the stores left. -/
theorem v_load' (L : List (View.Piece (Elt Ideal) S8448x256 .bf16)) (off : ℕ) (inb) :
    (View.whole cc0_scratch1).readCov L (Rect.unit (s := S8448x256) ![off, 0] ![256, 256] inb).toLoadRect = vAt (View.canon L) off :=
  (View.readCov_eq_canon' _ _ _).trans (v_load (View.canon L) off inb)

/-- The load of the masked queries, just stored. -/
theorem q_load (L : List (View.Piece (Elt Ideal) S2048x128 .bf16)) (inb) :
    (View.whole cc0_scratch0).readCov L (Rect.unit (s := S2048x128) ![0, 0] ![2048, 128] inb).toLoadRect = View.canon L :=
  (View.readCov_eq_canon' _ _ _).trans (View.ld_unit_zero (by decide) inb (View.canon L))

/-- The 32 loads of latent keys are cast by one function. -/
theorem key_pays :
    @k0_pay12 Ideal = k0_pay11 ∧ @k0_pay13 Ideal = k0_pay11 ∧ @k0_pay14 Ideal = k0_pay11 ∧ @k0_pay15 Ideal = k0_pay11 ∧
    @k0_pay16 Ideal = k0_pay11 ∧ @k0_pay17 Ideal = k0_pay11 ∧ @k0_pay18 Ideal = k0_pay11 ∧ @k0_pay19 Ideal = k0_pay11 ∧
    @k0_pay20 Ideal = k0_pay11 ∧ @k0_pay21 Ideal = k0_pay11 ∧ @k0_pay22 Ideal = k0_pay11 ∧ @k0_pay23 Ideal = k0_pay11 ∧
    @k0_pay24 Ideal = k0_pay11 ∧ @k0_pay25 Ideal = k0_pay11 ∧ @k0_pay26 Ideal = k0_pay11 ∧ @k0_pay27 Ideal = k0_pay11 ∧
    @k0_pay28 Ideal = k0_pay11 ∧ @k0_pay29 Ideal = k0_pay11 ∧ @k0_pay30 Ideal = k0_pay11 ∧ @k0_pay31 Ideal = k0_pay11 ∧
    @k0_pay32 Ideal = k0_pay11 ∧ @k0_pay33 Ideal = k0_pay11 ∧ @k0_pay34 Ideal = k0_pay11 ∧ @k0_pay35 Ideal = k0_pay11 ∧
    @k0_pay36 Ideal = k0_pay11 ∧ @k0_pay37 Ideal = k0_pay11 ∧ @k0_pay38 Ideal = k0_pay11 ∧ @k0_pay39 Ideal = k0_pay11 ∧
    @k0_pay40 Ideal = k0_pay11 ∧ @k0_pay41 Ideal = k0_pay11 ∧ @k0_pay42 Ideal = k0_pay11 :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

variable (m : (ℓ : Loc nD τ sig) → Buf (Elt Ideal) ℓ)

/-- **The block of one point**: the closing step of the sums over all 33 chunks. The values are read from the array that
the point holds (`(outsAt0 …).2`), whether it has stored it itself or has it from the point before. -/
theorem block_eq (c : Dev nD) (t : Fin cfg0.N) :
    (outsAt0 m c t.val t.isLt).1 = k0_pay1 (k0_pay132 (ast (qOf (iblk m c 0 t)) (keys (iblk m c 1 t) (iblk m c 3 t)) (outsAt0 m c t.val t.isLt).2 33)
      zeros (iblk m c 5 t) (iblk m c 7 t) (iblk m c 6 t)) := by
  have e : ∀ a b, k0_pay132 a b (iblk m c 5 t) (iblk m c 7 t) (iblk m c 6 t)
      = k0_pay132 (addf a b) zeros (iblk m c 5 t) (iblk m c 7 t) (iblk m c 6 t) := fun a b => tail_eq a b _ _ _
  have hq : View.canon (Val := Elt Ideal) (s := S2048x128) (e := .bf16)
      [⟨Rect.unit ![1024, 0] ![1024, 128] inb_S2048x128_S1024x128_1024_0, k0_pay9 (iblk m c 0 t)⟩,
        ⟨Rect.unit ![0, 0] ![1024, 128] inb_S2048x128_S1024x128_0_0, k0_pay8 (iblk m c 0 t)⟩] = qOf (iblk m c 0 t) := rfl
  generalize hQ : qOf (iblk m c 0 t) = Q at *
  by_cases h : t.val % 8 = 0
  · rw [outsAt0_A m c t h]
    frame_out
    rw [e]
    simp only [v_load', q_load, hq, key_pays, key_load, sm, sa, sb, gm0, gm1, ga0, ga1]
    simp only [ast, mst, keys, Nat.reduceMul, Nat.mul_zero]
  · rw [outsAt0_B m c t h]
    frame_out
    rw [e]
    simp only [read_unread_whole, v_load, q_load, hq, key_pays, key_load, sm, sa, sb, gm0, gm1, ga0, ga1]
    simp only [ast, mst, keys, Nat.reduceMul, Nat.mul_zero]
    rfl
end Cert.AttnIdeal.Val
end
end
-- ==== Proof.Attn.Scratch.lean ====
/-
The values that a point of the attention kernel holds, and what the input blocks of a point are.

The first of the eight query blocks of a (batch, head) pair stores the pair's values, context first, next to columns of
ones; the other seven keep them. `held_eq` says that at every point the held array is that of the point's own batch and
head.
-/
module
public import proofs.«01_k».proof.Proof.Attn.Block
@[expose] public section
set_option maxRecDepth 16384
noncomputable section
namespace Cert.AttnIdeal.Val
open Cert.AttnIdeal Cert.AttnIdeal.Gen Idealize.ShloMosaic Idealize.ShloMosaic.TcCoe Idealize.SL.Sem Idealize.ShloMosaic.Pointwise

/-- The block that each window is on at point `t`: batch `t / 64`, pair of heads `t / 8 % 8`, query block `t % 8`. -/
theorem idx (t : Fin cfg0.N) :
    win0_0.index t = ![t.val / 64, t.val % 8, t.val / 8 % 8] ∧ win0_1.index t = ![t.val / 64, 0, 56 + t.val / 8 % 8] ∧
    win0_2.index t = ![t.val / 64, 0, 64 + t.val / 8 % 8] ∧ win0_3.index t = ![1, t.val / 64, 0, t.val / 8 % 8] ∧
    win0_4.index t = ![t.val / 64, 0, 64 + t.val / 8 % 8] ∧ win0_5.index t = ![0, 0] ∧ win0_6.index t = ![0, 0] ∧
    win0_7.index t = ![0, 0] ∧ win0_8.index t = ![t.val / 64, t.val % 8, t.val / 8 % 8] :=
  (by decide +kernel : ∀ t : Fin grid0.N,
    win0_0.index t = ![t.val / 64, t.val % 8, t.val / 8 % 8] ∧ win0_1.index t = ![t.val / 64, 0, 56 + t.val / 8 % 8] ∧
    win0_2.index t = ![t.val / 64, 0, 64 + t.val / 8 % 8] ∧ win0_3.index t = ![1, t.val / 64, 0, t.val / 8 % 8] ∧
    win0_4.index t = ![t.val / 64, 0, 64 + t.val / 8 % 8] ∧ win0_5.index t = ![0, 0] ∧ win0_6.index t = ![0, 0] ∧
    win0_7.index t = ![0, 0] ∧ win0_8.index t = ![t.val / 64, t.val % 8, t.val / 8 % 8]) t

/-- The context's values over the latent sequence's, next to ones. -/
def vxOf (x₂ : Vec Ideal S1x256x128 .bf16) (x₄ : Vec Ideal S1x8192x128 .bf16) : Vec Ideal S8448x256 .bf16 :=
  View.canon (Val := Elt Ideal) (s := S8448x256) (e := .bf16)
    [⟨Rect.unit ![256, 128] ![8192, 128] inb_S8448x256_S8192x128_256_128, k0_pay5 (F := Ideal)⟩,
     ⟨Rect.unit ![256, 0] ![8192, 128] inb_S8448x256_S8192x128_256_0, k0_pay4 x₄⟩,
     ⟨Rect.unit ![0, 128] ![256, 128] inb_S8448x256_S256x128_0_128, k0_pay3 (F := Ideal)⟩,
     ⟨Rect.unit ![0, 0] ![256, 128] inb_S8448x256_S256x128_0_0, k0_pay2 x₂⟩]

/-- Element by element. -/
theorem vxOf_apply (x₂ : Vec Ideal S1x256x128 .bf16) (x₄ : Vec Ideal S1x8192x128 .bf16) (r : Fin 8448) (c : Fin 256) :
    vxOf x₂ x₄ (ix2 r c) = if hc : c.val < 128 then
        (if hr : r.val < 256 then x₂ (ix3 0 ⟨r.val, hr⟩ ⟨c.val, hc⟩) else x₄ (ix3 0 ⟨r.val - 256, by omega⟩ ⟨c.val, hc⟩))
      else (1 : EReal) := by
  have hcov : ∃ p ∈ ([⟨Rect.unit ![256, 128] ![8192, 128] inb_S8448x256_S8192x128_256_128, k0_pay5 (F := Ideal)⟩,
      ⟨Rect.unit ![256, 0] ![8192, 128] inb_S8448x256_S8192x128_256_0, k0_pay4 x₄⟩,
      ⟨Rect.unit ![0, 128] ![256, 128] inb_S8448x256_S256x128_0_128, k0_pay3 (F := Ideal)⟩,
      ⟨Rect.unit ![0, 0] ![256, 128] inb_S8448x256_S256x128_0_0, k0_pay2 x₂⟩] : List (View.Piece (Elt Ideal) S8448x256 .bf16)),
      (ix2 r c : S8448x256.Idx) ∈ p.fst.set := by
    simp only [List.mem_cons, List.not_mem_nil, or_false, exists_eq_or_imp, exists_eq_left, Rect.mem_set_unit, Fin.forall_fin_two]
    simp
    omega
  unfold vxOf
  canon_tiles x h using hcov
  all_goals (idx_vars x; unfold_payloads; pointwise)
  · rw [dif_neg (by omega)]
  · rw [dif_pos (by omega), dif_neg (by omega)]
    congr 2 <;> apply Fin.ext <;> dsimp only <;> omega
  · rw [dif_neg (by omega)]
  · rw [dif_pos (by omega), dif_pos (by omega)]
    congr 2 <;> apply Fin.ext <;> dsimp only <;> omega

/-- The comparison of a lane's number with 64, as the program's one-bit word. -/
theorem sge_lane : ∀ d : Fin 128, IntOp.cmpi .sge (BitVec.ofNat 32 d.val) 64#32 = if d.val < 64 then 0#1 else 1#1 := by decide

theorem slt_lane : ∀ d : Fin 128, IntOp.cmpi .slt (BitVec.ofNat 32 d.val) 64#32 = if d.val < 64 then 1#1 else 0#1 := by decide

/-- The masked queries: row `r` of the upper half has the lanes of the first map, row `1024 + r` those of the second. -/
theorem qOf_apply (x₀ : Vec Ideal S1x1024x128 .bf16) (r : Fin 2048) (d : Fin 128) :
    qOf x₀ (ix2 r d) = if (r.val < 1024 ↔ d.val < 64) then x₀ (ix3 0 ⟨r.val % 1024, Nat.mod_lt _ (by decide)⟩ d) else (0 : EReal) := by
  unfold qOf
  canon_tiles x h
  · idx_vars x
    unfold_payloads
    pointwise
    obtain rfl : d = x1 := Fin.ext h1
    have e : (⟨r.val % 1024, Nat.mod_lt _ (by decide)⟩ : Fin 1024) = x0 := Fin.ext (by dsimp only; omega)
    rw [e, sge_lane]
    by_cases hd : d.val < 64
    · rw [if_pos hd, if_neg (by omega)]; rfl
    · rw [if_neg hd, if_pos (by omega)]; rfl
  · idx_vars x
    unfold_payloads
    pointwise
    obtain rfl : d = x1 := Fin.ext h1
    have e : (⟨r.val % 1024, Nat.mod_lt _ (by decide)⟩ : Fin 1024) = x0 := Fin.ext (by dsimp only; omega)
    rw [e, slt_lane]
    by_cases hd : d.val < 64
    · rw [if_pos hd, if_pos (by omega)]; rfl
    · rw [if_neg hd, if_neg (by omega)]; rfl

variable (m : (ℓ : Loc nD τ sig) → Buf (Elt Ideal) ℓ)

theorem iblk2_congr (c : Dev nD) (t t' : Fin cfg0.N) (h : t.val / 8 = t'.val / 8) : iblk m c 2 t = iblk m c 2 t' := by
  funext y
  blk_ext [iblk, idx t, idx t']

theorem iblk4_congr (c : Dev nD) (t t' : Fin cfg0.N) (h : t.val / 8 = t'.val / 8) : iblk m c 4 t = iblk m c 4 t' := by
  funext y
  blk_ext [iblk, idx t, idx t']

/-- The held values at every point. -/
theorem held_eq (c : Dev nD) (n : ℕ) (hn : n < cfg0.N) : (outsAt0 m c n hn).2 = vxOf (iblk m c 2 ⟨n, hn⟩) (iblk m c 4 ⟨n, hn⟩) := by
  induction n with
  | zero =>
    rw [outsAt0_A m c ⟨0, hn⟩ rfl]
    frame_out
  | succ n ih =>
    by_cases h : (n + 1) % 8 = 0
    · rw [outsAt0_A m c ⟨n + 1, hn⟩ h]
      frame_out
    · have e := ih (Nat.lt_of_succ_lt hn)
      rw [iblk2_congr m c ⟨n, _⟩ ⟨n + 1, hn⟩ (by dsimp only; omega), iblk4_congr m c ⟨n, _⟩ ⟨n + 1, hn⟩ (by dsimp only; omega)] at e
      rw [outsAt0_B m c ⟨n + 1, hn⟩ h]
      exact e
end Cert.AttnIdeal.Val
end
end
-- ==== Proof.Attn.Reals.lean ====
/-
The real numbers that both programs compute: sums of values weighted by powers of two.
-/
module
public import Idealize.ShloMosaic.PureOps.Ideal
public import Mathlib.Algebra.BigOperators.Fin
@[expose] public section
noncomputable section
namespace Attn
open Idealize.ShloMosaic

/-- A sum of reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The largest of finitely many reals is a real. -/
theorem fold_max_real {n : ℕ} (f : Fin (n + 1) → ℝ) :
    ∃ μ : ℝ, (Finset.univ : Finset (Fin (n + 1))).fold max (⊥ : EReal) (fun y => (f y : EReal)) = μ := by
  obtain ⟨i, -, hi⟩ := Finset.exists_mem_eq_sup (Finset.univ : Finset (Fin (n + 1))) Finset.univ_nonempty (fun y => (f y : EReal))
  exact ⟨f i, hi⟩

/-- The weighted sum of `V` over the first `n` keys, the weights `2 ^ S` scaled by `2 ^ (-μ)`. -/
def wsum (S V : ℕ → ℝ) (μ : ℝ) (n : ℕ) : ℝ := ∑ x ∈ Finset.range n, (2 : ℝ) ^ (S x - μ) * V x

/-- One more chunk of 256 keys: rescale and add. -/
theorem wsum_step (S V : ℕ → ℝ) (μ μ' : ℝ) (n : ℕ) :
    (2 : ℝ) ^ (μ - μ') * wsum S V μ n + ∑ y : Fin 256, (2 : ℝ) ^ (S (n + y) - μ') * V (n + y) = wsum S V μ' (n + 256) := by
  unfold wsum
  rw [Finset.sum_range_add, Finset.mul_sum, Finset.sum_range (n := 256)]
  congr 1
  refine Finset.sum_congr rfl fun x _ => ?_
  rw [← mul_assoc, ← Real.rpow_add two_pos]
  congr 2
  ring

/-- The scale cancels in the quotient. -/
theorem wsum_quot (S V : ℕ → ℝ) (μ : ℝ) (n : ℕ) : wsum S V μ n / wsum S (fun _ => 1) μ n = wsum S V 0 n / wsum S (fun _ => 1) 0 n := by
  have h : ∀ U : ℕ → ℝ, wsum S U μ n = (2 : ℝ) ^ (-μ) * wsum S U 0 n := fun U => by
    unfold wsum
    rw [Finset.mul_sum]
    refine Finset.sum_congr rfl fun x _ => ?_
    rw [← mul_assoc, ← Real.rpow_add two_pos]
    congr 2
    ring
  rw [h, h, mul_div_mul_left _ _ (Real.rpow_pos_of_pos two_pos _).ne']

/-- The sum of the weights is positive. -/
theorem wsum_pos (S : ℕ → ℝ) (μ : ℝ) (n : ℕ) (hn : 0 < n) : 0 < wsum S (fun _ => 1) μ n :=
  Finset.sum_pos (fun _ _ => mul_pos (Real.rpow_pos_of_pos two_pos _) one_pos) (Finset.nonempty_range_iff.mpr hn.ne')

/-- A quotient of reals. -/
theorem div_real (x y : ℝ) (h : y ≠ 0) : Ideal.div (x : EReal) (y : EReal) = ((x / y : ℝ) : EReal) := by
  rw [Ideal.div_coe h, ← EReal.coe_mul, mul_one_div]

/-- The softmax average of `V` over the 8448 keys with logits `S · log 2`. -/
def soft (S V : ℕ → ℝ) : ℝ := wsum S V 0 8448 / wsum S (fun _ => 1) 0 8448

/-- Logits `S · log 2` under the natural exponential, shifted by any `M`: the shift cancels in the quotient. -/
theorem exp_quot (S : ℕ → ℝ) (M : ℝ) (x : ℕ) :
    Real.exp (S x * Real.log 2 - M) / ∑ y : Fin 8448, Real.exp (S y * Real.log 2 - M) = (2 : ℝ) ^ (S x - 0) / wsum S (fun _ => 1) 0 8448 := by
  have h : ∀ y, Real.exp (S y * Real.log 2 - M) = (2 : ℝ) ^ (S y - 0) * 1 * Real.exp (-M) := fun y => by
    rw [Real.rpow_def_of_pos two_pos, sub_zero, mul_one, ← Real.exp_add]
    congr 1
    ring
  have e : ∑ y : Fin 8448, Real.exp (S y * Real.log 2 - M) = wsum S (fun _ => 1) 0 8448 * Real.exp (-M) := by
    unfold wsum
    rw [Finset.sum_range, Finset.sum_mul]
    exact Finset.sum_congr rfl fun y _ => h y
  rw [e, h, mul_div_mul_right _ _ (Real.exp_pos _).ne', mul_one]

/-- The average with the difference of two weightings is the difference of the averages. -/
theorem soft_sub (S T V : ℕ → ℝ) (l : ℝ) :
    ∑ x : Fin 8448, ((2 : ℝ) ^ (S x - 0) / wsum S (fun _ => 1) 0 8448 - l * ((2 : ℝ) ^ (T x - 0) / wsum T (fun _ => 1) 0 8448)) * V x
      = soft S V - l * soft T V := by
  have h : ∀ U : ℕ → ℝ, soft U V = ∑ x : Fin 8448, (2 : ℝ) ^ (U x - 0) / wsum U (fun _ => 1) 0 8448 * V x := fun U => by
    unfold soft
    rw [show wsum U V 0 8448 = ∑ x : Fin 8448, (2 : ℝ) ^ (U x - 0) * V x from Finset.sum_range _, Finset.sum_div]
    exact Finset.sum_congr rfl fun x _ => by ring
  rw [h, h, Finset.mul_sum, ← Finset.sum_sub_distrib]
  exact Finset.sum_congr rfl fun x _ => by ring

/-- A sum over 128 lanes whose terms vanish outside one half. -/
theorem sum_half (p : Fin 2) (f : Fin 128 → EReal) (hf : ∀ d, ¬ (p.val = 0 ↔ d.val < 64) → f d = 0) :
    ∑ d, f d = ∑ d : Fin 64, f ⟨64 * p.val + d.val, by omega⟩ := by
  rw [show ∑ d, f d = _ from Fin.sum_univ_add (a := 64) (b := 64) f]
  have h0 : ∀ d : Fin 64, (Fin.castAdd 64 d : Fin (64 + 64)).val = d.val := fun d => rfl
  have h1 : ∀ d : Fin 64, (Fin.natAdd 64 d : Fin (64 + 64)).val = 64 + d.val := fun d => rfl
  rcases Nat.eq_zero_or_pos p.val with hp | hp
  · rw [show ∑ d : Fin 64, f (Fin.natAdd 64 d) = 0 from Finset.sum_eq_zero fun d _ => hf _ (by rw [h1]; omega), add_zero]
    exact Finset.sum_congr rfl fun d _ => congrArg f (Fin.ext (by rw [h0]; dsimp only; omega))
  · rw [show ∑ d : Fin 64, f (Fin.castAdd 64 d) = 0 from Finset.sum_eq_zero fun d _ => hf _ (by rw [h0]; omega), zero_add]
    exact Finset.sum_congr rfl fun d _ => congrArg f (Fin.ext (by rw [h1]; dsimp only; omega))

/-! ## The logits and the values, from the arrays' columns -/

/-- Row `x` of the context's rows `C` followed by the latent sequence's rows `L`. -/
def mix (C : Fin 256 → Fin 1024 → EReal) (L : Fin 8192 → Fin 1024 → EReal) (x : ℕ) (c : Fin 1024) : EReal :=
  if hx : x < 256 then C ⟨x, hx⟩ c else L ⟨(x - 256) % 8192, Nat.mod_lt _ (by decide)⟩ c

/-- The product of a query row and key `x` over the 64 channels of head `h`. -/
def logit (Q : Fin 1024 → EReal) (C : Fin 256 → Fin 1024 → EReal) (L : Fin 8192 → Fin 1024 → EReal) (h : Fin 16) (x : ℕ) : EReal :=
  ∑ d : Fin 64, Q ⟨h.val * 64 + d.val, by omega⟩ * mix C L x ⟨h.val * 64 + d.val, by omega⟩

/-- Being a real number. -/
def IsReal (x : EReal) : Prop := ∃ r : ℝ, x = r

theorem IsReal.eq {x : EReal} (h : IsReal x) : x = (x.toReal : EReal) := by
  obtain ⟨r, rfl⟩ := h
  rw [EReal.toReal_coe]

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {ι : Type} (s : Finset ι) (f : ι → EReal) (h : ∀ i, IsReal (f i)) : IsReal (∑ i ∈ s, f i) :=
  ⟨∑ i ∈ s, (f i).toReal, by rw [coe_sum]; exact Finset.sum_congr rfl fun i _ => (h i).eq⟩

theorem IsReal.mix {C : Fin 256 → Fin 1024 → EReal} {L : Fin 8192 → Fin 1024 → EReal} (hC : ∀ i c, IsReal (C i c)) (hL : ∀ i c, IsReal (L i c))
    (x : ℕ) (c : Fin 1024) : IsReal (mix C L x c) := by
  unfold Attn.mix
  split
  · exact hC _ _
  · exact hL _ _

theorem IsReal.logit {Q : Fin 1024 → EReal} {C : Fin 256 → Fin 1024 → EReal} {L : Fin 8192 → Fin 1024 → EReal} (hQ : ∀ c, IsReal (Q c))
    (hC : ∀ i c, IsReal (C i c)) (hL : ∀ i c, IsReal (L i c)) (h : Fin 16) (x : ℕ) : IsReal (logit Q C L h x) :=
  IsReal.sum _ _ fun _ => (hQ _).mul (IsReal.mix hC hL _ _)
end Attn
end
end
-- ==== Proof.Attn.Online.lean ====
/-
The running softmax of one row, over the reals.
-/
module
public import proofs.«01_k».proof.Proof.Attn.Scratch
public import proofs.«01_k».proof.Proof.Attn.Reals
@[expose] public section
set_option maxRecDepth 16384
noncomputable section
namespace Cert.AttnIdeal.Val
open Cert.AttnIdeal Cert.AttnIdeal.Gen Idealize.ShloMosaic Idealize.ShloMosaic.TcCoe Idealize.SL.Sem Idealize.ShloMosaic.Pointwise Attn

/-! ## The steps of one row -/

theorem score_apply (q : Vec Ideal S2048x128 .bf16) (k : FVec Ideal S256x128 .bf16) (r : Fin 2048) (y : Fin 256) :
    k0_pay44 q k (ix2 r y) = ∑ d : Fin 128, (q (ix2 r d) * k (ix2 y d) : EReal) := by
  unfold_payloads
  pointwise

/-- The word of minus infinity. -/
theorem negInf : Ideal.ofBits .f32 4286578688#32 = (⊥ : EReal) := by
  simp [Ideal.ofBits, Ideal.ieee]

theorem mx_apply (q : Vec Ideal S2048x128 .bf16) (k : FVec Ideal S256x128 .bf16) (m : FVec Ideal S2048x1 .f32) (r : Fin 2048) :
    mx q k m (ix2 r 0) = max (m (ix2 r 0) : EReal) ((Finset.univ : Finset (Fin 256)).fold max ⊥ fun y => (k0_pay44 q k (ix2 r y) : EReal)) := by
  unfold mx k0_pay45
  generalize k0_pay44 q k = s
  pointwise
  rw [show Ideal.ofBits .f32 4286578688#32 = (⊥ : EReal) from negInf]

theorem ac_apply (q : Vec Ideal S2048x128 .bf16) (k : FVec Ideal S256x128 .bf16) (v : FVec Ideal S256x256 .bf16) (m : FVec Ideal S2048x1 .f32)
    (a : FVec Ideal S2048x256 .f32) (r : Fin 2048) (c : Fin 256) :
    ac q k v m a (ix2 r c) = Ideal.exp2 (m (ix2 r 0) - mx q k m (ix2 r 0) : EReal) * a (ix2 r c)
      + ∑ y : Fin 256, Ideal.exp2 (k0_pay44 q k (ix2 r y) - mx q k m (ix2 r 0) : EReal) * v (ix2 y c) := by
  unfold ac
  generalize k0_pay44 q k = s
  generalize mx q k m = m'
  pointwise
  rfl

/-! ## The state of one row after `n` chunks -/

section Row
variable (q : Vec Ideal S2048x128 .bf16) (K : ℕ → FVec Ideal S256x128 .bf16) (X : Vec Ideal S8448x256 .bf16) (r : Fin 2048)
  (S : ℕ → ℝ) (N : ℕ) (hS : ∀ n < N, ∀ y : Fin 256, k0_pay44 q (K n) (ix2 r y) = ((S (256 * n + y) : ℝ) : EReal))

include hS in
/-- The step of the maximum. -/
theorem mst_step (n : ℕ) (hn : n < N) (h : mst q K n (ix2 r 0) = (⊥ : EReal) ∨ ∃ μ : ℝ, mst q K n (ix2 r 0) = (μ : EReal)) :
    ∃ μ : ℝ, mst q K (n + 1) (ix2 r 0) = (μ : EReal) := by
  obtain ⟨ν, hν⟩ := fold_max_real (n := 255) fun y => S (256 * n + y)
  have e : mst q K (n + 1) (ix2 r 0) = max (mst q K n (ix2 r 0) : EReal) (ν : EReal) := by
    rw [← hν]
    simp only [mst, mx_apply]
    congr 2
    funext y
    exact hS n hn y
  rw [e]
  rcases h with h | ⟨μ, h⟩
  · exact ⟨ν, by rw [h]; exact max_bot_left _⟩
  · exact ⟨max μ ν, by rw [h]; exact (EReal.coe_strictMono.monotone.map_max).symm⟩

include hS in
/-- **The running softmax**: after `n > 0` chunks the maximum is a real `μ`, and every column of the running sums is the
weighted sum of that column of the values over the keys so far. -/
theorem row_state (n : ℕ) (h0 : 0 < n) (hn : n ≤ N) :
    ∃ μ : ℝ, mst q K n (ix2 r 0) = (μ : EReal) ∧
      ∀ (c : Fin 256) (V : ℕ → ℝ), (∀ k < N, ∀ y : Fin 256, vAt X (256 * k) (ix2 y c) = ((V (256 * k + y) : ℝ) : EReal)) →
        ast q K X n (ix2 r c) = ((wsum S V μ (256 * n) : ℝ) : EReal) := by
  induction n with
  | zero => exact absurd h0 (lt_irrefl _)
  | succ n ih =>
    have hn' : n < N := hn
    have hm : mst q K n (ix2 r 0) = (⊥ : EReal) ∧ n = 0 ∨ 0 < n := by
      rcases Nat.eq_zero_or_pos n with rfl | h
      · exact .inl ⟨negInf, rfl⟩
      · exact .inr h
    rcases hm with ⟨hb, rfl⟩ | hp
    · obtain ⟨μ, hμ⟩ := mst_step q K r S N hS 0 hn' (.inl hb)
      refine ⟨μ, hμ, fun c V hV => ?_⟩
      have hz : ast q K X 0 (ix2 r c) = (0 : EReal) := Ideal.ofBits_zero_f32
      have hmx : mx q (K 0) (mst q K 0) (ix2 r 0) = (μ : EReal) := hμ
      rw [show ast q K X (0 + 1) = ac q (K 0) (vAt X (256 * 0)) (mst q K 0) (ast q K X 0) from rfl, ac_apply, hmx, hb, hz,
        mul_zero, zero_add, wsum, Finset.sum_range (n := 256 * (0 + 1)), coe_sum]
      refine Finset.sum_congr rfl fun y _ => ?_
      rw [hS 0 hn' y, hV 0 hn' y, ← EReal.coe_sub, Ideal.exp2_coe, ← EReal.coe_mul, Nat.mul_zero, Nat.zero_add]
      rfl
    · obtain ⟨μ, hμ, ha⟩ := ih hp hn'.le
      obtain ⟨μ', hμ'⟩ := mst_step q K r S N hS n hn' (.inr ⟨μ, hμ⟩)
      refine ⟨μ', hμ', fun c V hV => ?_⟩
      have hmx : mx q (K n) (mst q K n) (ix2 r 0) = (μ' : EReal) := hμ'
      rw [show ast q K X (n + 1) = ac q (K n) (vAt X (256 * n)) (mst q K n) (ast q K X n) from rfl, ac_apply, hmx, hμ, ha c V hV,
        ← EReal.coe_sub, Ideal.exp2_coe, ← EReal.coe_mul, Nat.mul_succ, ← wsum_step S V μ μ' (256 * n), EReal.coe_add, coe_sum]
      congr 1
      refine Finset.sum_congr rfl fun y _ => ?_
      rw [hS n hn' y, hV n hn' y, ← EReal.coe_sub, Ideal.exp2_coe, ← EReal.coe_mul]
      rfl
end Row
end Cert.AttnIdeal.Val
end
end
-- ==== Proof.Attn.Out.lean ====
/-
The block that a point of the attention kernel leaves, over real logits.
-/
module
public import proofs.«01_k».proof.Proof.Attn.Online
@[expose] public section
set_option maxRecDepth 16384
noncomputable section
namespace Cert.AttnIdeal.Val
open Cert.AttnIdeal Cert.AttnIdeal.Gen Idealize.ShloMosaic Idealize.ShloMosaic.TcCoe Idealize.SL.Sem Idealize.ShloMosaic.Pointwise Attn

/-- The closing step at an element: the quotients of the sums by the sums of the weights, the second map's times `lam` taken
from the first's, and the norm over the head's 128 channels. -/
theorem tail_apply (A : FVec Ideal S2048x256 .f32) (dl : Vec Ideal S4x64 .f32) (li g : Vec Ideal S1x128 .f32) (r : Fin 1024) (e : Fin 128)
    (o : Fin 128 → EReal)
    (ho : ∀ e, o e = (Ideal.div (A (ix2 ⟨r.val, by omega⟩ ⟨e.val, by omega⟩)) (A (ix2 ⟨r.val, by omega⟩ ⟨128 + e.val, by omega⟩))
      - (Ideal.exp (∑ x : Fin 64, (dl (ix2 0 x) * dl (ix2 1 x) : EReal)) - Ideal.exp (∑ x : Fin 64, (dl (ix2 2 x) * dl (ix2 3 x) : EReal)) + li (ix2 0 e))
        * Ideal.div (A (ix2 ⟨1024 + r.val, by omega⟩ ⟨e.val, by omega⟩)) (A (ix2 ⟨1024 + r.val, by omega⟩ ⟨128 + e.val, by omega⟩)) : EReal)) :
    k0_pay1 (k0_pay132 A zeros dl li g) (ix3 0 r e) =
    (o e * Ideal.rsqrt (Ideal.div (∑ x : Fin 128, o x * o x) (Ideal.ofBits .f32 0x43000000#32) + Ideal.ofBits .f32 0x358637BD#32 : EReal)
      * g (ix2 0 e) * (1 - li (ix2 0 e)) : EReal) := by
  simp only [ho]
  unfold_payloads
  pointwise [zeros]

/-- The quotient of a column of the sums by a column of the sums of the weights. -/
theorem row_quot (q : Vec Ideal S2048x128 .bf16) (K : ℕ → FVec Ideal S256x128 .bf16) (X : Vec Ideal S8448x256 .bf16) (r : Fin 2048)
    (S V : ℕ → ℝ) (c c' : Fin 256)
    (hS : ∀ n < 33, ∀ y : Fin 256, k0_pay44 q (K n) (ix2 r y) = ((S (256 * n + y) : ℝ) : EReal))
    (hV : ∀ k < 33, ∀ y : Fin 256, vAt X (256 * k) (ix2 y c) = ((V (256 * k + y) : ℝ) : EReal))
    (hO : ∀ k < 33, ∀ y : Fin 256, vAt X (256 * k) (ix2 y c') = (1 : EReal)) :
    Ideal.div (ast q K X 33 (ix2 r c)) (ast q K X 33 (ix2 r c')) = ((soft S V : ℝ) : EReal) := by
  obtain ⟨μ, -, h⟩ := row_state q K X r S 33 hS 33 (by decide) le_rfl
  rw [h c V hV, h c' (fun _ => 1) hO, div_real _ _ (wsum_pos S μ _ (by decide)).ne', wsum_quot]
  rfl

/-- The scores of a row of map `p`: the product over the 64 channels of head `2 h + p`. -/
theorem score (x₀ : Vec Ideal S1x1024x128 .bf16) (x₁ : Vec Ideal S1x256x128 .bf16) (x₃ : Vec Ideal S1x1x8192x128 .bf16)
    (Q : Fin 1024 → EReal) (C : Fin 256 → Fin 1024 → EReal) (L : Fin 8192 → Fin 1024 → EReal) (h : Fin 8) (r : Fin 1024)
    (hQ : ∀ d : Fin 128, x₀ (ix3 0 r d) = Q ⟨h.val * 128 + d.val, by omega⟩)
    (hC : ∀ (y : Fin 256) (d : Fin 128), x₁ (ix3 0 y d) = C y ⟨h.val * 128 + d.val, by omega⟩)
    (hL : ∀ (y : Fin 8192) (d : Fin 128), x₃ (ix4 0 0 y d) = L y ⟨h.val * 128 + d.val, by omega⟩)
    (p : Fin 2) (n : ℕ) (hn : n < 33) (y : Fin 256) :
    k0_pay44 (qOf x₀) (keys x₁ x₃ n) (ix2 ⟨1024 * p.val + r.val, by omega⟩ y) = logit Q C L ⟨2 * h.val + p.val, by omega⟩ (256 * n + y.val) := by
  have hk : ∀ d : Fin 128, (keys x₁ x₃ n (ix2 y d) : EReal) = mix C L (256 * n + y.val) ⟨h.val * 128 + d.val, by omega⟩ := fun d => by
    rcases n with _ | n
    · have e : keys x₁ x₃ 0 (ix2 y d) = x₁ (ix3 0 y d) := by
        unfold keys
        unfold_payloads
        pointwise
      have ey : (⟨256 * 0 + y.val, by omega⟩ : Fin 256) = y := Fin.ext (by dsimp only; omega)
      rw [e, hC, mix, dif_pos (by omega), ey]
    · rw [show keys x₁ x₃ (n + 1) (ix2 y d) = x₃ (ix4 0 0 ⟨(256 * n + y.val) % 8192, Nat.mod_lt _ (by decide)⟩ d) from rfl, hL, mix, dif_neg (by omega)]
      have ey : (⟨(256 * n + y.val) % 8192, Nat.mod_lt _ (by decide)⟩ : Fin 8192)
          = ⟨(256 * (n + 1) + y.val - 256) % 8192, Nat.mod_lt _ (by decide)⟩ := Fin.ext (by dsimp only; congr 1; omega)
      rw [ey]
  have hr : (1024 * p.val + r.val) % 1024 = r.val := by omega
  rw [score_apply]
  simp only [qOf_apply, hk]
  rw [sum_half p _ fun d hd => by rw [if_neg (by omega), zero_mul], logit]
  refine Finset.sum_congr rfl fun d _ => ?_
  have er : (⟨(1024 * p.val + r.val) % 1024, Nat.mod_lt _ (by decide)⟩ : Fin 1024) = r := Fin.ext hr
  have ed : (⟨h.val * 128 + (64 * p.val + d.val), by omega⟩ : Fin 1024) = ⟨(2 * h.val + p.val) * 64 + d.val, by omega⟩ := Fin.ext (by dsimp only; omega)
  rw [if_pos (by dsimp only; omega), er, hQ]
  dsimp only
  rw [ed]

/-- Row `256 k + y` of the stored values: the values next to ones. -/
theorem vx_row (x₂ : Vec Ideal S1x256x128 .bf16) (x₄ : Vec Ideal S1x8192x128 .bf16)
    (C : Fin 256 → Fin 1024 → EReal) (L : Fin 8192 → Fin 1024 → EReal) (h : Fin 8)
    (hC : ∀ (y : Fin 256) (d : Fin 128), x₂ (ix3 0 y d) = C y ⟨h.val * 128 + d.val, by omega⟩)
    (hL : ∀ (y : Fin 8192) (d : Fin 128), x₄ (ix3 0 y d) = L y ⟨h.val * 128 + d.val, by omega⟩)
    (k : ℕ) (hk : k < 33) (y : Fin 256) (e : Fin 128) :
    (vAt (vxOf x₂ x₄) (256 * k) (ix2 y ⟨e.val, by omega⟩) : EReal) = mix C L (256 * k + y.val) ⟨h.val * 128 + e.val, by omega⟩ ∧
    (vAt (vxOf x₂ x₄) (256 * k) (ix2 y ⟨128 + e.val, by omega⟩) : EReal) = 1 := by
  have hm : (256 * k + y.val) % 8448 = 256 * k + y.val := Nat.mod_eq_of_lt (by omega)
  have ev : ∀ c : Fin 256, vAt (vxOf x₂ x₄) (256 * k) (ix2 y c) = vxOf x₂ x₄ (ix2 ⟨256 * k + y.val, by omega⟩ c) := fun c => by
    rw [show vAt (vxOf x₂ x₄) (256 * k) (ix2 y c) = vxOf x₂ x₄ (ix2 ⟨(256 * k + y.val) % 8448, Nat.mod_lt _ (by decide)⟩ c) from rfl]
    simp only [hm]
  rw [ev, ev, vxOf_apply, vxOf_apply, dif_pos e.isLt, dif_neg (show ¬ 128 + e.val < 128 by omega)]
  refine ⟨?_, rfl⟩
  unfold mix
  split
  · exact hC _ _
  · rw [hL]
    have ey : (⟨256 * k + y.val - 256, by omega⟩ : Fin 8192) = ⟨(256 * k + y.val - 256) % 8192, Nat.mod_lt _ (by decide)⟩ :=
      Fin.ext (Nat.mod_eq_of_lt (by omega)).symm
    rw [ey]

/-- A map's average of column `e` of the values: the quotient that the closing step takes. -/
theorem map_quot (x₀ : Vec Ideal S1x1024x128 .bf16) (x₁ : Vec Ideal S1x256x128 .bf16) (x₂ : Vec Ideal S1x256x128 .bf16)
    (x₃ : Vec Ideal S1x1x8192x128 .bf16) (x₄ : Vec Ideal S1x8192x128 .bf16)
    (Q : Fin 1024 → EReal) (C : Fin 256 → Fin 1024 → EReal) (L : Fin 8192 → Fin 1024 → EReal)
    (C' : Fin 256 → Fin 1024 → EReal) (L' : Fin 8192 → Fin 1024 → EReal) (h : Fin 8) (r : Fin 1024)
    (hQ : ∀ d : Fin 128, x₀ (ix3 0 r d) = Q ⟨h.val * 128 + d.val, by omega⟩)
    (hC : ∀ (y : Fin 256) (d : Fin 128), x₁ (ix3 0 y d) = C y ⟨h.val * 128 + d.val, by omega⟩)
    (hL : ∀ (y : Fin 8192) (d : Fin 128), x₃ (ix4 0 0 y d) = L y ⟨h.val * 128 + d.val, by omega⟩)
    (hC' : ∀ (y : Fin 256) (d : Fin 128), x₂ (ix3 0 y d) = C' y ⟨h.val * 128 + d.val, by omega⟩)
    (hL' : ∀ (y : Fin 8192) (d : Fin 128), x₄ (ix3 0 y d) = L' y ⟨h.val * 128 + d.val, by omega⟩)
    (p : Fin 2) (e : Fin 128) (S V : ℕ → ℝ)
    (hS : ∀ x, logit Q C L ⟨2 * h.val + p.val, by omega⟩ x = ((S x : ℝ) : EReal))
    (hV : ∀ x, mix C' L' x ⟨h.val * 128 + e.val, by omega⟩ = ((V x : ℝ) : EReal)) :
    Ideal.div (ast (qOf x₀) (keys x₁ x₃) (vxOf x₂ x₄) 33 (ix2 ⟨1024 * p.val + r.val, by omega⟩ ⟨e.val, by omega⟩))
      (ast (qOf x₀) (keys x₁ x₃) (vxOf x₂ x₄) 33 (ix2 ⟨1024 * p.val + r.val, by omega⟩ ⟨128 + e.val, by omega⟩)) = ((soft S V : ℝ) : EReal) :=
  row_quot _ _ _ _ S V _ _
    (fun n hn y => (score x₀ x₁ x₃ Q C L h r hQ hC hL p n hn y).trans (hS _))
    (fun k hk y => ((vx_row x₂ x₄ C' L' h hC' hL' k hk y e).1).trans (hV _))
    (fun k hk y => (vx_row x₂ x₄ C' L' h hC' hL' k hk y e).2)
end Cert.AttnIdeal.Val
end
end
-- ==== Proof.Attn.Ref.lean ====
/-
What the reference computes, index by index.
-/
module
public import proofs.«01_k».proof.Proof.Gen.AttnRefIdeal.Read
public import Idealize.ShloMosaic.Lib.Pointwise
@[expose] public section
set_option maxRecDepth 16384
noncomputable section
namespace Cert.AttnRefIdeal.Val
open Cert.AttnRefIdeal Cert.AttnRefIdeal.Gen Cert.AttnRefIdeal.Read Idealize.ShloMosaic Idealize.ShloMosaic.TcCoe Idealize.SL.Sem Idealize.ShloMosaic.Pointwise

variable (x0 : Vec Ideal S4x8192x1024 .bf16) (x1 : Vec Ideal S4x256x10752 .bf16) (x2 : Vec Ideal S2x4x8192x1024 .bf16)
  (x3 : Vec Ideal S4x8192x10752 .bf16) (x4 : Vec Ideal S4x64 .f32) (x5 : Vec Ideal S1x128 .f32) (x6 : Vec Ideal S_ .f32)

theorem q_apply (b : Fin 4) (h : Fin 16) (n : Fin 8192) (d : Fin 64) :
    val_main_v8 x0 (ix4 b h n d) = x0 (ix3 b n ⟨h.val * 64 + d.val, by omega⟩) := by
  unfold val_main_v8 val_main_v7
  pointwise

theorem k_apply (b : Fin 4) (h : Fin 16) (n : Fin 8448) (d : Fin 64) :
    val_main_v10 x1 x2 (ix4 b h n d) = if hn : n.val < 256 then x1 (ix3 b ⟨n.val, hn⟩ ⟨7168 + (h.val * 64 + d.val), by omega⟩)
      else x2 (ix4 1 b ⟨n.val - 256, by omega⟩ ⟨h.val * 64 + d.val, by omega⟩) := by
  have e : idx_main_v9 (idx_main_v10 (ix4 b h n d)) = ix3 b n ⟨h.val * 64 + d.val, by omega⟩ := by
    refine (eq_ix3 _).trans ?_
    congr 1
    · exact Fin.ext (show (((b.val * 8448 + n.val) * 16 + h.val) * 64 + d.val) / 8650752 = b.val by omega)
    · exact Fin.ext (show (((b.val * 8448 + n.val) * 16 + h.val) * 64 + d.val) / 1024 % 8448 = n.val by omega)
    · exact Fin.ext (show (((b.val * 8448 + n.val) * 16 + h.val) * 64 + d.val) % 1024 = h.val * 64 + d.val by omega)
  rw [val_main_v10_apply, val_main_v9_apply, e]
  unfold val_main_v3
  have hc : h.val * 64 + d.val < 1024 := by omega
  have hr : n.val - 256 < 8192 := by omega
  by_cases hn : n.val < 256
  · rw [dif_pos hn]
    refine (concatenate_pair_apply_left (s₁ := S4x256x1024) (s₂ := S4x8192x1024) (t := S4x8448x1024) 1 _ _ _ _ rfl (ix3 (b : Fin 4) (⟨n.val, hn⟩ : Fin 256) (⟨h.val * 64 + d.val, hc⟩ : Fin 1024)) (fun a => ?_)).trans ?_
    · fin_cases a <;> rfl
    · unfold val_main_v0
      pointwise
  · rw [dif_neg hn]
    refine (concatenate_pair_apply_right (s₁ := S4x256x1024) (s₂ := S4x8192x1024) (t := S4x8448x1024) 1 _ _ _ _ rfl rfl (ix3 (b : Fin 4) (⟨n.val - 256, hr⟩ : Fin 8192) (⟨h.val * 64 + d.val, hc⟩ : Fin 1024)) (fun a ha => ?_) ?_).trans ?_
    · fin_cases a
      · rfl
      · exact absurd rfl ha
      · rfl
    · show n.val - 256 + 256 = n.val
      omega
    · unfold val_main_v2 val_main_v1
      pointwise

theorem v_apply (b : Fin 4) (h : Fin 8) (n : Fin 8448) (d : Fin 128) :
    val_main_v12 x1 x3 (ix4 b h n d) = if hn : n.val < 256 then x1 (ix3 b ⟨n.val, hn⟩ ⟨8192 + (h.val * 128 + d.val), by omega⟩)
      else x3 (ix3 b ⟨n.val - 256, by omega⟩ ⟨8192 + (h.val * 128 + d.val), by omega⟩) := by
  have e : idx_main_v11 (idx_main_v12 (ix4 b h n d)) = ix3 b n ⟨h.val * 128 + d.val, by omega⟩ := by
    refine (eq_ix3 _).trans ?_
    congr 1
    · exact Fin.ext (show (((b.val * 8448 + n.val) * 8 + h.val) * 128 + d.val) / 8650752 = b.val by omega)
    · exact Fin.ext (show (((b.val * 8448 + n.val) * 8 + h.val) * 128 + d.val) / 1024 % 8448 = n.val by omega)
    · exact Fin.ext (show (((b.val * 8448 + n.val) * 8 + h.val) * 128 + d.val) % 1024 = h.val * 128 + d.val by omega)
  rw [val_main_v12_apply, val_main_v11_apply, e]
  unfold val_main_v6
  have hc : h.val * 128 + d.val < 1024 := by omega
  have hr : n.val - 256 < 8192 := by omega
  by_cases hn : n.val < 256
  · rw [dif_pos hn]
    refine (concatenate_pair_apply_left (s₁ := S4x256x1024) (s₂ := S4x8192x1024) (t := S4x8448x1024) 1 _ _ _ _ rfl (ix3 (b : Fin 4) (⟨n.val, hn⟩ : Fin 256) (⟨h.val * 128 + d.val, hc⟩ : Fin 1024)) (fun a => ?_)).trans ?_
    · fin_cases a <;> rfl
    · unfold val_main_v4
      pointwise
  · rw [dif_neg hn]
    refine (concatenate_pair_apply_right (s₁ := S4x256x1024) (s₂ := S4x8192x1024) (t := S4x8448x1024) 1 _ _ _ _ rfl rfl (ix3 (b : Fin 4) (⟨n.val - 256, hr⟩ : Fin 8192) (⟨h.val * 128 + d.val, hc⟩ : Fin 1024)) (fun a ha => ?_) ?_).trans ?_
    · fin_cases a
      · rfl
      · exact absurd rfl ha
      · rfl
    · show n.val - 256 + 256 = n.val
      omega
    · unfold val_main_v5
      pointwise

theorem lam_apply : val_main_v28 x4 x6 ix0 = (Ideal.exp (∑ x : Fin 64, (x4 (ix2 0 x) * x4 (ix2 1 x) : EReal))
    - Ideal.exp (∑ x : Fin 64, (x4 (ix2 2 x) * x4 (ix2 3 x) : EReal)) + x6 ix0 : EReal) := by
  unfold val_main_v28 val_main_v27 val_main_v26 val_main_v25 val_main_v24 val_main_v23 val_main_v22 val_main_v21 val_main_v20 val_main_v19 val_main_v18 val_main_v17 val_main_v16 val_main_v15 val_main_v14 val_main_v13 val_main_cst val_main_cst_0
  pointwise

theorem s_apply (b : Fin 4) (h : Fin 16) (n : Fin 8192) (x : Fin 8448) : val_main_v32 x0 x1 x2 (ix4 b h n x) =
    ((∑ d : Fin 64, (val_main_v8 x0 (ix4 b h n d) * val_main_v10 x1 x2 (ix4 b h x d) : EReal)) * Ideal.log (Ideal.ofBits .f32 0x40000000#32) : EReal) := by
  unfold val_main_v32 val_main_v31 val_main_v30 val_main_v29 val_main_cst_1
  generalize val_main_v8 x0 = q
  generalize val_main_v10 x1 x2 = k
  pointwise

theorem max_apply (b : Fin 4) (h : Fin 16) (n : Fin 8192) : val_main_v33 x0 x1 x2 (ix3 b h n) =
    ((Finset.univ : Finset (Fin 8448)).fold max (Ideal.ofBits .f32 0xFF800000#32) fun x => (val_main_v32 x0 x1 x2 (ix4 b h n x) : EReal)) := by
  unfold val_main_v33 val_main_cst_2
  generalize val_main_v32 x0 x1 x2 = s
  pointwise

theorem p_apply (b : Fin 4) (h : Fin 16) (n : Fin 8192) (x : Fin 8448) : val_main_v43 x0 x1 x2 (ix4 b h n x) =
    Ideal.div (val_main_v39 x0 x1 x2 (ix4 b h n x)) (∑ y : Fin 8448, (val_main_v39 x0 x1 x2 (ix4 b h n y) : EReal)) := by
  have e : idx_main_v41 (idx_main_v42 (ix4 b h n x)) = ix3 b h n := eq_ix3 _
  have e' : ∀ y, idx_main_v40 (ix3 b h n) y = ix4 b h n y := fun y => eq_ix4 _
  rw [val_main_v43_apply, val_main_v42_apply, val_main_v41_apply, e, val_main_v40_apply]
  simp only [e']
  rw [show val_main_cst_4 (F := Ideal) (Shape.Idx.first h_S_) = (0 : EReal) from Ideal.ofBits_zero_f32, zero_add]
  rfl

theorem e_apply (b : Fin 4) (h : Fin 16) (n : Fin 8192) (x : Fin 8448) : val_main_v39 x0 x1 x2 (ix4 b h n x) =
    Ideal.exp (val_main_v32 x0 x1 x2 (ix4 b h n x) - max (Ideal.ofBits .f32 0xFF800000#32) (val_main_v33 x0 x1 x2 (ix3 b h n)) : EReal) := by
  have e : idx_main_v36 (idx_main_v37 (ix4 b h n x)) = ix3 b h n := eq_ix3 _
  rw [val_main_v39_apply, val_main_v38_apply, val_main_v37_apply, val_main_v36_apply, e, val_main_v35_apply, val_main_v34_apply]
  rfl

theorem w_apply (b : Fin 4) (h : Fin 8) (n : Fin 8192) (x : Fin 8448) : val_main_v52 x0 x1 x2 x4 x6 (ix4 b h n x) =
    (val_main_v43 x0 x1 x2 (ix4 b ⟨2 * h.val, by omega⟩ n x) - val_main_v28 x4 x6 ix0 * val_main_v43 x0 x1 x2 (ix4 b ⟨2 * h.val + 1, by omega⟩ n x) : EReal) := by
  have e : idx_main_v44 (idx_main_v45 (idx_main_v46 (ix4 b h n x))) = ix4 b ⟨2 * h.val, by omega⟩ n x := by
    have e1 : idx_main_v46 (ix4 b h n x) = ix5 b h 0 n x := by
      refine (eq_ix5 _).trans ?_
      congr 1
      · exact Fin.ext (show (((b.val * 8 + h.val) * 8192 + n.val) * 8448 + x.val) / 553648128 = b.val by omega)
      · exact Fin.ext (show (((b.val * 8 + h.val) * 8192 + n.val) * 8448 + x.val) / 69206016 % 8 = h.val by omega)
      · exact Fin.ext (show (((b.val * 8 + h.val) * 8192 + n.val) * 8448 + x.val) / 8448 % 8192 = n.val by omega)
      · exact Fin.ext (show (((b.val * 8 + h.val) * 8192 + n.val) * 8448 + x.val) % 8448 = x.val by omega)
    rw [e1]
    refine (eq_ix4 _).trans ?_
    congr 1
    · exact Fin.ext (show ((((b.val * 8 + h.val) * 2 + 0) * 8192 + n.val) * 8448 + x.val) / 1107296256 = b.val by omega)
    · exact Fin.ext (show ((((b.val * 8 + h.val) * 2 + 0) * 8192 + n.val) * 8448 + x.val) / 69206016 % 16 = 2 * h.val by omega)
    · exact Fin.ext (show ((((b.val * 8 + h.val) * 2 + 0) * 8192 + n.val) * 8448 + x.val) / 8448 % 8192 = n.val by omega)
    · exact Fin.ext (show ((((b.val * 8 + h.val) * 2 + 0) * 8192 + n.val) * 8448 + x.val) % 8448 = x.val by omega)
  have e' : idx_main_v44 (idx_main_v47 (idx_main_v48 (ix4 b h n x))) = ix4 b ⟨2 * h.val + 1, by omega⟩ n x := by
    have e1 : idx_main_v48 (ix4 b h n x) = ix5 b h 0 n x := by
      refine (eq_ix5 _).trans ?_
      congr 1
      · exact Fin.ext (show (((b.val * 8 + h.val) * 8192 + n.val) * 8448 + x.val) / 553648128 = b.val by omega)
      · exact Fin.ext (show (((b.val * 8 + h.val) * 8192 + n.val) * 8448 + x.val) / 69206016 % 8 = h.val by omega)
      · exact Fin.ext (show (((b.val * 8 + h.val) * 8192 + n.val) * 8448 + x.val) / 8448 % 8192 = n.val by omega)
      · exact Fin.ext (show (((b.val * 8 + h.val) * 8192 + n.val) * 8448 + x.val) % 8448 = x.val by omega)
    rw [e1]
    refine (eq_ix4 _).trans ?_
    congr 1
    · exact Fin.ext (show ((((b.val * 8 + h.val) * 2 + (1 + 0)) * 8192 + n.val) * 8448 + x.val) / 1107296256 = b.val by omega)
    · exact Fin.ext (show ((((b.val * 8 + h.val) * 2 + (1 + 0)) * 8192 + n.val) * 8448 + x.val) / 69206016 % 16 = 2 * h.val + 1 by omega)
    · exact Fin.ext (show ((((b.val * 8 + h.val) * 2 + (1 + 0)) * 8192 + n.val) * 8448 + x.val) / 8448 % 8192 = n.val by omega)
    · exact Fin.ext (show ((((b.val * 8 + h.val) * 2 + (1 + 0)) * 8192 + n.val) * 8448 + x.val) % 8448 = x.val by omega)
  have e0 : idx_main_v49 (ix4 b h n x) = ix0 := funext fun a => a.elim0
  rw [val_main_v52_apply, val_main_v51_apply, val_main_v50_apply, val_main_v49_apply, val_main_v48_apply, val_main_v47_apply, val_main_v46_apply,
    val_main_v45_apply, val_main_v44_apply, val_main_v44_apply, e, e', e0]
  rfl

theorem o_apply (b : Fin 4) (h : Fin 8) (n : Fin 8192) (e : Fin 128) : val_main_v53 x0 x1 x2 x3 x4 x6 (ix4 b h n e) =
    ∑ x : Fin 8448, (val_main_v52 x0 x1 x2 x4 x6 (ix4 b h n x) * val_main_v12 x1 x3 (ix4 b h x e) : EReal) := by
  have e1 : ∀ x, lidx_main_v53 (ix4 b h n e) x = ix4 b h n x := fun x => eq_ix4 _
  have e2 : ∀ x, ridx_main_v53 (ix4 b h n e) x = ix4 b h x e := fun x => eq_ix4 _
  rw [val_main_v53_apply]
  simp only [e1, e2]

theorem sq_apply (b : Fin 4) (n : Fin 8192) (h : Fin 8) : val_main_v58 x0 x1 x2 x3 x4 x6 (ix3 b h n) =
    ∑ c : Fin 128, (val_main_v53 x0 x1 x2 x3 x4 x6 (ix4 b h n c) * val_main_v53 x0 x1 x2 x3 x4 x6 (ix4 b h n c) : EReal) := by
  have e3 : ∀ c, idx_main_v58 (ix3 b h n) c = ix4 b h n c := fun c => eq_ix4 _
  rw [val_main_v58_apply, show val_main_cst_5 (F := Ideal) (Shape.Idx.first h_S_) = (0 : EReal) from Ideal.ofBits_zero_f32, zero_add]
  refine Finset.sum_congr rfl fun c _ => ?_
  rw [e3, val_main_v57_apply, val_main_v56_apply, val_main_v54_apply]
  rfl

theorem norm_apply (b : Fin 4) (n : Fin 8192) (h : Fin 8) : val_main_v64 x0 x1 x2 x3 x4 x6 (ix4 b h n 0) =
    Ideal.rsqrt (Ideal.div (val_main_v58 x0 x1 x2 x3 x4 x6 (ix3 b h n)) (Ideal.ofBits .f32 0x43000000#32) + Ideal.ofBits .f32 0x358637BD#32 : EReal) := by
  have e2 : idx_main_v59 (ix4 b h n 0) = ix3 b h n := eq_ix3 _
  rw [val_main_v64_apply, val_main_v63_apply, val_main_v62_apply, val_main_v61_apply, val_main_v60_apply, val_main_v59_apply, e2]
  generalize val_main_v58 x0 x1 x2 x3 x4 x6 = o
  rfl

theorem unit_apply (b : Fin 4) (n : Fin 8192) (h : Fin 8) (e : Fin 128) :
    val_main_v75 x0 x1 x2 x3 x4 x5 x6 (ix4 b h n e) =
    (val_main_v53 x0 x1 x2 x3 x4 x6 (ix4 b h n e) * val_main_v64 x0 x1 x2 x3 x4 x6 (ix4 b h n 0) * x5 (ix2 0 e) * (1 - x6 ix0) : EReal) := by
  have e2 : idx_main_v65 (ix4 b h n e) = ix4 b h n 0 := eq_ix4 _
  have e4 : idx_main_v55 (idx_main_v67 (idx_main_v68 (ix4 b h n e))) = ix2 0 e := by
    refine (eq_ix2 _).trans ?_
    congr 1
    exact Fin.ext (show e.val % 128 = e.val by omega)
  have e5 : idx_main_v73 (ix4 b h n e) = ix0 := funext fun a => a.elim0
  rw [val_main_v75_apply, val_main_v74_apply, val_main_v73_apply, e5, val_main_v72_apply,
    val_main_v71_apply, val_main_v70_apply, val_main_v69_apply, val_main_v68_apply, val_main_v67_apply, val_main_v55_apply, e4,
    val_main_v66_apply, val_main_v65_apply, e2, val_main_v56_apply, val_main_v54_apply]
  generalize val_main_v53 x0 x1 x2 x3 x4 x6 = o
  generalize val_main_v64 x0 x1 x2 x3 x4 x6 = w
  rw [show val_main_cst_8 (F := Ideal) ix0 = (1 : EReal) from Ideal.ofBits_one_f32]
  rfl

theorem out_apply (b : Fin 4) (n : Fin 8192) (h : Fin 8) (e : Fin 128) (hc : h.val * 128 + e.val < 1024) :
    val_main_v77 x0 x1 x2 x3 x4 x5 x6 (ix3 b n ⟨h.val * 128 + e.val, hc⟩) = val_main_v75 x0 x1 x2 x3 x4 x5 x6 (ix4 b h n e) := by
  have e1 : idx_main_v76 (idx_main_v77 (ix3 b n ⟨h.val * 128 + e.val, hc⟩)) = ix4 b h n e := by
    refine (eq_ix4 _).trans ?_
    congr 1
    · exact Fin.ext (show ((b.val * 8192 + n.val) * 1024 + (h.val * 128 + e.val)) / 8388608 = b.val by omega)
    · exact Fin.ext (show ((b.val * 8192 + n.val) * 1024 + (h.val * 128 + e.val)) / 128 % 8 = h.val by omega)
    · exact Fin.ext (show ((b.val * 8192 + n.val) * 1024 + (h.val * 128 + e.val)) / 1024 % 8192 = n.val by omega)
    · exact Fin.ext (show ((b.val * 8192 + n.val) * 1024 + (h.val * 128 + e.val)) % 128 = e.val by omega)
  rw [val_main_v77_apply, val_main_v76_apply, e1]
end Cert.AttnRefIdeal.Val
end
end
-- ==== Proof.Attn.Soft.lean ====
/-
The reference's attention over real logits.
-/
module
public import proofs.«01_k».proof.Proof.Attn.Ref
public import proofs.«01_k».proof.Proof.Attn.Reals
@[expose] public section
set_option maxRecDepth 16384
noncomputable section
namespace Cert.AttnRefIdeal.Val
open Cert.AttnRefIdeal Cert.AttnRefIdeal.Gen Cert.AttnRefIdeal.Read Idealize.ShloMosaic Idealize.ShloMosaic.TcCoe Idealize.SL.Sem Idealize.ShloMosaic.Pointwise Attn

variable (x0 : Vec Ideal S4x8192x1024 .bf16) (x1 : Vec Ideal S4x256x10752 .bf16) (x2 : Vec Ideal S2x4x8192x1024 .bf16)
  (x3 : Vec Ideal S4x8192x10752 .bf16) (x4 : Vec Ideal S4x64 .f32) (x5 : Vec Ideal S1x128 .f32) (x6 : Vec Ideal S_ .f32)

/-- The arrays' columns that the attention reads, by batch. -/
def qR (b : Fin 4) (n : Fin 8192) (c : Fin 1024) : EReal := x0 (ix3 b n c)
def kC (b : Fin 4) (n : Fin 256) (c : Fin 1024) : EReal := x1 (ix3 b n ⟨7168 + c.val, by omega⟩)
def kL (b : Fin 4) (n : Fin 8192) (c : Fin 1024) : EReal := x2 (ix4 1 b n c)
def vC (b : Fin 4) (n : Fin 256) (c : Fin 1024) : EReal := x1 (ix3 b n ⟨8192 + c.val, by omega⟩)
def vL (b : Fin 4) (n : Fin 8192) (c : Fin 1024) : EReal := x3 (ix3 b n ⟨8192 + c.val, by omega⟩)

/-- The logits. -/
theorem logit_apply (b : Fin 4) (h : Fin 16) (n : Fin 8192) (x : Fin 8448) :
    val_main_v32 x0 x1 x2 (ix4 b h n x) = (logit (qR x0 b n) (kC x1 b) (kL x2 b) h x * Ideal.log (Ideal.ofBits .f32 0x40000000#32) : EReal) := by
  rw [s_apply]
  congr 1
  refine Finset.sum_congr rfl fun d _ => ?_
  rw [q_apply, k_apply]
  unfold qR mix kC kL
  congr 1
  split
  · rfl
  · have e : (⟨x.val - 256, by omega⟩ : Fin 8192) = ⟨(x.val - 256) % 8192, Nat.mod_lt _ (by decide)⟩ := Fin.ext (Nat.mod_eq_of_lt (by omega)).symm
    rw [e]

/-- The values. -/
theorem val_apply (b : Fin 4) (h : Fin 8) (x : Fin 8448) (e : Fin 128) :
    val_main_v12 x1 x3 (ix4 b h x e) = mix (vC x1 b) (vL x3 b) x ⟨h.val * 128 + e.val, by omega⟩ := by
  rw [v_apply]
  unfold mix vC vL
  split
  · rfl
  · have e : (⟨x.val - 256, by omega⟩ : Fin 8192) = ⟨(x.val - 256) % 8192, Nat.mod_lt _ (by decide)⟩ := Fin.ext (Nat.mod_eq_of_lt (by omega)).symm
    rw [e]

/-- The word of two, and its logarithm. -/
theorem log_two : Ideal.log (Ideal.ofBits .f32 0x40000000#32) = ((Real.log 2 : ℝ) : EReal) := by
  have e : Ideal.ofBits .f32 0x40000000#32 = ((2 : ℝ) : EReal) := by
    simp [Ideal.ofBits, Ideal.ieee]
    rw [← EReal.coe_mul]
    norm_num
  rw [e, Ideal.log_coe, if_neg (by norm_num)]

theorem negInf : Ideal.ofBits .f32 0xFF800000#32 = (⊥ : EReal) := by
  simp [Ideal.ofBits, Ideal.ieee]

/-- One row of weights, its logits being the reals `S x * log 2`. -/
theorem weight (b : Fin 4) (h : Fin 16) (n : Fin 8192) (S : ℕ → ℝ)
    (hS : ∀ x : Fin 8448, logit (qR x0 b n) (kC x1 b) (kL x2 b) h x = ((S x : ℝ) : EReal)) (x : Fin 8448) :
    val_main_v43 x0 x1 x2 (ix4 b h n x) = (((2 : ℝ) ^ (S x - 0) / wsum S (fun _ => 1) 0 8448 : ℝ) : EReal) := by
  have hs : ∀ x, val_main_v32 x0 x1 x2 (ix4 b h n x) = ((S x * Real.log 2 : ℝ) : EReal) := fun x => by
    rw [logit_apply, hS, log_two, EReal.coe_mul]
  obtain ⟨M, hM⟩ := fold_max_real (n := 8447) fun x => S x * Real.log 2
  have hm : val_main_v33 x0 x1 x2 (ix3 b h n) = (M : EReal) := by
    rw [max_apply, negInf]
    simp only [hs]
    exact hM
  have he : ∀ x, val_main_v39 x0 x1 x2 (ix4 b h n x) = ((Real.exp (S x * Real.log 2 - M) : ℝ) : EReal) := fun x => by
    rw [e_apply, hs, hm, negInf, max_bot_left, ← EReal.coe_sub, Ideal.exp_coe]
  have hsum : (∑ y : Fin 8448, (val_main_v39 x0 x1 x2 (ix4 b h n y) : EReal)) = ((∑ y : Fin 8448, Real.exp (S y * Real.log 2 - M) : ℝ) : EReal) := by
    rw [coe_sum]
    exact Finset.sum_congr rfl fun y _ => he y
  rw [p_apply, he, hsum, div_real _ _ (Finset.sum_pos (fun _ _ => Real.exp_pos _) Finset.univ_nonempty).ne', exp_quot]

/-- The attention of a pair of maps: the difference of the two averages. -/
theorem attn_apply (b : Fin 4) (h : Fin 8) (n : Fin 8192) (e : Fin 128) (S T V : ℕ → ℝ) (l : ℝ)
    (hS : ∀ x : Fin 8448, logit (qR x0 b n) (kC x1 b) (kL x2 b) ⟨2 * h.val, by omega⟩ x = ((S x : ℝ) : EReal))
    (hT : ∀ x : Fin 8448, logit (qR x0 b n) (kC x1 b) (kL x2 b) ⟨2 * h.val + 1, by omega⟩ x = ((T x : ℝ) : EReal))
    (hV : ∀ x : Fin 8448, mix (vC x1 b) (vL x3 b) x ⟨h.val * 128 + e.val, by omega⟩ = ((V x : ℝ) : EReal))
    (hl : val_main_v28 x4 x6 ix0 = (l : EReal)) :
    val_main_v53 x0 x1 x2 x3 x4 x6 (ix4 b h n e) = ((soft S V - l * soft T V : ℝ) : EReal) := by
  rw [o_apply, ← soft_sub, coe_sum]
  refine Finset.sum_congr rfl fun x _ => ?_
  rw [w_apply, weight x0 x1 x2 b _ n S hS, weight x0 x1 x2 b _ n T hT, hl, val_apply, hV, ← EReal.coe_mul, ← EReal.coe_sub, ← EReal.coe_mul]
end Cert.AttnRefIdeal.Val
end
end
-- ==== Proof.Attn.Pre.lean ====
/-
The precondition: the elements that the attention reads are real numbers.
-/
module
public import proofs.«01_k».proof.Proof.Gen.Pre_finite
public import proofs.«01_k».proof.Proof.Attn.Reals
public import Idealize.ShloMosaic.Lib.Pointwise
@[expose] public section
set_option maxRecDepth 16384
noncomputable section
namespace Cert.Pre_finite.Val
open Cert.Pre_finite Cert.Pre_finite.Gen Idealize.ShloMosaic Idealize.ShloMosaic.TcCoe Idealize.SL.Sem Idealize.ShloMosaic.Pointwise Attn

theorem andi_one (a b : BitVec 1) : IntOp.andi a b = 1#1 ↔ a = 1#1 ∧ b = 1#1 := by revert a b; decide

/-- A conjunction over a whole array that is true is true at every element. -/
theorem all_of_reduce {s u : Shape} {axes : List (Fin s.rank)} (x : s.Idx → BitVec 1) (init : u.Idx → BitVec 1)
    (h : s.ReducesTo axes S_) (hu : 0 < u.numel) (j : S_.Idx) (e : Host.reduce IntOp.andi x init h hu j = 1#1) (i : s.Idx) : x i = 1#1 := by
  rw [Host.reduce_eq_foldl] at e
  have hm : i ∈ ((List.finRange s.numel).map s.rowMajor.symm).filter fun i => h.drop i = j := by
    rw [List.mem_filter]
    refine ⟨List.mem_map.mpr ⟨s.rowMajor i, List.mem_finRange _, by simp⟩, decide_eq_true (funext fun b => b.elim0)⟩
  have key : ∀ (l : List s.Idx) (a : BitVec 1), l.foldl (fun r i => IntOp.andi r (x i)) a = 1#1 → a = 1#1 ∧ ∀ i ∈ l, x i = 1#1 := by
    intro l
    induction l with
    | nil => exact fun a ha => ⟨ha, fun i hi => absurd hi List.not_mem_nil⟩
    | cons k l ih =>
      intro a ha
      obtain ⟨h1, h2⟩ := ih _ ha
      rw [andi_one] at h1
      refine ⟨h1.1, fun i hi => ?_⟩
      rcases List.mem_cons.mp hi with rfl | hi
      · exact h1.2
      · exact h2 i hi
  exact (key _ _ e).2 i hm

/-- Below infinity in absolute value: a real number. -/
theorem real_of_lt (x : EReal) (h : Ideal.cmp .olt (max x (-x)) (Ideal.ofBits .f32 0x7F800000#32) = 1#1) : IsReal x := by
  have e : Ideal.ofBits .f32 0x7F800000#32 = (⊤ : EReal) := by simp [Ideal.ofBits, Ideal.ieee]
  rw [e] at h
  have hx : max x (-x) < ⊤ := by
    by_contra hn
    simp [Ideal.cmp, hn] at h
  induction x with
  | bot => simp at hx
  | top => simp at hx
  | coe r => exact ⟨r, rfl⟩

theorem reals (x0 : FVec Ideal S4x8192x1024 .bf16) (x1 : FVec Ideal S4x256x10752 .bf16) (x2 : FVec Ideal S2x4x8192x1024 .bf16)
    (x3 : FVec Ideal S4x8192x10752 .bf16) (x4 : FVec Ideal S4x64 .f32) (x5 : FVec Ideal S1x128 .f32) (x6 : FVec Ideal S_ .f32)
    (h : Cert.Pre_finite.fn (F := Ideal) x0 x1 x2 x3 x4 x5 x6 = fun _ => 1#1) :
    (∀ b n c, IsReal (x0 (ix3 b n c))) ∧ (∀ b n (c : Fin 2048), IsReal (x1 (ix3 b n ⟨7168 + c.val, by omega⟩))) ∧
    (∀ b n c, IsReal (x2 (ix4 1 b n c))) ∧ (∀ b n (c : Fin 1024), IsReal (x3 (ix3 b n ⟨8192 + c.val, by omega⟩))) ∧
    (∀ i j, IsReal (x4 (ix2 i j))) ∧ IsReal (x6 ix0) := by
  have h0 := congrFun h ix0
  simp only [Cert.Pre_finite.fn, Cert.Pre_finite.fn_part1, andi, andi_one] at h0
  obtain ⟨⟨⟨⟨⟨a0, a1⟩, a2⟩, a3⟩, a4⟩, a6⟩ := h0
  refine ⟨fun b n c => ?_, fun b n c => ?_, fun b n c => ?_, fun b n c => ?_, fun i j => ?_, ?_⟩
  · exact real_of_lt _ (all_of_reduce _ _ _ _ _ a0 (ix3 b n c))
  · refine (congrArg IsReal ?_).mp (real_of_lt _ (all_of_reduce _ _ _ _ _ a1 (ix3 b n c)))
    pointwise
  · refine (congrArg IsReal ?_).mp (real_of_lt _ (all_of_reduce _ _ _ _ _ a2 (ix3 b n c)))
    pointwise
  · refine (congrArg IsReal ?_).mp (real_of_lt _ (all_of_reduce _ _ _ _ _ a3 (ix3 b n c)))
    pointwise
  · exact real_of_lt _ (all_of_reduce _ _ _ _ _ a4 (ix2 i j))
  · exact real_of_lt _ (all_of_reduce _ _ _ _ _ a6 ix0)
end Cert.Pre_finite.Val
end
end
-- ==== Proof.Attn.Array.lean ====
/-
The attention kernel's result array is the reference's.
-/
module
public import proofs.«01_k».proof.Proof.Attn.Out
public import proofs.«01_k».proof.Proof.Attn.Soft
public import proofs.«01_k».proof.Proof.Attn.Pre
@[expose] public section
set_option maxRecDepth 16384
noncomputable section
namespace Cert.AttnIdeal.Val
open Cert.AttnIdeal Cert.AttnIdeal.Gen Idealize.ShloMosaic Idealize.ShloMosaic.TcCoe Idealize.SL.Sem Idealize.ShloMosaic.Pointwise Attn
open Cert.AttnRefIdeal.Val (qR kC kL vC vL)
open Cert.AttnRefIdeal.Read (val_main_v77 val_main_v53 val_main_v28)

variable (m : (ℓ : Loc nD τ sig) → Buf (Elt Ideal) ℓ) (c : Dev nD)

/-- The arguments. -/
abbrev a0 : Vec Ideal S4x8192x1024 .bf16 := m ((c.tc : Thread nD τ).loc main_arg0)
abbrev a1 : Vec Ideal S4x256x10752 .bf16 := m ((c.tc : Thread nD τ).loc main_arg1)
abbrev a2 : Vec Ideal S2x4x8192x1024 .bf16 := m ((c.tc : Thread nD τ).loc main_arg2)
abbrev a3 : Vec Ideal S4x8192x10752 .bf16 := m ((c.tc : Thread nD τ).loc main_arg3)
abbrev a4 : Vec Ideal S4x64 .f32 := m ((c.tc : Thread nD τ).loc main_arg4)
abbrev a5 : Vec Ideal S1x128 .f32 := m ((c.tc : Thread nD τ).loc main_arg5)
abbrev a6 : Vec Ideal S_ .f32 := m ((c.tc : Thread nD τ).loc main_arg6)

/-- The batch, the pair of heads and the query rows of a point. -/
abbrev bt (t : Fin cfg0.N) : Fin 4 := ⟨t.val / 64, by have h : t.val < 256 := t.isLt; omega⟩
abbrev hd (t : Fin cfg0.N) : Fin 8 := ⟨t.val / 8 % 8, by omega⟩
abbrev rw' (t : Fin cfg0.N) (r : Fin 1024) : Fin 8192 := ⟨t.val % 8 * 1024 + r.val, by omega⟩

/-! ## The blocks of a point, from the arguments -/

theorem read0 (t : Fin cfg0.N) (r : Fin 1024) (d : Fin 128) :
    (iblk m c 0 t (ix3 0 r d) : EReal) = qR (a0 m c) (bt t) (rw' t r) ⟨(hd t).val * 128 + d.val, by have := (hd t).isLt; omega⟩ := by
  unfold qR
  blk_ext [iblk, V, idx t]

theorem read1 (t : Fin cfg0.N) (y : Fin 256) (d : Fin 128) :
    (iblk m c 1 t (ix3 0 y d) : EReal) = kC (a1 m c) (bt t) y ⟨(hd t).val * 128 + d.val, by have := (hd t).isLt; omega⟩ := by
  unfold kC
  blk_ext [iblk, V, idx t]

theorem read2 (t : Fin cfg0.N) (y : Fin 256) (d : Fin 128) :
    (iblk m c 2 t (ix3 0 y d) : EReal) = vC (a1 m c) (bt t) y ⟨(hd t).val * 128 + d.val, by have := (hd t).isLt; omega⟩ := by
  unfold vC
  blk_ext [iblk, V, idx t]

theorem read3 (t : Fin cfg0.N) (y : Fin 8192) (d : Fin 128) :
    (iblk m c 3 t (ix4 0 0 y d) : EReal) = kL (a2 m c) (bt t) y ⟨(hd t).val * 128 + d.val, by have := (hd t).isLt; omega⟩ := by
  unfold kL
  blk_ext [iblk, V, idx t]

theorem read4 (t : Fin cfg0.N) (y : Fin 8192) (d : Fin 128) :
    (iblk m c 4 t (ix3 0 y d) : EReal) = vL (a3 m c) (bt t) y ⟨(hd t).val * 128 + d.val, by have := (hd t).isLt; omega⟩ := by
  unfold vL
  blk_ext [iblk, V, idx t]

theorem read5 (t : Fin cfg0.N) (i : Fin 4) (j : Fin 64) : (iblk m c 5 t (ix2 i j) : EReal) = a4 m c (ix2 i j) := by
  blk_ext [iblk, V, idx t]

theorem read6 (t : Fin cfg0.N) (e : Fin 128) : (iblk m c 6 t (ix2 0 e) : EReal) = a5 m c (ix2 0 e) := by
  blk_ext [iblk, V, idx t]

theorem read7 (t : Fin cfg0.N) (e : Fin 128) : (iblk m c 7 t (ix2 0 e) : EReal) = a6 m c ix0 := by
  blk_simp [iblk, idx t]
  entry_read
  pointwise

/-- The precondition on the arguments. -/
def Fin' : Prop := Cert.Pre_finite.fn (F := Ideal) (a0 m c) (a1 m c) (a2 m c) (a3 m c) (a4 m c) (a5 m c) (a6 m c) = fun _ => 1#1

/-- **A point's block is the reference's.** -/
theorem point_eq (h : Fin' m c) (t : Fin cfg0.N) (r : Fin 1024) (e : Fin 128) :
    (outsAt0 m c t.val t.isLt).1 (ix3 0 r e) = val_main_v77 (a0 m c) (a1 m c) (a2 m c) (a3 m c) (a4 m c) (a5 m c) (a6 m c)
      (ix3 (bt t) (rw' t r) ⟨(hd t).val * 128 + e.val, by have := (hd t).isLt; omega⟩) := by
  obtain ⟨f0, f1, f2, f3, f4, f6⟩ := Cert.Pre_finite.Val.reals _ _ _ _ _ _ _ h
  have hQ : ∀ i, IsReal (qR (a0 m c) (bt t) (rw' t r) i) := fun i => f0 _ _ _
  have hC : ∀ y i, IsReal (kC (a1 m c) (bt t) y i) := fun y i => f1 (bt t) y ⟨i.val, by omega⟩
  have hL : ∀ y i, IsReal (kL (a2 m c) (bt t) y i) := fun y i => f2 _ _ _
  have hC' : ∀ y i, IsReal (vC (a1 m c) (bt t) y i) := fun y i => by
    have g := f1 (bt t) y ⟨1024 + i.val, by omega⟩
    have ei : (⟨7168 + (1024 + i.val), by omega⟩ : Fin 10752) = ⟨8192 + i.val, by omega⟩ := Fin.ext (by dsimp only; omega)
    unfold vC
    rw [← ei]
    exact g
  have hL' : ∀ y i, IsReal (vL (a3 m c) (bt t) y i) := fun y i => f3 (bt t) y i
  -- the logits of the two maps and the values, as reals
  obtain ⟨S, hS⟩ : ∃ S : ℕ → ℝ, ∀ x, logit (qR (a0 m c) (bt t) (rw' t r)) (kC (a1 m c) (bt t)) (kL (a2 m c) (bt t)) ⟨2 * (hd t).val + 0, by have := (hd t).isLt; omega⟩ x
      = ((S x : ℝ) : EReal) := ⟨_, fun x => (IsReal.logit hQ hC hL _ x).eq⟩
  obtain ⟨T, hT⟩ : ∃ T : ℕ → ℝ, ∀ x, logit (qR (a0 m c) (bt t) (rw' t r)) (kC (a1 m c) (bt t)) (kL (a2 m c) (bt t)) ⟨2 * (hd t).val + 1, by have := (hd t).isLt; omega⟩ x
      = ((T x : ℝ) : EReal) := ⟨_, fun x => (IsReal.logit hQ hC hL _ x).eq⟩
  obtain ⟨W, hW⟩ : ∃ W : Fin 128 → ℕ → ℝ, ∀ i x, mix (vC (a1 m c) (bt t)) (vL (a3 m c) (bt t)) x ⟨(hd t).val * 128 + i.val, by have := (hd t).isLt; omega⟩
      = ((W i x : ℝ) : EReal) := ⟨_, fun i x => (IsReal.mix hC' hL' x _).eq⟩
  -- the factor of the second map
  have hl : IsReal (val_main_v28 (a4 m c) (a6 m c) ix0) := by
    rw [Cert.AttnRefIdeal.Val.lam_apply]
    obtain ⟨u, hu⟩ := IsReal.sum Finset.univ (fun x : Fin 64 => (a4 m c (ix2 0 x) * a4 m c (ix2 1 x) : EReal)) fun x => (f4 _ _).mul (f4 _ _)
    obtain ⟨v, hv⟩ := IsReal.sum Finset.univ (fun x : Fin 64 => (a4 m c (ix2 2 x) * a4 m c (ix2 3 x) : EReal)) fun x => (f4 _ _).mul (f4 _ _)
    obtain ⟨w, hw⟩ := f6
    rw [hu, hv, hw, Ideal.exp_coe, Ideal.exp_coe, ← EReal.coe_sub, ← EReal.coe_add]
    exact ⟨_, rfl⟩
  obtain ⟨l, hl⟩ := hl
  have ho : ∀ i : Fin 128, val_main_v53 (a0 m c) (a1 m c) (a2 m c) (a3 m c) (a4 m c) (a6 m c) (ix4 (bt t) (hd t) (rw' t r) i)
      = ((soft S (W i) - l * soft T (W i) : ℝ) : EReal) := fun i =>
    Cert.AttnRefIdeal.Val.attn_apply _ _ _ _ _ _ (bt t) (hd t) (rw' t r) i S T (W i) l (fun x => hS x) (fun x => hT x) (fun x => hW i x) hl
  have hm : ∀ (p : Fin 2) (i : Fin 128) (U : ℕ → ℝ),
      (∀ x, logit (qR (a0 m c) (bt t) (rw' t r)) (kC (a1 m c) (bt t)) (kL (a2 m c) (bt t)) ⟨2 * (hd t).val + p.val, by have := (hd t).isLt; omega⟩ x = ((U x : ℝ) : EReal)) → _ :=
    fun p i U hU => map_quot (iblk m c 0 t) (iblk m c 1 t) (iblk m c 2 t) (iblk m c 3 t) (iblk m c 4 t) _ _ _ _ _ (hd t) r
      (fun d => read0 m c t r d) (fun y d => read1 m c t y d) (fun y d => read3 m c t y d) (fun y d => read2 m c t y d) (fun y d => read4 m c t y d)
      p i U (W i) hU (fun x => hW i x)
  have hlam := Cert.AttnRefIdeal.Val.lam_apply (a4 m c) (a6 m c)
  rw [hl] at hlam
  rw [Cert.AttnRefIdeal.Val.out_apply, Cert.AttnRefIdeal.Val.unit_apply, Cert.AttnRefIdeal.Val.norm_apply, Cert.AttnRefIdeal.Val.sq_apply]
  rw [block_eq, held_eq, tail_apply _ _ _ _ r e (fun i => val_main_v53 (a0 m c) (a1 m c) (a2 m c) (a3 m c) (a4 m c) (a6 m c) (ix4 (bt t) (hd t) (rw' t r) i))
    (fun i => ?_)]
  · rw [read6, read7]
  · have h0 := hm 0 i S hS
    have h1 := hm 1 i T hT
    simp only [read5, read7]
    rw [← hlam, ho, EReal.coe_sub, EReal.coe_mul, ← h0, ← h1]
    simp only [Fin.val_zero, Fin.val_one, Nat.mul_zero, Nat.mul_one, Nat.zero_add]

/-- The result array is `G` if every point's block is `G`'s. -/
theorem array_of (G : Vec Ideal S4x8192x1024 .bf16)
    (hG : ∀ (t : Fin cfg0.N) (r : Fin 1024) (e : Fin 128), (outsAt0 m c t.val t.isLt).1 (ix3 0 r e)
      = G (ix3 (bt t) (rw' t r) ⟨(hd t).val * 128 + e.val, by have := (hd t).isLt; omega⟩)) :
    (dats m 0 c).arrAt 8 cfg0.N = G := by
  refine (dats m 0 c).arrAt_eq_of_covers 8 _ (by decide +kernel) fun t hf y => ?_
  blk_simp
  rw [after0_8]
  idx_vars y
  obtain rfl : y0 = 0 := Subsingleton.elim _ _
  rw [hG t y1 y2]
  blk_ext [idx t]

/-- **The kernel's result is the reference's.** -/
theorem array_eq (h : Fin' m c) :
    (dats m 0 c).arrAt 8 cfg0.N = val_main_v77 (a0 m c) (a1 m c) (a2 m c) (a3 m c) (a4 m c) (a5 m c) (a6 m c) :=
  array_of m c _ (point_eq m c h)
end Cert.AttnIdeal.Val
end
end
-- ==== Proof.Up.Body.lean ====
/- What one grid point of the up projection does: a point of a fresh expert loads the expert's two weight blocks, a later
   point of the same expert uses the blocks it finds, and a point past the used tiles writes zeros. -/
module

public import proofs.«01_k».proof.Proof.Gen.UpIdeal.Skeleton
public import proofs.«01_k».proof.Proof.Gen.UpIdeal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.VecWindow
public import Idealize.ShloMosaic.Lib.Writes
public import Idealize.ShloMosaic.Lib.Ring
public import Idealize.ShloMosaic.Lib.Exec
public import Idealize.ShloMosaic.Lib.Tactic

@[expose] public section

set_option maxRecDepth 16384
set_option Elab.async false

noncomputable section

namespace Cert.UpIdeal.Run

open Cert.UpIdeal Cert.UpIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The two tables and the two blocks of weights kept between the points. -/
abbrev experts : Memref sig .tc .smem S37 .i32 := Memref.whole main_arg0
abbrev used : Memref sig .tc .smem S1 .i32 := Memref.whole main_arg1
abbrev kept1 : Memref sig .tc .vmem S2048x512 .bf16 := Memref.whole cc0_scratch0
abbrev kept3 : Memref sig .tc .vmem S2048x512 .bf16 := Memref.whole cc0_scratch1

/-- The number of used tiles, as a point reads it. -/
abbrev nUsed (T1 : S1.Idx → Elt F .i32) : BitVec 32 :=
  View.readAt (Elt F) used.view (Rect.unit (s := S1) ![0] S1.size inb_S1_S1_0).toLoadRect T1 (Shape.Idx.first (numel1_S1.symm ▸ Nat.one_pos))
/-- The expert of a point's tile, and of the tile before it. -/
abbrev expertAt (T0 : S37.Idx → Elt F .i32) (i : grid0.Coords) : BitVec 32 :=
  View.readAt (Elt F) experts.view (Rect.unit (s := S37) (k0_off1 i) S1.size (k0_off1_inb i)).toLoadRect T0 (Shape.Idx.first (numel1_S1.symm ▸ Nat.one_pos))
abbrev expertBefore (T0 : S37.Idx → Elt F .i32) (i : grid0.Coords) : BitVec 32 :=
  View.readAt (Elt F) experts.view (Rect.unit (s := S37) (k0_off2 i) S1.size (k0_off2_inb i)).toLoadRect T0 (Shape.Idx.first (numel1_S1.symm ▸ Nat.one_pos))
/-- The test that a used tile's expert is another than the tile's before it. -/
abbrev freshBit (T0 : S37.Idx → Elt F .i32) (T1 : S1.Idx → Elt F .i32) (i : grid0.Coords) : BitVec 1 :=
  Scalar.cmpi .ne (Scalar.extui (Scalar.andi (Scalar.cmpi .slt (BitVec.ofNat 32 (i 1).val) (nUsed T1))
    (Scalar.ori (Scalar.cmpi .eq (BitVec.ofNat 32 (i 1).val) 0#32) (Scalar.cmpi .ne (expertAt T0 i) (expertBefore T0 i))))) 0#32

/-- The kept blocks are whole buffers, so reading them gives their contents. -/
theorem read_kept1 (f : S2048x512.Idx → Elt F .bf16) : View.read (Elt F) kept1.view f = f := rfl
theorem read_kept3 (f : S2048x512.Idx → Elt F .bf16) : View.read (Elt F) kept3.view f = f := rfl

section
variable (c : Dev nD) (i : grid0.Coords) (arg4 : Memref sig .tc .vmem S1024x2048 .bf16) (harg4 : arg4.IsWhole)
  (arg5 : Memref sig .tc .vmem S1x2048x512 .f32) (harg5 : arg5.IsWhole) (arg6 : Memref sig .tc .vmem S1x2048x512 .f32) (harg6 : arg6.IsWhole)
  (arg7 : Memref sig .tc .vmem S1024x512 .bf16) (harg7 : arg7.IsWhole) (T0 : S37.Idx → Elt F .i32) (T1 : S1.Idx → Elt F .i32)
  (x0 : S1024x2048.Idx → Elt F .bf16) (x1 x2 : S1x2048x512.Idx → Elt F .f32)

/-- What a point holds while it runs, the kept weights and the result apart. -/
abbrev inputs (q : sProp 𝕄) : sProp 𝕄 :=
  iprop((arg4.view.loc (c : Thread nD τ) ↦[arg4.view.set]{fullShare} arg4.view.rep x0)
    ∗ (arg5.view.loc (c : Thread nD τ) ↦[arg5.view.set]{fullShare} arg5.view.rep x1)
    ∗ (arg6.view.loc (c : Thread nD τ) ↦[arg6.view.set]{fullShare} arg6.view.rep x2)
    ∗ (experts.view.loc (c : Thread nD τ) ↦{fullShare.right} T0)
    ∗ (used.view.loc (c : Thread nD τ) ↦{fullShare.right} T1) ∗ q)

/-- The body at a point. -/
abbrev bodyOn : Prog (TpuEff nD τ sig (Elt F) Λ₀ .tc) PUnit :=
  cc0_swiglu_up i experts (Memref.isWhole_whole _) used (Memref.isWhole_whole _) arg4 harg4 arg5 harg5 arg6 harg6 arg7 harg7
    kept1 (Memref.isWhole_whole _) kept3 (Memref.isWhole_whole _)

/-- What a point leaves: its result, and the kept weights. -/
abbrev left (y : S1024x512.Idx → Elt F .bf16) (b0 b1 : S2048x512.Idx → Elt F .bf16) : sProp 𝕄 :=
  iprop((∃ f, ⌜arg7.view.read (Elt F) f = y⌝ ∗ (arg7.view.loc (c : Thread nD τ) ↦[arg7.view.set]{fullShare} f))
    ∗ (kept1.view.loc (c : Thread nD τ) ↦{fullShare} b0) ∗ (kept3.view.loc (c : Thread nD τ) ↦{fullShare} b1))

set_option maxHeartbeats 4000000 in
/-- A point of a fresh expert. -/
theorem run_fresh (a0 a1 : S2048x512.Idx → Elt F .bf16) (hc0 : freshBit T0 T1 i = 1#1) (k0_h2 : k0_cond2 i (nUsed T1) = 1#1) (k0_h3 : ¬k0_cond3 i (nUsed T1) = 1#1)
    (K : PUnit → sProp 𝕄) :
    inputs c arg4 arg5 arg6 T0 T1 x0 x1 x2 iprop((∃ d, owns (c : Thread nD τ) arg7 fullShare d)
        ∗ (kept1.view.loc (c : Thread nD τ) ↦{fullShare} a0) ∗ (kept3.view.loc (c : Thread nD τ) ↦{fullShare} a1)
        ∗ (inputs c arg4 arg5 arg6 T0 T1 x0 x1 x2 (left c arg7 (k0_pay3 x0 (k0_pay1 x1) (k0_pay2 x2)) (k0_pay1 x1) (k0_pay2 x2)) -∗ K ⟨⟩))
      ⊢ wp frame (wpE (defs₀ (F := F)) Variants.none c none) Set.univ (bodyOn i arg4 harg4 arg5 harg5 arg6 harg6 arg7 harg7) K := by
  unfold owns inputs left bodyOn
  rw [cc0_swiglu_up_eq_skeleton]; unfold cc0_swiglu_up_skel
  iintro ⟨H0, H1, H2, HT0, HT1, ⟨%d3, %f3, -, HO3⟩, HS0, HS1, Hk⟩
  have hS0 : kept1.IsWhole := Memref.isWhole_whole _
  have hS1 : kept3.IsWhole := Memref.isWhole_whole _
  have hT0 : experts.IsWhole := Memref.isWhole_whole _
  have hT1 : used.IsWhole := Memref.isWhole_whole _
  sl_exec! (disch := first | (guard_target = Scalar.cmpi _ _ _ = _; exact hc0) | (guard_target = k0_cond2 _ _ = _; exact k0_h2) | (guard_target = ¬(k0_cond3 _ _ = _); exact k0_h3))
  sl_step
  iapply Hk
  isplitl [H0]; · iexact H0
  isplitl [H1]; · iexact H1
  isplitl [H2]; · iexact H2
  isplitl [HT0]; · iexact HT0
  isplitl [HT1]; · iexact HT1
  isplitl [HO3]
  · iexists _; isplitr; swap
    · iexact HO3
    · ipureintro
      unfold run_fresh.sl.HO3_1 run_fresh.sl.v20 run_fresh.sl.v22 run_fresh.sl.HS0_1 run_fresh.sl.HS1_1
      rw [View.read_writes_full, View.readCov_full, View.readCov_full, View.readAt_full, View.readAt_full, View.readAt_full, View.read_rep, View.read_rep, View.read_rep]
  have e0 : kept1.view.writes (Elt F) kept1.view.junk (run_fresh.sl.HS0_1 arg5 x1) = k0_pay1 x1 := by
    unfold run_fresh.sl.HS0_1
    refine (read_kept1 _).symm.trans ?_
    rw [View.read_writes_full, View.readAt_full, View.read_rep]
  have e1 : kept3.view.writes (Elt F) kept3.view.junk (run_fresh.sl.HS1_1 arg6 x2) = k0_pay2 x2 := by
    unfold run_fresh.sl.HS1_1
    refine (read_kept3 _).symm.trans ?_
    rw [View.read_writes_full, View.readAt_full, View.read_rep]
  isplitl [HS0]; · rw [← e0]; iexact HS0
  rw [← e1]; iexact HS1

set_option maxHeartbeats 4000000 in
/-- A used tile of the expert of the tile before it. -/
theorem run_same (a0 a1 : S2048x512.Idx → Elt F .bf16) (hc0 : ¬freshBit T0 T1 i = 1#1) (k0_h2 : k0_cond2 i (nUsed T1) = 1#1) (k0_h3 : ¬k0_cond3 i (nUsed T1) = 1#1)
    (K : PUnit → sProp 𝕄) :
    inputs c arg4 arg5 arg6 T0 T1 x0 x1 x2 iprop((∃ d, owns (c : Thread nD τ) arg7 fullShare d)
        ∗ (kept1.view.loc (c : Thread nD τ) ↦{fullShare} a0) ∗ (kept3.view.loc (c : Thread nD τ) ↦{fullShare} a1)
        ∗ (inputs c arg4 arg5 arg6 T0 T1 x0 x1 x2 (left c arg7 (k0_pay3 x0 a0 a1) a0 a1) -∗ K ⟨⟩))
      ⊢ wp frame (wpE (defs₀ (F := F)) Variants.none c none) Set.univ (bodyOn i arg4 harg4 arg5 harg5 arg6 harg6 arg7 harg7) K := by
  unfold owns inputs left bodyOn
  rw [cc0_swiglu_up_eq_skeleton]; unfold cc0_swiglu_up_skel
  iintro ⟨H0, H1, H2, HT0, HT1, ⟨%d3, %f3, -, HO3⟩, HS0, HS1, Hk⟩
  have hS0 : kept1.IsWhole := Memref.isWhole_whole _
  have hS1 : kept3.IsWhole := Memref.isWhole_whole _
  have hT0 : experts.IsWhole := Memref.isWhole_whole _
  have hT1 : used.IsWhole := Memref.isWhole_whole _
  sl_exec! (disch := first | (guard_target = ¬(Scalar.cmpi _ _ _ = _); exact hc0) | (guard_target = k0_cond2 _ _ = _; exact k0_h2) | (guard_target = ¬(k0_cond3 _ _ = _); exact k0_h3))
  sl_step
  iapply Hk
  isplitl [H0]; · iexact H0
  isplitl [H1]; · iexact H1
  isplitl [H2]; · iexact H2
  isplitl [HT0]; · iexact HT0
  isplitl [HT1]; · iexact HT1
  isplitl [HO3]
  · iexists _; isplitr; swap
    · iexact HO3
    · ipureintro
      unfold run_same.sl.HO3_1
      rw [View.read_writes_full, View.readAt_full, View.readAt_full, View.readAt_full, View.read_rep, read_kept1, read_kept3]
  isplitl [HS0]; · iexact HS0
  iexact HS1

set_option maxHeartbeats 4000000 in
/-- A tile past the used ones. -/
theorem run_idle (a0 a1 : S2048x512.Idx → Elt F .bf16) (hc0 : ¬freshBit T0 T1 i = 1#1) (k0_h2 : ¬k0_cond2 i (nUsed T1) = 1#1) (k0_h3 : k0_cond3 i (nUsed T1) = 1#1)
    (K : PUnit → sProp 𝕄) :
    inputs c arg4 arg5 arg6 T0 T1 x0 x1 x2 iprop((∃ d, owns (c : Thread nD τ) arg7 fullShare d)
        ∗ (kept1.view.loc (c : Thread nD τ) ↦{fullShare} a0) ∗ (kept3.view.loc (c : Thread nD τ) ↦{fullShare} a1)
        ∗ (inputs c arg4 arg5 arg6 T0 T1 x0 x1 x2 (left c arg7 (k0_pay4 (F := F)) a0 a1) -∗ K ⟨⟩))
      ⊢ wp frame (wpE (defs₀ (F := F)) Variants.none c none) Set.univ (bodyOn i arg4 harg4 arg5 harg5 arg6 harg6 arg7 harg7) K := by
  unfold owns inputs left bodyOn
  rw [cc0_swiglu_up_eq_skeleton]; unfold cc0_swiglu_up_skel
  iintro ⟨H0, H1, H2, HT0, HT1, ⟨%d3, %f3, -, HO3⟩, HS0, HS1, Hk⟩
  have hS0 : kept1.IsWhole := Memref.isWhole_whole _
  have hS1 : kept3.IsWhole := Memref.isWhole_whole _
  have hT0 : experts.IsWhole := Memref.isWhole_whole _
  have hT1 : used.IsWhole := Memref.isWhole_whole _
  sl_exec! (disch := first | (guard_target = ¬(Scalar.cmpi _ _ _ = _); exact hc0) | (guard_target = ¬(k0_cond2 _ _ = _); exact k0_h2) | (guard_target = k0_cond3 _ _ = _; exact k0_h3))
  sl_step
  iapply Hk
  isplitl [H0]; · iexact H0
  isplitl [H1]; · iexact H1
  isplitl [H2]; · iexact H2
  isplitl [HT0]; · iexact HT0
  isplitl [HT1]; · iexact HT1
  isplitl [HO3]
  · iexists _; isplitr; swap
    · iexact HO3
    · ipureintro
      unfold run_idle.sl.HO3_1
      rw [View.read_writes_full]
  isplitl [HS0]; · iexact HS0
  iexact HS1

end
end Cert.UpIdeal.Run
end
-- ==== Proof.Up.Points.lean ====
/- The points of the up projection's grid and the words of its two tables: which points are of a used tile, whose expert is
   the expert of the tile before, and which blocks of the arrays a point is handed. -/
module

public import proofs.«01_k».proof.Proof.Up.Body
public import Idealize.ShloMosaic.Lib.Affine
public import Idealize.ShloMosaic.Lib.Decide
public import Idealize.ShloMosaic.Lib.Pointwise
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.VecWindow
public import Idealize.ShloMosaic.Lib.Writes
public import Idealize.ShloMosaic.Lib.Ring
public import Idealize.ShloMosaic.Lib.Exec
public import Idealize.ShloMosaic.Lib.Tactic

@[expose] public section

set_option maxRecDepth 16384
set_option Elab.async false

noncomputable section

namespace Cert.UpIdeal.Run

open Cert.UpIdeal Cert.UpIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- Whether a point's tile is a used one. -/
abbrev Active (i : grid0.Coords) (T1 : S1.Idx → Elt F .i32) : Prop := k0_cond2 i (nUsed T1) = 1#1

theorem bit_widened : ∀ b : BitVec 1, Scalar.cmpi .ne (Scalar.extui b : BitVec 32) 0#32 = 1#1 ↔ b = 1#1 := by decide
theorem bit_flipped : ∀ b : BitVec 1, Scalar.cmpi .ne (Scalar.extui (Scalar.xori b 1#1) : BitVec 32) 0#32 = 1#1 ↔ ¬b = 1#1 := by decide

theorem cond2_iff (i : grid0.Coords) (v : BitVec 32) : k0_cond2 i v = 1#1 ↔ Scalar.cmpi .slt (BitVec.ofNat 32 (i 1).val) v = 1#1 := bit_widened _
theorem cond3_iff (i : grid0.Coords) (v : BitVec 32) : k0_cond3 i v = 1#1 ↔ ¬k0_cond2 i v = 1#1 :=
  (bit_flipped _).trans (not_congr (cond2_iff i v).symm)

theorem tile_toInt : ∀ n : Fin 37, (BitVec.ofNat 32 n.val).toInt = (n.val : ℤ) := by decide +kernel

/-- A point's tile is used when its number is below the number of used tiles. -/
theorem active_iff (i : grid0.Coords) (v : BitVec 32) : k0_cond2 i v = 1#1 ↔ ((i 1).val : ℤ) < v.toInt := by
  rw [cond2_iff, ← tile_toInt (i 1)]
  show BitVec.ofBool (BitVec.slt _ _) = 1#1 ↔ _
  rw [BitVec.slt_eq_decide]
  by_cases h : (BitVec.ofNat 32 (i 1).val).toInt < v.toInt <;> simp [h]

/-- A used tile is not fresh just when it isn't the first and its expert is the expert before it. -/
theorem not_fresh (T0 : S37.Idx → Elt F .i32) (T1 : S1.Idx → Elt F .i32) (i : grid0.Coords) (ha : Active i T1) (hf : ¬freshBit T0 T1 i = 1#1) :
    (i 1).val ≠ 0 ∧ expertAt T0 i = expertBefore T0 i := by
  have h1 := (cond2_iff i _).1 ha
  rw [bit_widened] at hf
  unfold Scalar.andi at hf
  rw [h1] at hf
  constructor
  · intro h0; apply hf; rw [h0]
    generalize Scalar.cmpi CmpIPredicate.ne (expertAt T0 i) (expertBefore T0 i) = b
    revert b; decide
  · by_contra hne; apply hf
    have h2 : Scalar.cmpi .ne (expertAt T0 i) (expertBefore T0 i) = 1#1 := by
      show BitVec.ofBool (_ != _) = 1#1
      rw [bne_iff_ne.2 hne]; rfl
    rw [h2]
    generalize Scalar.cmpi CmpIPredicate.eq (BitVec.ofNat 32 (i 1).val) 0#32 = b
    revert b; decide

/-- A fresh tile is a used one. -/
theorem fresh_active (T0 : S37.Idx → Elt F .i32) (T1 : S1.Idx → Elt F .i32) (i : grid0.Coords) (hf : freshBit T0 T1 i = 1#1) : Active i T1 := by
  rw [bit_widened] at hf
  refine (cond2_iff i _).2 ?_
  revert hf
  generalize Scalar.cmpi .slt (BitVec.ofNat 32 (i 1).val) (nUsed T1) = a
  generalize Scalar.ori _ _ = b
  revert a b; decide

theorem expertAt_eq (T0 : S37.Idx → Elt F .i32) (i : grid0.Coords) : expertAt T0 i = T0 (ix1 (i 1)) := by
  show T0 _ = T0 _
  refine congrArg T0 ?_
  funext a
  obtain rfl : a = (0 : Fin 1) := Subsingleton.elim (α := Fin 1) a 0
  apply Fin.ext
  show k0_off1 i 0 + 1 * 0 = (i 1).val
  rw [k0_off1_eq]; rfl

theorem before_word : ∀ n : Fin 37, (Scalar.indexCast (Scalar.maxsi (Scalar.subi (BitVec.ofNat 32 n.val) 1#32) 0#32) : BitVec 32).toNat = n.val - 1 := by decide +kernel

theorem expertBefore_eq (T0 : S37.Idx → Elt F .i32) (i : grid0.Coords) :
    expertBefore T0 i = T0 (ix1 ⟨(i 1).val - 1, by have : (i 1).val < 37 := (i 1).isLt; omega⟩) := by
  show T0 _ = T0 _
  refine congrArg T0 ?_
  funext a
  obtain rfl : a = (0 : Fin 1) := Subsingleton.elim (α := Fin 1) a 0
  apply Fin.ext
  show k0_off2 i 0 + 1 * 0 = (i 1).val - 1
  exact (before_word (i 1))

/-- A point's tile and its chunk of columns. -/
theorem tile_of : ∀ t : Fin grid0.N, (grid0.coords t 1).val = t.val % 37 := by decide +kernel
theorem chunk_of : ∀ t : Fin grid0.N, (grid0.coords t 0).val = t.val / 37 := by decide +kernel

/-- The two tables together. -/
def tabs (T0 : S37.Idx → Elt F .i32) (T1 : S1.Idx → Elt F .i32) : pre0.Contents (Elt F) :=
  fun | ⟨0, _⟩ => T0 | ⟨1, _⟩ => T1 | ⟨_ + 2, h⟩ => absurd h (by simp)

/-- The tile whose rows a point is handed: its own, the last used one at most. -/
def rowsOf (i : grid0.Coords) (v : BitVec 32) : ℕ := (Scalar.minsi (BitVec.ofNat 32 (i 1).val) (Scalar.maxsi (Scalar.subi v 1#32) 0#32)).toNat

theorem rows_idx (T0 : S37.Idx → Elt F .i32) (T1 : S1.Idx → Elt F .i32) (i : grid0.Coords) :
    cc0_transform_0 inb_S1_S1_0 numel1_S1 (tabs T0 T1) i = ![rowsOf i (nUsed T1), 0] := rfl
theorem weights1_idx (T0 : S37.Idx → Elt F .i32) (T1 : S1.Idx → Elt F .i32) (i : grid0.Coords) :
    cc0_transform_1 k0_off1_inb numel1_S1 (tabs T0 T1) i = ![(expertAt T0 i).toNat, 0, (BitVec.ofNat 32 (i 0).val).toNat] := rfl
theorem weights3_idx (T0 : S37.Idx → Elt F .i32) (T1 : S1.Idx → Elt F .i32) (i : grid0.Coords) :
    cc0_transform_2 k0_off1_inb numel1_S1 (tabs T0 T1) i = ![(expertAt T0 i).toNat, 0, (BitVec.ofNat 32 (i 0).val).toNat] := rfl

theorem chunk_word (i : grid0.Coords) : (BitVec.ofNat 32 (i 0).val).toNat = (i 0).val := by
  have : (i 0).val < 11 := (i 0).isLt
  rw [BitVec.toNat_ofNat, Nat.mod_eq_of_lt (by omega)]
theorem tile_word (i : grid0.Coords) : (BitVec.ofNat 32 (i 1).val).toNat = (i 1).val := by
  have : (i 1).val < 37 := (i 1).isLt
  rw [BitVec.toNat_ofNat, Nat.mod_eq_of_lt (by omega)]

/-- The rows' tile, from the difference of the number of used tiles and one. -/
theorem rows_toInt (i : grid0.Coords) (v : BitVec 32) (e : ℤ) (he : Affine.IsInt (Scalar.subi v 1#32) e) :
    (rowsOf i v : ℤ) = min ((i 1).val : ℤ) (max e 0) := by
  have hi : (i 1).val < 37 := (i 1).isLt
  have h1 : Affine.IsInt (BitVec.ofNat 32 (i 1).val) ((i 1).val : ℤ) := Affine.ofNat _ (by omega)
  have h0 : Affine.IsInt 0#32 0 := Affine.ofNat _ (by omega)
  exact Affine.toNat_of (Affine.minsi h1 (Affine.maxsi he h0 rfl) rfl) (by omega)

theorem rows_le (i : grid0.Coords) (v : BitVec 32) : rowsOf i v ≤ (i 1).val := by
  have h := rows_toInt i v _ (Affine.word _)
  omega

/-- A used point is handed its own tile. -/
theorem rows_active (i : grid0.Coords) (v : BitVec 32) (h : k0_cond2 i v = 1#1) : rowsOf i v = (i 1).val := by
  rw [active_iff] at h
  have hv := BitVec.toInt_lt (x := v)
  have h := rows_toInt i v (v.toInt - 1) (Affine.subi (Affine.word _) (Affine.ofNat 1 (e := 1) (by omega)) (by have := BitVec.toInt_lt (x := v); omega))
  omega

/-- Every block is inside its array when every expert is one of the sixteen. -/
theorem ok_of (T0 : S37.Idx → Elt F .i32) (T1 : S1.Idx → Elt F .i32) (h : ∀ i, (T0 i : BitVec 32).toNat < 16) : ok0 (F := F) (tabs T0 T1) := by
  have hw : ∀ (i : grid0.Coords) (a : Fin 3), ((![(expertAt T0 i).toNat, 0, (BitVec.ofNat 32 (i 0).val).toNat] : Fin 3 → ℕ) a + 1) * S1x2048x512.size a ≤ S16x2048x5632.size a := by
    intro i a
    have h0 : (i 0).val < 11 := (i 0).isLt
    have he : (expertAt T0 i).toNat < 16 := by rw [expertAt_eq]; exact h _
    rw [chunk_word]
    fin_cases a
    · show ((expertAt T0 i).toNat + 1) * 1 ≤ 16; omega
    · show (0 + 1) * 2048 ≤ 2048; omega
    · show ((i 0).val + 1) * 512 ≤ 5632; omega
  refine ⟨fun i => ⟨?_, .inr (Affine.block_words_dvd (s := S37888x2048) (p := EltTy.packing .bf16) (by decide) (by decide))⟩,
    fun i => ⟨fun a => ?_, .inl rfl⟩, fun i => ⟨fun a => ?_, .inl rfl⟩⟩
  · rw [rows_idx]
    have := rows_le i (nUsed T1)
    have hi : (i 1).val < 37 := (i 1).isLt
    intro a
    fin_cases a
    · show (rowsOf i (nUsed T1) + 1) * 1024 ≤ 37888; omega
    · show (0 + 1) * 2048 ≤ 2048; omega
  · rw [weights1_idx]; exact hw i a
  · rw [weights3_idx]; exact hw i a

end Cert.UpIdeal.Run
end
-- ==== Proof.Up.Frame.lean ====
/- The run of the up projection at any tables: every point's body keeps the kept weights those of the point's expert, so each
   block of the result is the product of the point's rows and its expert's weights, or zeros past the used tiles. -/
module

public import proofs.«01_k».proof.Proof.Up.Points
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.VecWindow
public import Idealize.ShloMosaic.Lib.Writes
public import Idealize.ShloMosaic.Lib.Ring
public import Idealize.ShloMosaic.Lib.Exec
public import Idealize.ShloMosaic.Lib.Tactic
public import Idealize.ShloMosaic.Adequacy
public import Idealize.ShloMosaic.Init

@[expose] public section

set_option maxRecDepth 16384
set_option Elab.async false

noncomputable section

namespace Cert.UpIdeal.Run

open Cert.UpIdeal Cert.UpIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

section
variable (T0 : S37.Idx → Elt F .i32) (T1 : S1.Idx → Elt F .i32) (hok : ok0 (F := F) (tabs T0 T1))

/-- The pipeline at the tables. -/
def adm : (pcfg0 (F := F)).Adm := ⟨tabs T0 T1, hok⟩
abbrev cfgA : Pipeline.Cfg sig Λ₀ := cfg0 (F := F) (adm T0 T1 hok)
abbrev pcs : Fin 1 → Pipeline.Cfg sig Λ₀ := Pipeline.pin (pcfgs (F := F)) fun _ => adm T0 T1 hok

variable (m : (ℓ : Loc nD τ sig) → Buf (Elt F) ℓ) (ρ : Dev nD → PrngReg)

/-- A point's coordinates, and the staging buffers it is handed. -/
abbrev crd (t : Fin (cfgA T0 T1 hok).N) : (cfgA T0 T1 hok).grid.Coords := (cfgA T0 T1 hok).grid.coords t
abbrev ms0 (t : Fin (cfgA T0 T1 hok).N) : Memref sig .tc .vmem S1024x2048 .bf16 := spec0_0.stage ((cfgA T0 T1 hok).slots t (0 : Fin 4))
abbrev hs0 (t : Fin (cfgA T0 T1 hok).N) : (ms0 T0 T1 hok t).IsWhole := hstage0_0 (((cfgA T0 T1 hok).slots t (0 : Fin 4)).cast nbuf0_0)
abbrev ms1 (t : Fin (cfgA T0 T1 hok).N) : Memref sig .tc .vmem S1x2048x512 .f32 := spec0_1.stage ((cfgA T0 T1 hok).slots t (1 : Fin 4))
abbrev hs1 (t : Fin (cfgA T0 T1 hok).N) : (ms1 T0 T1 hok t).IsWhole := hstage0_1 (((cfgA T0 T1 hok).slots t (1 : Fin 4)).cast nbuf0_1)
abbrev ms2 (t : Fin (cfgA T0 T1 hok).N) : Memref sig .tc .vmem S1x2048x512 .f32 := spec0_2.stage ((cfgA T0 T1 hok).slots t (2 : Fin 4))
abbrev hs2 (t : Fin (cfgA T0 T1 hok).N) : (ms2 T0 T1 hok t).IsWhole := hstage0_2 (((cfgA T0 T1 hok).slots t (2 : Fin 4)).cast nbuf0_2)
abbrev ms3 (t : Fin (cfgA T0 T1 hok).N) : Memref sig .tc .vmem S1024x512 .bf16 := spec0_3.stage ((cfgA T0 T1 hok).slots t (3 : Fin 4))
abbrev hs3 (t : Fin (cfgA T0 T1 hok).N) : (ms3 T0 T1 hok t).IsWhole := hstage0_3 (((cfgA T0 T1 hok).slots t (3 : Fin 4)).cast nbuf0_3)

/-- Window `w`'s block at point `t`, read off its array at launch. -/
def iblk (c : Dev nD) (w : Fin (cfgA T0 T1 hok).W) (t : Fin (cfgA T0 T1 hok).N) :
    (((cfgA T0 T1 hok).win w).xblock (crd T0 T1 hok t)).Idx → Elt F ((cfgA T0 T1 hok).win w).elt :=
  (((cfgA T0 T1 hok).win w).blk t).view.read (Elt F) ((s₀ m ρ).mem (((cfgA T0 T1 hok).win w).arr.view.loc (c : Thread nD τ)))

/-- The weights a point's expert has in the point's columns, as the kernel keeps them. -/
def w1At (c : Dev nD) (t : Fin (cfgA T0 T1 hok).N) : S2048x512.Idx → Elt F .bf16 := k0_pay1 (iblk T0 T1 hok m ρ c (1 : Fin 4) t)
def w3At (c : Dev nD) (t : Fin (cfgA T0 T1 hok).N) : S2048x512.Idx → Elt F .bf16 := k0_pay2 (iblk T0 T1 hok m ρ c (2 : Fin 4) t)

open Classical in
/-- What a point leaves in its block of the result. -/
def outAt (c : Dev nD) (t : Fin (cfgA T0 T1 hok).N) : S1024x512.Idx → Elt F .bf16 :=
  if Active (crd T0 T1 hok t) T1 then k0_pay3 (iblk T0 T1 hok m ρ c (0 : Fin 4) t) (w1At T0 T1 hok m ρ c t) (w3At T0 T1 hok m ρ c t)
  else k0_pay4 (F := F)

/-- Before point `n`: the kept weights are those of the point before if its tile is a used one, and the tables are at hand. -/
def Phi (c : Dev nD) (n : ℕ) : sProp 𝕄 :=
  iprop(∃ a0 a1, ⌜∀ t' : Fin (cfgA T0 T1 hok).N, t'.val + 1 = n → Active (crd T0 T1 hok t') T1 → a0 = w1At T0 T1 hok m ρ c t' ∧ a1 = w3At T0 T1 hok m ρ c t'⌝
    ∗ (kept1.view.loc (c : Thread nD τ) ↦{fullShare} a0) ∗ (kept3.view.loc (c : Thread nD τ) ↦{fullShare} a1)
    ∗ (experts.view.loc (c : Thread nD τ) ↦{fullShare.right} T0) ∗ (used.view.loc (c : Thread nD τ) ↦{fullShare.right} T1))

/-- The pipeline's proof data. -/
def dats (_ : Fin 1) (c : Dev nD) : Dat τ (Elt F) Unit ℕ (UR sig nD τ) ℕ (cfgA T0 T1 hok) c where
  A w := (s₀ m ρ).mem (((cfgA T0 T1 hok).win w).arr.view.loc (c : Thread nD τ))
  after w t := match w with
    | ⟨0, _⟩ => iblk T0 T1 hok m ρ c (0 : Fin 4) t
    | ⟨1, _⟩ => iblk T0 T1 hok m ρ c (1 : Fin 4) t
    | ⟨2, _⟩ => iblk T0 T1 hok m ρ c (2 : Fin 4) t
    | ⟨3, _⟩ => outAt T0 T1 hok m ρ c t
  Φ t := Phi T0 T1 hok m ρ c t.val
  q _ := fullShare
  owed _ := 0

theorem after_0 (c : Dev nD) (t : Fin (cfgA T0 T1 hok).N) : (dats T0 T1 hok m ρ 0 c).after (0 : Fin 4) t = iblk T0 T1 hok m ρ c (0 : Fin 4) t := rfl
theorem after_1 (c : Dev nD) (t : Fin (cfgA T0 T1 hok).N) : (dats T0 T1 hok m ρ 0 c).after (1 : Fin 4) t = iblk T0 T1 hok m ρ c (1 : Fin 4) t := rfl
theorem after_2 (c : Dev nD) (t : Fin (cfgA T0 T1 hok).N) : (dats T0 T1 hok m ρ 0 c).after (2 : Fin 4) t = iblk T0 T1 hok m ρ c (2 : Fin 4) t := rfl
theorem after_3 (c : Dev nD) (t : Fin (cfgA T0 T1 hok).N) : (dats T0 T1 hok m ρ 0 c).after (3 : Fin 4) t = outAt T0 T1 hok m ρ c t := rfl

/-- A fetch at a point brings the point's block. -/
theorem fetched_0 (c : Dev nD) (t : Fin (cfgA T0 T1 hok).N) (d) : (dats T0 T1 hok m ρ 0 c).fetched (0 : Fin 4) t d = iblk T0 T1 hok m ρ c (0 : Fin 4) t := by
  unfold Dat.fetched Dat.blockOf iblk; rfl
theorem fetched_1 (c : Dev nD) (t : Fin (cfgA T0 T1 hok).N) (d) : (dats T0 T1 hok m ρ 0 c).fetched (1 : Fin 4) t d = iblk T0 T1 hok m ρ c (1 : Fin 4) t := by
  unfold Dat.fetched Dat.blockOf iblk; rfl
theorem fetched_2 (c : Dev nD) (t : Fin (cfgA T0 T1 hok).N) (d) : (dats T0 T1 hok m ρ 0 c).fetched (2 : Fin 4) t d = iblk T0 T1 hok m ρ c (2 : Fin 4) t := by
  unfold Dat.fetched Dat.blockOf iblk; rfl

/-- An input's buffer holds the point's block when the body runs. -/
theorem before_0 (c : Dev nD) (t : Fin (cfgA T0 T1 hok).N) (d) : (dats T0 T1 hok m ρ 0 c).before (0 : Fin 4) t d = iblk T0 T1 hok m ρ c (0 : Fin 4) t :=
  ((dats T0 T1 hok m ρ 0 c).before_in_eq_fetched (0 : Fin 4) rfl (fun _ => rfl) (fun _ _ _ => rfl) (fun t => by rw [after_0]; unfold Dat.blockOf iblk; rfl) t d).trans
    (fetched_0 T0 T1 hok m ρ c t d)
theorem before_1 (c : Dev nD) (t : Fin (cfgA T0 T1 hok).N) (d) : (dats T0 T1 hok m ρ 0 c).before (1 : Fin 4) t d = iblk T0 T1 hok m ρ c (1 : Fin 4) t :=
  ((dats T0 T1 hok m ρ 0 c).before_in_eq_fetched (1 : Fin 4) rfl (fun _ => rfl) (fun _ _ _ => rfl) (fun t => by rw [after_1]; unfold Dat.blockOf iblk; rfl) t d).trans
    (fetched_1 T0 T1 hok m ρ c t d)
theorem before_2 (c : Dev nD) (t : Fin (cfgA T0 T1 hok).N) (d) : (dats T0 T1 hok m ρ 0 c).before (2 : Fin 4) t d = iblk T0 T1 hok m ρ c (2 : Fin 4) t :=
  ((dats T0 T1 hok m ρ 0 c).before_in_eq_fetched (2 : Fin 4) rfl (fun _ => rfl) (fun _ _ _ => rfl) (fun t => by rw [after_2]; unfold Dat.blockOf iblk; rfl) t d).trans
    (fetched_2 T0 T1 hok m ρ c t d)

/-- Points whose blocks of weights have one index have one block. -/
theorem w1At_congr (c : Dev nD) (t t' : Fin (cfgA T0 T1 hok).N) (h : ((cfgA T0 T1 hok).win (1 : Fin 4)).index t = ((cfgA T0 T1 hok).win (1 : Fin 4)).index t') :
    w1At T0 T1 hok m ρ c t = w1At T0 T1 hok m ρ c t' :=
  congrArg (fun x => k0_pay1 (F := F) x) ((fetched_1 T0 T1 hok m ρ c t default).symm.trans
    (((dats T0 T1 hok m ρ 0 c).fetched_congr (1 : Fin 4) h rfl default).trans (fetched_1 T0 T1 hok m ρ c t' default)))
theorem w3At_congr (c : Dev nD) (t t' : Fin (cfgA T0 T1 hok).N) (h : ((cfgA T0 T1 hok).win (2 : Fin 4)).index t = ((cfgA T0 T1 hok).win (2 : Fin 4)).index t') :
    w3At T0 T1 hok m ρ c t = w3At T0 T1 hok m ρ c t' :=
  congrArg (fun x => k0_pay2 (F := F) x) ((fetched_2 T0 T1 hok m ρ c t default).symm.trans
    (((dats T0 T1 hok m ρ 0 c).fetched_congr (2 : Fin 4) h rfl default).trans (fetched_2 T0 T1 hok m ρ c t' default)))

/-- A used tile that isn't fresh follows a used tile with the same weights. -/
theorem follows (c : Dev nD) (t : Fin (cfgA T0 T1 hok).N) (ha : Active (crd T0 T1 hok t) T1) (hf : ¬freshBit T0 T1 (crd T0 T1 hok t) = 1#1) :
    ∃ t' : Fin (cfgA T0 T1 hok).N, t'.val + 1 = t.val ∧ Active (crd T0 T1 hok t') T1
      ∧ w1At T0 T1 hok m ρ c t' = w1At T0 T1 hok m ρ c t ∧ w3At T0 T1 hok m ρ c t' = w3At T0 T1 hok m ρ c t := by
  obtain ⟨hi, he⟩ := not_fresh T0 T1 _ ha hf
  have h1 : (crd T0 T1 hok t 1).val = t.val % 37 := tile_of t
  have h0 : (crd T0 T1 hok t 0).val = t.val / 37 := chunk_of t
  have ht : t.val ≠ 0 := by intro h; rw [h] at h1; exact hi h1
  let t' : Fin (cfgA T0 T1 hok).N := ⟨t.val - 1, by omega⟩
  have h1' : (crd T0 T1 hok t' 1).val = (t.val - 1) % 37 := tile_of t'
  have h0' : (crd T0 T1 hok t' 0).val = (t.val - 1) / 37 := chunk_of t'
  have e1 : (crd T0 T1 hok t' 1).val = (crd T0 T1 hok t 1).val - 1 := by omega
  have e0 : (crd T0 T1 hok t' 0).val = (crd T0 T1 hok t 0).val := by omega
  have hx : expertAt T0 (crd T0 T1 hok t') = expertAt T0 (crd T0 T1 hok t) := by
    rw [he, expertBefore_eq, expertAt_eq]
    refine congrArg (fun k => T0 (ix1 k)) (Fin.ext e1)
  have hix : (![(expertAt T0 (crd T0 T1 hok t')).toNat, 0, (BitVec.ofNat 32 (crd T0 T1 hok t' 0).val).toNat] : Fin 3 → ℕ)
      = ![(expertAt T0 (crd T0 T1 hok t)).toNat, 0, (BitVec.ofNat 32 (crd T0 T1 hok t 0).val).toNat] := by rw [hx, e0]
  refine ⟨t', by show t.val - 1 + 1 = t.val; omega, ?_, w1At_congr T0 T1 hok m ρ c t' t hix, w3At_congr T0 T1 hok m ρ c t' t hix⟩
  have := (active_iff _ _).1 ha
  exact (active_iff _ _).2 (by omega)

/-- No point leaves the result's buffer as it found it. -/
theorem never_idle (t : Fin (cfgA T0 T1 hok).N) : (cfgA T0 T1 hok).idle (3 : Fin 4) ((cfgA T0 T1 hok).grid.coords t) = false := by
  show (!(k0_cond2 (crd T0 T1 hok t) _ == 1#1) && !(k0_cond3 (crd T0 T1 hok t) _ == 1#1)) = false
  generalize Pipeline.Prefetch.Contents.atD (adm T0 T1 hok).1 1 ![0] = v
  have h := cond3_iff (crd T0 T1 hok t) v
  by_cases h2 : k0_cond2 (crd T0 T1 hok t) v = 1#1
  · simp [h2]
  · simp [h.2 h2]

/-- The body at point `t` on its staging memrefs, as the pipeline calls it. -/
abbrev bodyAt (t : Fin (cfgA T0 T1 hok).N) : Prog (TpuEff nD τ sig (Elt F) Λ₀ .tc) PUnit :=
  bodyOn (crd T0 T1 hok t) (ms0 T0 T1 hok t) (hs0 T0 T1 hok t) (ms1 T0 T1 hok t) (hs1 T0 T1 hok t) (ms2 T0 T1 hok t) (hs2 T0 T1 hok t) (ms3 T0 T1 hok t) (hs3 T0 T1 hok t)

/-- What the body leaves of the result and the kept weights, in each of its three cases, from what it finds. -/
theorem run_point (c : Dev nD) (t : Fin (cfgA T0 T1 hok).N) (a0 a1 : S2048x512.Idx → Elt F .bf16)
    (ha : ∀ t' : Fin (cfgA T0 T1 hok).N, t'.val + 1 = t.val → Active (crd T0 T1 hok t') T1 → a0 = w1At T0 T1 hok m ρ c t' ∧ a1 = w3At T0 T1 hok m ρ c t') :
    ∃ b0 b1, (Active (crd T0 T1 hok t) T1 → b0 = w1At T0 T1 hok m ρ c t ∧ b1 = w3At T0 T1 hok m ρ c t) ∧ ∀ K : PUnit → sProp 𝕄,
      inputs c (ms0 T0 T1 hok t) (ms1 T0 T1 hok t) (ms2 T0 T1 hok t) T0 T1 (iblk T0 T1 hok m ρ c (0 : Fin 4) t) (iblk T0 T1 hok m ρ c (1 : Fin 4) t) (iblk T0 T1 hok m ρ c (2 : Fin 4) t)
        iprop((∃ d, owns (c : Thread nD τ) (ms3 T0 T1 hok t) fullShare d)
        ∗ (kept1.view.loc (c : Thread nD τ) ↦{fullShare} a0) ∗ (kept3.view.loc (c : Thread nD τ) ↦{fullShare} a1)
        ∗ (inputs c (ms0 T0 T1 hok t) (ms1 T0 T1 hok t) (ms2 T0 T1 hok t) T0 T1 (iblk T0 T1 hok m ρ c (0 : Fin 4) t) (iblk T0 T1 hok m ρ c (1 : Fin 4) t) (iblk T0 T1 hok m ρ c (2 : Fin 4) t)
            (left c (ms3 T0 T1 hok t) (outAt T0 T1 hok m ρ c t) b0 b1) -∗ K ⟨⟩))
      ⊢ wp frame (wpE (defs₀ (F := F)) Variants.none c none) Set.univ (bodyAt T0 T1 hok t) K := by
  by_cases h2 : Active (crd T0 T1 hok t) T1
  · have h3 : ¬k0_cond3 (crd T0 T1 hok t) (nUsed T1) = 1#1 := fun h => (cond3_iff _ _).1 h h2
    have ho : outAt T0 T1 hok m ρ c t = k0_pay3 (iblk T0 T1 hok m ρ c (0 : Fin 4) t) (w1At T0 T1 hok m ρ c t) (w3At T0 T1 hok m ρ c t) := if_pos h2
    rw [ho]
    by_cases hf : freshBit T0 T1 (crd T0 T1 hok t) = 1#1
    · exact ⟨_, _, fun _ => ⟨rfl, rfl⟩, fun K => run_fresh c _ _ _ _ _ _ _ _ _ T0 T1 _ _ _ a0 a1 hf h2 h3 K⟩
    · obtain ⟨t', ht, ha', e1, e3⟩ := follows T0 T1 hok m ρ c t h2 hf
      obtain ⟨rfl, rfl⟩ := ha t' ht ha'
      rw [e1, e3]
      exact ⟨_, _, fun _ => ⟨rfl, rfl⟩, fun K => run_same c _ _ _ _ _ _ _ _ _ T0 T1 _ _ _ _ _ hf h2 h3 K⟩
  · have h3 : k0_cond3 (crd T0 T1 hok t) (nUsed T1) = 1#1 := (cond3_iff _ _).2 h2
    have ho : outAt T0 T1 hok m ρ c t = k0_pay4 (F := F) := if_neg h2
    rw [ho]
    exact ⟨a0, a1, fun h => absurd h h2, fun K => run_idle c _ _ _ _ _ _ _ _ _ T0 T1 _ _ _ a0 a1 (fun h => h2 (fresh_active _ _ _ h)) h2 h3 K⟩

end
end Cert.UpIdeal.Run
end
-- ==== Proof.Up.Sound.lean ====
/- The body's obligation at a point of the up projection. -/
module

public import proofs.«01_k».proof.Proof.Up.Frame
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.VecWindow
public import Idealize.ShloMosaic.Lib.Writes
public import Idealize.ShloMosaic.Lib.Ring
public import Idealize.ShloMosaic.Lib.Exec
public import Idealize.ShloMosaic.Lib.Tactic
public import Idealize.ShloMosaic.Adequacy
public import Idealize.ShloMosaic.Init

@[expose] public section

set_option maxRecDepth 16384
set_option Elab.async false

noncomputable section

namespace Cert.UpIdeal.Run

open Cert.UpIdeal Cert.UpIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

section
variable (T0 : S37.Idx → Elt F .i32) (T1 : S1.Idx → Elt F .i32) (hok : ok0 (F := F) (tabs T0 T1))

variable (m : (ℓ : Loc nD τ sig) → Buf (Elt F) ℓ) (ρ : Dev nD → PrngReg)

set_option maxHeartbeats 4000000 in
/-- The body's obligation at a point. -/
theorem sound_body (c : Dev nD) (t : Fin (cfgA T0 T1 hok).N) :
    iprop((dats T0 T1 hok m ρ 0 c).Φ t.castSucc ∗ (dats T0 T1 hok m ρ 0 c).owesAt () t.castSucc
        ∗ (∃ d, owns (c : Thread nD τ) (ms0 T0 T1 hok t) fullShare ((dats T0 T1 hok m ρ 0 c).before (0 : Fin 4) t d))
        ∗ (∃ d, owns (c : Thread nD τ) (ms1 T0 T1 hok t) fullShare ((dats T0 T1 hok m ρ 0 c).before (1 : Fin 4) t d))
        ∗ (∃ d, owns (c : Thread nD τ) (ms2 T0 T1 hok t) fullShare ((dats T0 T1 hok m ρ 0 c).before (2 : Fin 4) t d))
        ∗ (∃ d, owns (c : Thread nD τ) (ms3 T0 T1 hok t) fullShare ((dats T0 T1 hok m ρ 0 c).before (3 : Fin 4) t d)))
      ⊢ wp frame (wpE (defs₀ (F := F)) Variants.none c none) Set.univ (bodyAt T0 T1 hok t) fun _ =>
          iprop((dats T0 T1 hok m ρ 0 c).Φ t.succ ∗ (dats T0 T1 hok m ρ 0 c).owesAt () t.succ
            ∗ bigSep Finset.univ fun w : Fin (cfgA T0 T1 hok).W =>
                match (cfgA T0 T1 hok).idle w ((cfgA T0 T1 hok).grid.coords t) with
                | true =>
                  match ((cfgA T0 T1 hok).win w).flush t with
                  | false => iprop(∃ d, owns (c : Thread nD τ) (((cfgA T0 T1 hok).win w).stage ((cfgA T0 T1 hok).slots t w)) fullShare ((dats T0 T1 hok m ρ 0 c).before w t d))
                  | true => owns (c : Thread nD τ) (((cfgA T0 T1 hok).win w).stage ((cfgA T0 T1 hok).slots t w)) fullShare ((dats T0 T1 hok m ρ 0 c).after w t)
                | false => owns (c : Thread nD τ) (((cfgA T0 T1 hok).win w).stage ((cfgA T0 T1 hok).slots t w)) fullShare ((dats T0 T1 hok m ρ 0 c).after w t)) := by
  rw [bigSep_W0]
  have i3 := never_idle T0 T1 hok t
  rewrite [i3]
  simp only [before_0, before_1, before_2, after_0, after_1, after_2, after_3]
  rewrite [show (dats T0 T1 hok m ρ 0 c).Φ t.succ = Phi T0 T1 hok m ρ c t.succ.val from rfl, show (dats T0 T1 hok m ρ 0 c).Φ t.castSucc = Phi T0 T1 hok m ρ c t.castSucc.val from rfl,
    show (dats T0 T1 hok m ρ 0 c).owesAt () t.succ = (dats T0 T1 hok m ρ 0 c).owesAt () t.castSucc from rfl, Fin.val_castSucc, Fin.val_succ]
  unfold Phi
  iintro ⟨⟨%a0, %a1, %ha, HS0, HS1, HT0, HT1⟩, Ho, ⟨%d0, H0⟩, ⟨%d1, H1⟩, ⟨%d2, H2⟩, ⟨%d3, H3⟩⟩
  obtain ⟨b0, b1, hb, hrun⟩ := run_point T0 T1 hok m ρ c t a0 a1 ha
  iapply (hrun _)
  unfold inputs left
  isplitl [H0]; · iapply rep_of_owns; iexact H0
  isplitl [H1]; · iapply rep_of_owns; iexact H1
  isplitl [H2]; · iapply rep_of_owns; iexact H2
  isplitl [HT0]; · iexact HT0
  isplitl [HT1]; · iexact HT1
  isplitl [H3]; · iexists _; iexact H3
  isplitl [HS0]; · iexact HS0
  isplitl [HS1]; · iexact HS1
  iintro ⟨H0, H1, H2, HT0, HT1, ⟨%e3, %he, H3⟩, HS0, HS1⟩
  isplitl [HS0 HS1 HT0 HT1]
  · iexists b0; iexists b1
    isplitr
    · ipureintro
      intro t' ht ha'
      obtain rfl : t' = t := Fin.ext (Nat.succ.inj ht)
      exact hb ha'
    isplitl [HS0]; · iexact HS0
    isplitl [HS1]; · iexact HS1
    isplitl [HT0]; · iexact HT0
    iexact HT1
  isplitl [Ho]; · iexact Ho
  isplitl [H0]
  · iapply owns_of_rep; iexact H0
  isplitl [H1]
  · iapply owns_of_rep; iexact H1
  isplitl [H2]
  · iapply owns_of_rep; iexact H2
  unfold owns; iexists _; isplitr; swap
  · iexact H3
  · ipureintro; exact he

end
end Cert.UpIdeal.Run
end
-- ==== Proof.Up.Run.lean ====
/- The run of the up projection from the launch on, and its frame. -/
module

public import proofs.«01_k».proof.Proof.Up.Sound
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.VecWindow
public import Idealize.ShloMosaic.Lib.Writes
public import Idealize.ShloMosaic.Lib.Ring
public import Idealize.ShloMosaic.Lib.Exec
public import Idealize.ShloMosaic.Lib.Tactic
public import Idealize.ShloMosaic.Adequacy
public import Idealize.ShloMosaic.Init

@[expose] public section

set_option maxRecDepth 16384
set_option Elab.async false

noncomputable section

namespace Cert.UpIdeal.Run

open Cert.UpIdeal Cert.UpIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The proof's resource algebra: the rounds library's, embedded whole. -/
abbrev EP : Emb (UR sig nD τ) 𝕄 := emb₁

section
variable (T0 : S37.Idx → Elt F .i32) (T1 : S1.Idx → Elt F .i32) (hok : ok0 (F := F) (tabs T0 T1))

variable (m : (ℓ : Loc nD τ sig) → Buf (Elt F) ℓ) (ρ : Dev nD → PrngReg)

/-- The library's body obligation, at every point. -/
theorem body_obligation (c : Dev nD) : BodyObligation (dats T0 T1 hok m ρ 0 c) (defs₀ (F := F)) Variants.none () Set.univ := fun t => by
  rw [bigSep_W0]
  exact sound_body T0 T1 hok m ρ c t

/-- The rounds library's launch element. -/
def u₀ : UR sig nD τ :=
  initOf (Pipeline.cells (pcs T0 T1 hok) ((launch0 (F := F)).cellOf_inj fun _ => adm T0 T1 hok))
    (Pipeline.launchToks (pcs T0 T1 hok) ((launch0 (F := F)).cellOf_inj fun _ => adm T0 T1 hok))

theorem share_eq (c : Dev nD) (w : Fin (cfgA T0 T1 hok).W) : (dats T0 T1 hok m ρ 0 c).share w = fullShare := by unfold Dat.share; split <;> rfl

/-- The tables as the launch hands them to the region, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant before the first point, from the tables and the scratch buffers. -/
theorem phi0_intro (c : Dev nD) :
    iprop(BI.emp ∗ Pipeline.prefHeld pre0 c (fun _ => fullShare.right) (adm T0 T1 hok).1 ∗ Pipeline.scopedRest spec0 c) ⊢ (dats T0 T1 hok m ρ 0 c).Φ 0 := by
  rw [prefHeld_eq, scopedRest0_eq, show (dats T0 T1 hok m ρ 0 c).Φ 0 = Phi T0 T1 hok m ρ c (0 : Fin ((cfgA T0 T1 hok).N + 1)).val from rfl]
  unfold Phi
  iintro ⟨-, ⟨HT0, HT1⟩, ⟨%a0, HS0⟩, ⟨%a1, HS1⟩⟩
  iexists a0; iexists a1
  isplitr
  · ipureintro; intro t' ht; exact absurd ht (Nat.succ_ne_zero _)
  isplitl [HS0]; · iexact HS0
  isplitl [HS1]; · iexact HS1
  isplitl [HT0]; · iexact HT0
  iexact HT1

/-- The scratch buffers given back after the last point. -/
theorem phiN_exit (c : Dev nD) : (dats T0 T1 hok m ρ 0 c).Φ (Fin.last (cfgA T0 T1 hok).N) ⊢ iprop(BI.emp ∗ Pipeline.scopedRest spec0 c) := by
  rw [scopedRest0_eq, show (dats T0 T1 hok m ρ 0 c).Φ (Fin.last (cfgA T0 T1 hok).N) = Phi T0 T1 hok m ρ c (Fin.last (cfgA T0 T1 hok).N).val from rfl]
  unfold Phi
  iintro ⟨%a0, %a1, -, HS0, HS1, -, -⟩
  isplitr; · iempintro
  isplitl [HS0]
  · iexists a0; iexact HS0
  iexists a1; iexact HS1

/-- What the run leaves: every array at what the pipeline's blocks make it, every table as it was. -/
def QC : PUnit × MemSt nD τ sig (Elt F) → Prop := fun r =>
  ∀ c : Dev nD, (∀ w : Fin (cfgA T0 T1 hok).W, r.2.mem (((cfgA T0 T1 hok).win w).arr.view.loc (c : Thread nD τ)) = (dats T0 T1 hok m ρ 0 c).arrAt w (cfgA T0 T1 hok).N)
    ∧ ∀ j, r.2.mem ((c : Thread nD τ).loc (pre0.ref j)) = (adm T0 T1 hok).1 j

/-- The launch memory holds the tables. -/
def Held : Prop := (∀ c : Dev nD, m ((c : Thread nD τ).loc main_arg0) = T0) ∧ (∀ c : Dev nD, m ((c : Thread nD τ).loc main_arg1) = T1)

theorem V_pre (hp : Held T0 T1 m) (c : Dev nD) (j : Fin 2) : m ((c : Thread nD τ).loc (pre0.ref j)) = (adm T0 T1 hok).1 j := by
  fin_cases j
  · exact hp.1 c
  · exact hp.2 c

set_option backward.isDefEq.respectTransparency.types false in
set_option maxHeartbeats 4000000 in
/-- Every run from a memory that holds the tables ends with `QC` and every semaphore at zero. -/
theorem run_main_quiescent (hp : Held T0 T1 m) : θ_run (defs (F := F)) (onTc (τ := τ) (main (F := F))) (s₀ m ρ) (fun r => QC T0 T1 hok m ρ r ∧ r.2.sem = fun _ => 0) :=
  Pipeline.θ_run_region_noSem_pf_quiescent pcfgs (fun _ => adm T0 T1 hok) (dats T0 T1 hok m ρ) () ((launch0 (F := F)).cellOf_inj fun _ => adm T0 T1 hok) (0 : Fin 1)
    (launch0 (F := F)).win.to₀ (launch0 (F := F)).pre EP defs₀ Variants.none m ρ main
    (hbody := fun c => (body_obligation T0 T1 hok m ρ c).loose) (hne := (launch0 (F := F)).block_pos)
    (harr := (launch0 (F := F)).arr_whole) (hstage := (launch0 (F := F)).stage_whole) (howed := fun _ _ => rfl)
    (u₀ := u₀ T0 T1 hok) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T0 T1 hok) (dats T0 T1 hok m ρ) 0 (launch0 (F := F)).win.arr_inj c (launch0 (F := F)).arr_whole
      (share_eq T0 T1 hok m ρ c) _ _ fun _ => rfl)
    (hpf := V_pre T0 T1 hok m hp)
    (X := fun _ => iprop(emp)) (Y := fun _ => iprop(emp)) (Z := fun _ => iprop(emp))
    (hX := fun c => by rw [unscopedRestP0_eq]; iintro -; isplitr <;> iempintro)
    (hin := phi0_intro T0 T1 hok m ρ)
    (hout := phiN_exit T0 T1 hok m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

include hok in
/-- **The frame**: every run ends, the arguments are as they were, and every semaphore is at zero. -/
theorem frame_of (hp : Held T0 T1 m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 0).trans (hp.1 c).symm, ((h.1 c).2 1).trans (hp.2 c).symm,
    ((h.1 c).1 (0 : Fin 4)).trans ((dats T0 T1 hok m ρ 0 c).arrAt_in (0 : Fin 4) rfl _), ((h.1 c).1 (1 : Fin 4)).trans ((dats T0 T1 hok m ρ 0 c).arrAt_in (1 : Fin 4) rfl _),
    ((h.1 c).1 (2 : Fin 4)).trans ((dats T0 T1 hok m ρ 0 c).arrAt_in (2 : Fin 4) rfl _)⟩, h.2⟩) (run_main_quiescent T0 T1 hok m ρ hp)

end
end Cert.UpIdeal.Run
end
-- ==== Proof.Up.Bits.lean ====
/- The frames of the up projection: the program on bits is, term for term, the program over the ideal reals at the bits'
   numbers, so one run serves both. -/
module

public import proofs.«01_k».proof.Proof.Up.Run
public import proofs.«01_k».proof.Proof.Gen.Up
public import proofs.«01_k».proof.Proof.Gen.Pre_experts_up
public import proofs.«01_k».proof.Defs
@[expose] public section

set_option maxRecDepth 65536
set_option maxHeartbeats 4000000

namespace Cert.UpIdeal.Run

open Idealize.ShloMosaic Idealize.ShloMosaic.TcCoe Idealize.SL.Sem
set_option Elab.async false

/-- The two programs' bodies, definitions, launches and main functions are the same. -/
theorem body_same {F : FTy → Type} [FloatOps F] : (Cert.Up.cc0_swiglu_up (F := F)) = (Cert.UpIdeal.cc0_swiglu_up (F := F)) := by
  unfold Cert.Up.cc0_swiglu_up Cert.UpIdeal.cc0_swiglu_up
  rfl
theorem defs₀_same {F : FTy → Type} [FloatOps F] : (Cert.Up.defs₀ (F := F)) = (Cert.UpIdeal.defs₀ (F := F)) := by
  unfold Cert.Up.defs₀ Cert.UpIdeal.defs₀
  refine congrArg Defs.onTc ?_
  funext l a
  match l, a with
  | ⟨0, _⟩, (t, s) =>
    show Cert.Up.cc0_swiglu_up (F := F) _ _ _ _ _ _ _ _ _ _ _ _ _ _ _ _ _ = _
    rw [body_same]
    rfl
theorem pcfgs_same {F : FTy → Type} [FloatOps F] : (Cert.Up.pcfgs (F := F)) = (Cert.UpIdeal.pcfgs (F := F)) := rfl
theorem defs_same {F : FTy → Type} [FloatOps F] : (Cert.Up.defs (F := F)) = (Cert.UpIdeal.defs (F := F)) := by
  show Pipeline.defs Cert.UpIdeal.pcfgs Cert.Up.defs₀ = Pipeline.defs Cert.UpIdeal.pcfgs Cert.UpIdeal.defs₀
  rw [defs₀_same]
theorem main_same {F : FTy → Type} [FloatOps F] : (Cert.Up.main (F := F)) = (Cert.UpIdeal.main (F := F)) := rfl

/-- A table of the precondition names experts below sixteen. -/
theorem below {F : FTy → Type} [FloatOps F] (x0 : IVec Cert.Pre_experts_up.S37 32) (x1 : IVec Cert.Pre_experts_up.S1 32) (x2 x3 x4)
    (h : Cert.Pre_experts_up.fn (F := F) x0 x1 x2 x3 x4 = fun _ => 1#1) (i) : (x0 i).toNat < 16 := by
  have h0 := congrFun h i
  have e : ∀ a b : BitVec 1, IntOp.andi a b = 1#1 → a = 1#1 ∧ b = 1#1 := by decide
  obtain ⟨h1, h2⟩ := e _ _ h0
  have h1 : BitVec.ofBool (BitVec.sle 0#32 (x0 i)) = 1#1 := h1
  have h2 : BitVec.ofBool (BitVec.slt (x0 i) 16#32) = 1#1 := h2
  have hb : ∀ b : Bool, BitVec.ofBool b = 1#1 → b = true := by decide
  have h1 := hb _ h1
  have h2 := hb _ h2
  rw [BitVec.sle_eq_decide, decide_eq_true_eq] at h1
  rw [BitVec.slt_eq_decide, decide_eq_true_eq] at h2
  have e16 : (16#32).toInt = 16 := rfl
  have e0 : (0#32).toInt = 0 := rfl
  have := BitVec.toInt_eq_toNat_cond (x0 i)
  split at this <;> omega

/-- The frame of the kernel on bits. -/
theorem upBits_frame : quiescent_Up := fun m g hpre => by
  rw [defs_same, main_same]
  exact frame_of (F := Bits) (m (((0 : Dev Cert.Up.nD).tc : Thread Cert.Up.nD Cert.Up.τ).loc Cert.Up.main_arg0)) (m (((0 : Dev Cert.Up.nD).tc : Thread Cert.Up.nD Cert.Up.τ).loc Cert.Up.main_arg1))
    (ok_of _ _ (below _ _ _ _ _ (hpre 0))) m g
    ⟨fun c => by obtain rfl : c = 0 := Subsingleton.elim _ _; rfl, fun c => by obtain rfl : c = 0 := Subsingleton.elim _ _; rfl⟩

/-- The frame of the idealized kernel. -/
theorem upIdeal_frame : quiescent_UpIdeal := fun m g hpre =>
  frame_of (F := Ideal) (m (((0 : Dev Cert.UpIdeal.nD).tc : Thread Cert.UpIdeal.nD Cert.UpIdeal.τ).loc Cert.UpIdeal.main_arg0)) (m (((0 : Dev Cert.UpIdeal.nD).tc : Thread Cert.UpIdeal.nD Cert.UpIdeal.τ).loc Cert.UpIdeal.main_arg1))
    (ok_of _ _ (below _ _ _ _ _ (hpre 0))) m g
    ⟨fun c => by obtain rfl : c = 0 := Subsingleton.elim _ _; rfl, fun c => by obtain rfl : c = 0 := Subsingleton.elim _ _; rfl⟩
end Cert.UpIdeal.Run
end
-- ==== Proof.Up.Ref.lean ====
/- The up projection's reference read entry by entry: a used tile's entry is the gate times the value, each the product of the
   row and its expert's column; an unused tile's entry is zero. -/
module

public import proofs.«01_k».proof.Proof.Gen.UpRefIdeal.Run
public import proofs.«01_k».proof.Proof.Gen.UpRefIdeal.Read
public import Idealize.ShloMosaic.Lib.Pointwise

@[expose] public section

set_option maxRecDepth 16384

noncomputable section

namespace Cert.UpRefIdeal.Val

open Cert.UpRefIdeal Cert.UpRefIdeal.Gen Cert.UpRefIdeal.Read
open Idealize.ShloMosaic Idealize.ShloMosaic.TcCoe Idealize.SL.Sem Idealize.ShloMosaic.Pointwise

/-- A slice of the experts' weights, by the entry of the table of starts. -/
theorem gather_apply {α : Type} (x : S16x2048x5632.Idx → α) (t : IVec S37x1 32) (p : Fin 37) (k : Fin 2048) (f : Fin 5632) :
    Host.gather gather_S16x2048x5632_S37x1_S37x2048x5632_12_0_n_n_0_1_120485632 x t (ix3 p k f)
      = x (ix3 ⟨min (t (ix2 p 0)).toInt.toNat 15, by omega⟩ k f) := by
  unfold Host.gather
  congr 1
  funext a
  refine Fin.ext ?_
  generalize hd : gather_S16x2048x5632_S37x1_S37x2048x5632_12_0_n_n_0_1_120485632 = d
  show d.start (ix3 p k f) t a + d.batchCoord (ix3 p k f) a + d.offCoord (ix3 p k f) a = _
  rw [GatherDims.batchCoord_eq_zero _ _ _ (by subst hd; exact List.not_mem_nil), Nat.add_zero]
  have ha : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  subst hd
  rcases ha with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ gather_S16x2048x5632_S37x1_S37x2048x5632_12_0_n_n_0_1_120485632.startIndexMap from List.mem_singleton.mpr rfl)]
    have hsi : gather_S16x2048x5632_S37x1_S37x2048x5632_12_0_n_n_0_1_120485632.siIdx (ix3 p k f)
        ⟨List.idxOf (0 : Fin 3) gather_S16x2048x5632_S37x1_S37x2048x5632_12_0_n_n_0_1_120485632.startIndexMap,
          List.idxOf_lt_length_iff.2 (List.mem_singleton.mpr rfl)⟩ = ix2 p 0 := by
      funext b; refine Fin.ext ?_
      match b with
      | ⟨0, _⟩ => rfl
      | ⟨1, _⟩ => rfl
    rw [hsi]
    rfl
  · unfold GatherDims.start
    rw [dif_neg (show ¬(1 : Fin 3) ∈ gather_S16x2048x5632_S37x1_S37x2048x5632_12_0_n_n_0_1_120485632.startIndexMap by decide), Nat.zero_add]
    rfl
  · unfold GatherDims.start
    rw [dif_neg (show ¬(2 : Fin 3) ∈ gather_S16x2048x5632_S37x1_S37x2048x5632_12_0_n_n_0_1_120485632.startIndexMap by decide), Nat.zero_add]
    rfl

/-- An expert's number is not negative and not clamped. -/
theorem small_word (v : BitVec 32) (h : v.toNat < 16) : IntOp.cmpi .slt v 0#32 = 0#1 ∧ min v.toInt.toNat 15 = v.toNat := by
  have e : v.toInt = (v.toNat : ℤ) := by rw [BitVec.toInt_eq_toNat_cond, if_pos (by omega)]
  refine ⟨?_, by omega⟩
  show BitVec.ofBool (BitVec.slt _ _) = 0#1
  rw [BitVec.slt_eq_decide, e, decide_eq_false (by show ¬((v.toNat : ℤ) < 0); omega)]
  rfl

variable (x0 : (⟨S37, .i32⟩ : BufTy).Contents (Elt Ideal)) (x1 : (⟨S1, .i32⟩ : BufTy).Contents (Elt Ideal)) (x2 : (⟨S37888x2048, .bf16⟩ : BufTy).Contents (Elt Ideal))
  (x3 x4 : (⟨S16x2048x5632, .f32⟩ : BufTy).Contents (Elt Ideal))

/-- The tables' entries as the reference takes them: as they are. -/
theorem start1 (h : ∀ i, (x0 i : BitVec 32).toNat < 16) (p : Fin 37) : val_main_v7 (F := Ideal) x0 (ix2 p 0) = x0 (ix1 p) := by
  rw [val_main_v7_apply, val_main_v6_apply, val_main_v3_apply, val_main_v2_apply, val_main_c_apply]
  have e : idx_main_v7 (ix2 p 0) = ix1 p := by funext a; obtain rfl : a = (0 : Fin 1) := Subsingleton.elim (α := Fin 1) a 0; rfl
  rw [e, (small_word _ (h _)).1]
  rfl
theorem start3 (h : ∀ i, (x0 i : BitVec 32).toNat < 16) (p : Fin 37) : val_main_v16 (F := Ideal) x0 (ix2 p 0) = x0 (ix1 p) := by
  rw [val_main_v16_apply, val_main_v15_apply, val_main_v12_apply, val_main_v11_apply, val_main_c_1_apply]
  have e : idx_main_v16 (ix2 p 0) = ix1 p := by funext a; obtain rfl : a = (0 : Fin 1) := Subsingleton.elim (α := Fin 1) a 0; rfl
  rw [e, (small_word _ (h _)).1]
  rfl

/-- A row times a column of an expert's weights. -/
def times (w : (⟨S16x2048x5632, .f32⟩ : BufTy).Contents (Elt Ideal)) (e : Fin 16) (r : Fin 37888) (f : Fin 5632) : EReal :=
  ∑ k : Fin 2048, (x2 (ix2 r k) : EReal) * (w (ix3 e k f) : EReal)

/-- Row `r` of tile `p`. -/
abbrev rowAt (p : Fin 37) (r : Fin 1024) : Fin 37888 := ⟨p.val * 1024 + r.val, by omega⟩

/-- A tile's rows. -/
theorem lhs_apply (p : Fin 37) (r : Fin 1024) (k : Fin 2048) : (val_main_v0 (F := Ideal) x2 (ix3 p r k) : EReal) = x2 (ix2 (rowAt p r) k) := by
  rw [val_main_v0_apply]
  refine congrArg x2 ((eq_ix2 _).trans ?_)
  have e0 : idx_main_v0 (ix3 p r k) 0 = rowAt p r := Fin.ext (by show ((p.val * 1024 + r.val) * 2048 + k.val) / 2048 = p.val * 1024 + r.val; omega)
  have e1 : idx_main_v0 (ix3 p r k) 1 = k := Fin.ext (by show ((p.val * 1024 + r.val) * 2048 + k.val) % 2048 = k.val; omega)
  rw [e0, e1]

/-- The first product, and the second. -/
theorem h1_apply (h : ∀ i, (x0 i : BitVec 32).toNat < 16) (p : Fin 37) (r : Fin 1024) (f : Fin 5632) :
    (val_main_v9 (F := Ideal) x0 x2 x3 (ix3 p r f) : EReal) = times x2 x3 ⟨(x0 (ix1 p) : BitVec 32).toNat, h _⟩ (rowAt p r) f := by
  rw [val_main_v9_apply]
  unfold times
  refine Finset.sum_congr rfl fun k _ => ?_
  have e1 : lidx_main_v9 (ix3 p r f) k = ix3 p r k := eq_ix3 _
  have e2 : ridx_main_v9 (ix3 p r f) k = ix3 p k f := eq_ix3 _
  rw [e1, e2, ← lhs_apply x2 p r k]
  refine congrArg₂ (· * ·) rfl ?_
  unfold val_main_v8
  rw [gather_apply]
  refine congrArg (fun e => x3 (ix3 e k f)) (Fin.ext ?_)
  show min _ 15 = _
  rw [start1 x0 h]
  exact (small_word _ (h _)).2

theorem h3_apply (h : ∀ i, (x0 i : BitVec 32).toNat < 16) (p : Fin 37) (r : Fin 1024) (f : Fin 5632) :
    (val_main_v18 (F := Ideal) x0 x2 x4 (ix3 p r f) : EReal) = times x2 x4 ⟨(x0 (ix1 p) : BitVec 32).toNat, h _⟩ (rowAt p r) f := by
  rw [val_main_v18_apply]
  unfold times
  refine Finset.sum_congr rfl fun k _ => ?_
  have e1 : lidx_main_v18 (ix3 p r f) k = ix3 p r k := eq_ix3 _
  have e2 : ridx_main_v18 (ix3 p r f) k = ix3 p k f := eq_ix3 _
  rw [e1, e2, ← lhs_apply x2 p r k]
  refine congrArg₂ (· * ·) rfl ?_
  unfold val_main_v17
  rw [gather_apply]
  refine congrArg (fun e => x4 (ix3 e k f)) (Fin.ext ?_)
  show min _ 15 = _
  rw [start3 x0 h]
  exact (small_word _ (h _)).2

/-- The gated product of two numbers. -/
def gated (a b : EReal) : EReal := a * Ideal.logistic a * b

/-- The reference's gated product. -/
theorem gated_apply (h : ∀ i, (x0 i : BitVec 32).toNat < 16) (p : Fin 37) (r : Fin 1024) (f : Fin 5632) :
    (val_main_v27 (F := Ideal) x0 x2 x3 x4 (ix3 p r f) : EReal)
      = gated (times x2 x3 ⟨(x0 (ix1 p) : BitVec 32).toNat, h _⟩ (rowAt p r) f) (times x2 x4 ⟨(x0 (ix1 p) : BitVec 32).toNat, h _⟩ (rowAt p r) f) := by
  rw [val_main_v27_apply, val_main_v26_apply, val_main_v25_apply, val_main_v24_apply, val_main_v22_apply, val_main_v20_apply, val_main_v19_apply,
    val_main_v23_apply, val_main_v21_apply, val_main_cst_apply, val_main_cst_3_apply]
  rw [← h1_apply, ← h3_apply]
  generalize (val_main_v9 (F := Ideal) x0 x2 x3 (ix3 p r f)) = a
  generalize (val_main_v18 (F := Ideal) x0 x2 x4 (ix3 p r f)) = b
  have one : (FloatOps.ofBits .f32 0x3F800000#32 : Ideal .f32) = (1 : EReal) := by
    show Ideal.ofBits .f32 0x3F800000#32 = 1
    simp [Ideal.ofBits, Ideal.ieee]
    rw [← EReal.coe_mul]
    norm_num
  rw [one]
  rfl

open Classical in
/-- **An entry of the reference.** -/
theorem out_apply (h : ∀ i, (x0 i : BitVec 32).toNat < 16) (p : Fin 37) (r : Fin 1024) (f : Fin 5632) :
    (val_main_v36 (F := Ideal) x0 x1 x2 x3 x4 (ix2 (rowAt p r) f) : EReal)
      = if (p.val : ℤ) < (x1 (ix1 0) : BitVec 32).toInt then
          gated (times x2 x3 ⟨(x0 (ix1 p) : BitVec 32).toNat, h _⟩ (rowAt p r) f) (times x2 x4 ⟨(x0 (ix1 p) : BitVec 32).toNat, h _⟩ (rowAt p r) f)
        else 0 := by
  rw [val_main_v36_apply]
  have e : idx_main_v36 (ix2 (rowAt p r) f) = ix3 p r f := by
    refine (eq_ix3 _).trans ?_
    have e0 : idx_main_v36 (ix2 (rowAt p r) f) 0 = p := Fin.ext (by show ((p.val * 1024 + r.val) * 5632 + f.val) / 5767168 = p.val; omega)
    have e1 : idx_main_v36 (ix2 (rowAt p r) f) 1 = r := Fin.ext (by show ((p.val * 1024 + r.val) * 5632 + f.val) / 5632 % 1024 = r.val; omega)
    have e2 : idx_main_v36 (ix2 (rowAt p r) f) 2 = f := Fin.ext (by show ((p.val * 1024 + r.val) * 5632 + f.val) % 5632 = f.val; omega)
    rw [e0, e1, e2]
  rw [e, val_main_v35_apply, gated_apply _ _ _ _ h, val_main_v33_apply, val_main_v32_apply, val_main_v31_apply, val_main_v34_apply, val_main_cst_4_apply,
    val_main_v28_apply, val_main_v30_apply]
  have hz : (FloatOps.ofBits .bf16 0x0000#16 : Ideal .bf16) = (0 : EReal) := by
    show Ideal.ofBits .bf16 0x0000#16 = 0
    simp [Ideal.ofBits, Ideal.ieee]
  have hv : val_main_v29 (F := Ideal) x1 (idx_main_v30 (idx_main_v32 (idx_main_v33 (ix3 p r f)))) = x1 (ix1 0) := by
    unfold val_main_v29
    refine congrArg x1 ?_
    funext a
    obtain rfl : a = (0 : Fin 1) := Subsingleton.elim (α := Fin 1) a 0
    exact Subsingleton.elim (α := Fin 1) _ _
  have hw : ((idx_main_v32 (idx_main_v33 (ix3 p r f))) 0).val = p.val := rfl
  have hp : (BitVec.ofNat 32 p.val).toInt = (p.val : ℤ) := by
    have := p.isLt
    rw [BitVec.toInt_eq_toNat_cond, BitVec.toNat_ofNat, Nat.mod_eq_of_lt (by omega), if_pos (by omega)]
  rw [hv, hw, hz]
  generalize gated _ _ = g
  have hc : IntOp.cmpi .slt (BitVec.ofNat 32 p.val) (x1 (ix1 0) : BitVec 32) = BitVec.ofBool (decide ((p.val : ℤ) < (x1 (ix1 0) : BitVec 32).toInt)) := by
    show BitVec.ofBool (BitVec.slt _ _) = _
    rw [BitVec.slt_eq_decide, hp]
  rw [hc]
  by_cases hlt : (p.val : ℤ) < (x1 (ix1 0) : BitVec 32).toInt
  · rw [if_pos hlt, decide_eq_true hlt]; rfl
  · rw [if_neg hlt, decide_eq_false hlt]; rfl

end Cert.UpRefIdeal.Val
end
-- ==== Proof.Up.Value.lean ====
/- What the up projection leaves in its array: each tile's rows times the columns of its expert's weights, gated. -/
module

public import proofs.«01_k».proof.Proof.Up.Run
public import proofs.«01_k».proof.Proof.Up.Ref
public import Idealize.ShloMosaic.Lib.Pipeline.Covers
public import Idealize.ShloMosaic.Lib.Pipeline.ValueKit

@[expose] public section

set_option maxRecDepth 16384
set_option Elab.async false

noncomputable section

namespace Cert.UpIdeal.Val

open Cert.UpIdeal Cert.UpIdeal.Gen Cert.UpIdeal.Run
open Idealize.ShloMosaic Idealize.ShloMosaic.TcCoe Idealize.SL.Sem Idealize.ShloMosaic.Pointwise
open Cert.UpRefIdeal.Val (times gated rowAt)

/-- A point's payload, entry by entry. -/
theorem pay1_apply (w : Vec Ideal S1x2048x512 .f32) (k : Fin 2048) (f : Fin 512) : (k0_pay1 (F := Ideal) w (ix2 k f) : EReal) = w (ix3 0 k f) := by
  unfold_payloads
  pointwise
theorem pay2_apply (w : Vec Ideal S1x2048x512 .f32) (k : Fin 2048) (f : Fin 512) : (k0_pay2 (F := Ideal) w (ix2 k f) : EReal) = w (ix3 0 k f) := by
  unfold_payloads
  pointwise
theorem pay3_apply (a : Vec Ideal S1024x2048 .bf16) (u v : Vec Ideal S2048x512 .bf16) (r : Fin 1024) (f : Fin 512) :
    (k0_pay3 (F := Ideal) a u v (ix2 r f) : EReal)
      = gated (∑ k : Fin 2048, (a (ix2 r k) : EReal) * (u (ix2 k f) : EReal)) (∑ k : Fin 2048, (a (ix2 r k) : EReal) * (v (ix2 k f) : EReal)) := by
  unfold gated
  unfold_payloads
  pointwise
theorem pay4_apply (r : Fin 1024) (f : Fin 512) : (k0_pay4 (F := Ideal) (ix2 r f) : EReal) = 0 := by
  unfold_payloads
  pointwise

variable (T0 : S37.Idx → Elt Ideal .i32) (T1 : S1.Idx → Elt Ideal .i32) (hok : ok0 (F := Ideal) (tabs T0 T1))
variable (m : (ℓ : Loc nD τ sig) → Buf (Elt Ideal) ℓ) (ρ : Dev nD → PrngReg) (c : Dev nD)

/-- The rows and the experts' two weights, as the launch memory holds them. -/
abbrev x2 : Vec Ideal S37888x2048 .bf16 := m ((c.tc : Thread nD τ).loc main_arg2)
abbrev x3 : Vec Ideal S16x2048x5632 .f32 := m ((c.tc : Thread nD τ).loc main_arg3)
abbrev x4 : Vec Ideal S16x2048x5632 .f32 := m ((c.tc : Thread nD τ).loc main_arg4)

/-- A point's tile, and its chunk of the columns. -/
abbrev tile (t : Fin (cfgA T0 T1 hok).N) : Fin 37 := crd T0 T1 hok t 1
abbrev chunk (t : Fin (cfgA T0 T1 hok).N) : Fin 11 := crd T0 T1 hok t 0
/-- A column of a point's chunk. -/
abbrev colAt (q : Fin 11) (f : Fin 512) : Fin 5632 := ⟨q.val * 512 + f.val, by omega⟩

/-- A used point's rows. -/
theorem rows_read (t : Fin (cfgA T0 T1 hok).N) (ha : Active (crd T0 T1 hok t) T1) (r : Fin 1024) (k : Fin 2048) :
    (iblk T0 T1 hok m ρ c (0 : Fin 4) t (ix2 r k) : EReal) = x2 m c (ix2 (rowAt (tile T0 T1 hok t) r) k) := by
  show x2 m c ((((cfgA T0 T1 hok).win (0 : Fin 4)).blk t).view.emb (ix2 r k)) = _
  refine congrArg (x2 m c) ((eq_ix2 _).trans ?_)
  have e0 : ((((cfgA T0 T1 hok).win (0 : Fin 4)).blk t).view.emb (ix2 r k) (0 : Fin 2) : Fin 37888) = rowAt (tile T0 T1 hok t) r := Fin.ext (by
    show rowsOf (crd T0 T1 hok t) (nUsed T1) * 1024 + 1 * r.val = (crd T0 T1 hok t 1).val * 1024 + r.val
    rw [rows_active _ _ ha, Nat.one_mul])
  have e1 : ((((cfgA T0 T1 hok).win (0 : Fin 4)).blk t).view.emb (ix2 r k) (1 : Fin 2) : Fin 2048) = k := Fin.ext (by
    show 0 * 2048 + 1 * k.val = k.val
    omega)
  exact congrArg₂ ix2 e0 e1

/-- A point's expert. -/
abbrev expert (h : ∀ i, (T0 i : BitVec 32).toNat < 16) (t : Fin (cfgA T0 T1 hok).N) : Fin 16 := ⟨(T0 (ix1 (tile T0 T1 hok t)) : BitVec 32).toNat, h _⟩

/-- A point's block of the first weights, and of the second. -/
theorem weights1_read (h : ∀ i, (T0 i : BitVec 32).toNat < 16) (t : Fin (cfgA T0 T1 hok).N) (k : Fin 2048) (f : Fin 512) :
    (iblk T0 T1 hok m ρ c (1 : Fin 4) t (ix3 0 k f) : EReal) = x3 m c (ix3 (expert T0 T1 hok h t) k (colAt (chunk T0 T1 hok t) f)) := by
  show x3 m c ((((cfgA T0 T1 hok).win (1 : Fin 4)).blk t).view.emb (ix3 0 k f)) = _
  refine congrArg (x3 m c) ((eq_ix3 _).trans ?_)
  have e0 : ((((cfgA T0 T1 hok).win (1 : Fin 4)).blk t).view.emb (ix3 0 k f) (0 : Fin 3) : Fin 16) = expert T0 T1 hok h t := Fin.ext (by
    show (expertAt T0 (crd T0 T1 hok t)).toNat * 1 + 1 * 0 = (T0 (ix1 (crd T0 T1 hok t 1)) : BitVec 32).toNat
    rw [expertAt_eq]; omega)
  have e1 : ((((cfgA T0 T1 hok).win (1 : Fin 4)).blk t).view.emb (ix3 0 k f) (1 : Fin 3) : Fin 2048) = k := Fin.ext (by
    show 0 * 2048 + 1 * k.val = k.val
    omega)
  have e2 : ((((cfgA T0 T1 hok).win (1 : Fin 4)).blk t).view.emb (ix3 0 k f) (2 : Fin 3) : Fin 5632) = colAt (chunk T0 T1 hok t) f := Fin.ext (by
    show (BitVec.ofNat 32 (crd T0 T1 hok t 0).val).toNat * 512 + 1 * f.val = (crd T0 T1 hok t 0).val * 512 + f.val
    rw [chunk_word, Nat.one_mul])
  rw [e0, e1, e2]

theorem weights3_read (h : ∀ i, (T0 i : BitVec 32).toNat < 16) (t : Fin (cfgA T0 T1 hok).N) (k : Fin 2048) (f : Fin 512) :
    (iblk T0 T1 hok m ρ c (2 : Fin 4) t (ix3 0 k f) : EReal) = x4 m c (ix3 (expert T0 T1 hok h t) k (colAt (chunk T0 T1 hok t) f)) := by
  show x4 m c ((((cfgA T0 T1 hok).win (2 : Fin 4)).blk t).view.emb (ix3 0 k f)) = _
  refine congrArg (x4 m c) ((eq_ix3 _).trans ?_)
  have e0 : ((((cfgA T0 T1 hok).win (2 : Fin 4)).blk t).view.emb (ix3 0 k f) (0 : Fin 3) : Fin 16) = expert T0 T1 hok h t := Fin.ext (by
    show (expertAt T0 (crd T0 T1 hok t)).toNat * 1 + 1 * 0 = (T0 (ix1 (crd T0 T1 hok t 1)) : BitVec 32).toNat
    rw [expertAt_eq]; omega)
  have e1 : ((((cfgA T0 T1 hok).win (2 : Fin 4)).blk t).view.emb (ix3 0 k f) (1 : Fin 3) : Fin 2048) = k := Fin.ext (by
    show 0 * 2048 + 1 * k.val = k.val
    omega)
  have e2 : ((((cfgA T0 T1 hok).win (2 : Fin 4)).blk t).view.emb (ix3 0 k f) (2 : Fin 3) : Fin 5632) = colAt (chunk T0 T1 hok t) f := Fin.ext (by
    show (BitVec.ofNat 32 (crd T0 T1 hok t 0).val).toNat * 512 + 1 * f.val = (crd T0 T1 hok t 0).val * 512 + f.val
    rw [chunk_word, Nat.one_mul])
  rw [e0, e1, e2]

open Classical in
/-- **A point's block.** -/
theorem outAt_apply (h : ∀ i, (T0 i : BitVec 32).toNat < 16) (t : Fin (cfgA T0 T1 hok).N) (r : Fin 1024) (f : Fin 512) :
    (outAt T0 T1 hok m ρ c t (ix2 r f) : EReal)
      = if ((tile T0 T1 hok t).val : ℤ) < (T1 (ix1 0) : BitVec 32).toInt then
          gated (times (x2 m c) (x3 m c) (expert T0 T1 hok h t) (rowAt (tile T0 T1 hok t) r) (colAt (chunk T0 T1 hok t) f))
            (times (x2 m c) (x4 m c) (expert T0 T1 hok h t) (rowAt (tile T0 T1 hok t) r) (colAt (chunk T0 T1 hok t) f))
        else 0 := by
  have hn : nUsed T1 = T1 (ix1 0) := by
    show T1 _ = T1 _
    refine congrArg T1 ?_
    funext a
    obtain rfl : a = (0 : Fin 1) := Subsingleton.elim (α := Fin 1) a 0
    exact Subsingleton.elim (α := Fin 1) _ _
  have hiff := active_iff (crd T0 T1 hok t) (nUsed T1)
  rw [hn] at hiff
  unfold outAt
  by_cases ha : Active (crd T0 T1 hok t) T1
  · rw [if_pos ha, if_pos (by rw [← hiff, ← hn]; exact ha), pay3_apply]
    unfold times w1At w3At
    simp only [pay1_apply, pay2_apply, rows_read T0 T1 hok m ρ c t ha, weights1_read T0 T1 hok m ρ c h, weights3_read T0 T1 hok m ρ c h]
  · rw [if_neg ha, if_neg (by rw [← hiff, ← hn]; exact ha), pay4_apply]

/-- Every block of the result is some point's. -/
theorem covers : ((cfgA T0 T1 hok).win (3 : Fin 4)).Covers := by
  have n0 : ((cfgA T0 T1 hok).win (3 : Fin 4)).nblk (0 : Fin 2) = 37 := by
    show (37888 + 1024 - 1) / 1024 = 37
    norm_num
  have n1 : ((cfgA T0 T1 hok).win (3 : Fin 4)).nblk (1 : Fin 2) = 11 := by
    show (5632 + 512 - 1) / 512 = 11
    norm_num
  refine Pipeline.Window.covers_of_indexMap_surj _ rfl (fun a => ?_) fun β =>
    ⟨fun a => match a with
      | ⟨0, _⟩ => (⟨(β (1 : Fin 2)).val, lt_of_lt_of_eq (β (1 : Fin 2)).isLt n1⟩ : Fin 11)
      | ⟨1, _⟩ => (⟨(β (0 : Fin 2)).val, lt_of_lt_of_eq (β (0 : Fin 2)).isLt n0⟩ : Fin 37), fun a => ?_⟩
  · fin_cases a
    · show 0 < 1024; norm_num
    · show 0 < 512; norm_num
  · fin_cases a
    · show (BitVec.ofNat 32 (β (0 : Fin 2)).val).toNat = (β (0 : Fin 2)).val
      have := lt_of_lt_of_eq (β (0 : Fin 2)).isLt n0
      simp only [BitVec.toNat_ofNat]
      omega
    · show (BitVec.ofNat 32 (β (1 : Fin 2)).val).toNat = (β (1 : Fin 2)).val
      have := lt_of_lt_of_eq (β (1 : Fin 2)).isLt n1
      simp only [BitVec.toNat_ofNat]
      omega

/-- The array ends as `G` if every point's block is `G`'s. -/
theorem array_of (G : Vec Ideal S37888x5632 .bf16)
    (hG : ∀ (t : Fin (cfgA T0 T1 hok).N) (r : Fin 1024) (f : Fin 512), outAt T0 T1 hok m ρ c t (ix2 r f) = G (ix2 (rowAt (tile T0 T1 hok t) r) (colAt (chunk T0 T1 hok t) f))) :
    (dats T0 T1 hok m ρ 0 c).arrAt (3 : Fin 4) (cfgA T0 T1 hok).N = G := by
  refine (dats T0 T1 hok m ρ 0 c).arrAt_eq_of_covers (3 : Fin 4) G (covers T0 T1 hok) fun t _ y => ?_
  show outAt T0 T1 hok m ρ c t y = G _
  rw [show y = ix2 (y 0) (y 1) from eq_ix2 _]
  refine (hG t _ _).trans (congrArg G ?_)
  refine Eq.trans ?_ (eq_ix2 _).symm
  refine congrArg₂ ix2 (Fin.ext ?_) (Fin.ext ?_)
  · show (crd T0 T1 hok t 1).val * 1024 + _ = (BitVec.ofNat 32 (crd T0 T1 hok t 1).val).toNat * 1024 + 1 * _
    rw [tile_word, Nat.one_mul]; rfl
  · show (crd T0 T1 hok t 0).val * 512 + _ = (BitVec.ofNat 32 (crd T0 T1 hok t 0).val).toNat * 512 + 1 * _
    rw [chunk_word, Nat.one_mul]; rfl

/-- **The array is the reference's.** -/
theorem array_eq (h : ∀ i, (T0 i : BitVec 32).toNat < 16) :
    (dats T0 T1 hok m ρ 0 c).arrAt (3 : Fin 4) (cfgA T0 T1 hok).N = Cert.UpRefIdeal.Read.val_main_v36 (F := Ideal) T0 T1 (x2 m c) (x3 m c) (x4 m c) :=
  array_of T0 T1 hok m ρ c _ fun t r f =>
    (outAt_apply T0 T1 hok m ρ c h t r f).trans (Cert.UpRefIdeal.Val.out_apply T0 T1 (x2 m c) (x3 m c) (x4 m c) h (tile T0 T1 hok t) r (colAt (chunk T0 T1 hok t) f)).symm

end Cert.UpIdeal.Val
end
-- ==== Proof.Up.Claims.lean ====
/- The claims of the up projection over the ideal reals: the reference runs, and the kernel computes what it computes. -/
module

public import proofs.«01_k».proof.Proof.Up.Bits
public import proofs.«01_k».proof.Proof.Up.Value
public import proofs.«01_k».proof.Proof.Gen.UpRefIdeal.Run
public import proofs.«01_k».proof.Proof.Gen.UpRefIdeal.Read

@[expose] public section

set_option maxRecDepth 65536
set_option maxHeartbeats 1000000

namespace Cert.UpIdeal.Run

open Idealize.ShloMosaic Idealize.ShloMosaic.TcCoe Idealize.SL.Sem

/-- The reference runs and leaves its arguments. -/
theorem upRef_frame_pre : quiescent_UpRefIdeal_pre_experts_up := fun m g _ =>
  (θ_run _ _ _).mono (fun r h => ⟨fun c => (h c).2, sem_eq_zero_of_no_sems (by decide) r.2⟩) (Cert.UpRefIdeal.Value.run m g)
theorem upRef_frame : quiescent_UpRefIdeal := fun m g _ =>
  (θ_run _ _ _).mono (fun r h => ⟨fun c => (h c).2, sem_eq_zero_of_no_sems (by decide) r.2⟩) (Cert.UpRefIdeal.Value.run m g)

/-- The kernel's array is the reference's: both memories hold the same tables, rows and weights. -/
theorem up_algebraic : algebraic_UpIdeal_UpRefIdeal := by
  intro m g m' g' hpre hagree
  have h16 := below (F := Ideal) _ _ _ _ _ (hpre 0)
  have hok := ok_of (F := Ideal) (m (((0 : Dev Cert.UpIdeal.nD).tc : Thread Cert.UpIdeal.nD Cert.UpIdeal.τ).loc Cert.UpIdeal.main_arg0)) (m (((0 : Dev Cert.UpIdeal.nD).tc : Thread Cert.UpIdeal.nD Cert.UpIdeal.τ).loc Cert.UpIdeal.main_arg1)) h16
  have hp : Held (F := Ideal) (m (((0 : Dev Cert.UpIdeal.nD).tc : Thread Cert.UpIdeal.nD Cert.UpIdeal.τ).loc Cert.UpIdeal.main_arg0)) (m (((0 : Dev Cert.UpIdeal.nD).tc : Thread Cert.UpIdeal.nD Cert.UpIdeal.τ).loc Cert.UpIdeal.main_arg1)) m :=
    ⟨fun c => by obtain rfl : c = 0 := Subsingleton.elim _ _; rfl, fun c => by obtain rfl : c = 0 := Subsingleton.elim _ _; rfl⟩
  refine ⟨fun c => (dats _ _ hok m g 0 c).arrAt (3 : Fin 4) (cfgA _ _ hok).N, ?_, ?_⟩
  · exact (θ_run Cert.UpIdeal.defs _ _).mono (fun _ h c => ⟨(h.1 c).1 (3 : Fin 4), ((h.1 c).2 0).trans (hp.1 c).symm, ((h.1 c).2 1).trans (hp.2 c).symm,
      ((h.1 c).1 (0 : Fin 4)).trans ((dats _ _ hok m g 0 c).arrAt_in (0 : Fin 4) rfl _), ((h.1 c).1 (1 : Fin 4)).trans ((dats _ _ hok m g 0 c).arrAt_in (1 : Fin 4) rfl _),
      ((h.1 c).1 (2 : Fin 4)).trans ((dats _ _ hok m g 0 c).arrAt_in (2 : Fin 4) rfl _)⟩) (run_main_quiescent _ _ hok m g hp)
  · refine (θ_run _ _ _).mono (fun r h c => ?_) (Cert.UpRefIdeal.Value.run m' g')
    refine ⟨(h c).1.trans ?_, (h c).2⟩
    obtain ⟨e0, e1, e2, e3, e4⟩ := hagree c
    rw [Cert.UpRefIdeal.Read.val_main_v36_eq, e0, e1, e2, e3, e4]
    obtain rfl : c = 0 := Subsingleton.elim _ _
    exact (Cert.UpIdeal.Val.array_eq _ _ hok m g 0 h16).symm

end Cert.UpIdeal.Run

end
-- ==== Proof.Down.Body.lean ====
/- What one grid point of the down projection does: a point of a fresh expert loads the expert's weight block, a later
   point of the same expert uses the block it finds, and a point past the used tiles writes zeros. -/
module

public import proofs.«01_k».proof.Proof.Gen.DownIdeal.Skeleton
public import proofs.«01_k».proof.Proof.Gen.DownIdeal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.VecWindow
public import Idealize.ShloMosaic.Lib.Writes
public import Idealize.ShloMosaic.Lib.Ring
public import Idealize.ShloMosaic.Lib.Exec
public import Idealize.ShloMosaic.Lib.Tactic

@[expose] public section

set_option maxRecDepth 16384
set_option Elab.async false

noncomputable section

namespace Cert.DownIdeal.Run

open Cert.DownIdeal Cert.DownIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The two tables and the block of weights kept between the points. -/
abbrev experts : Memref sig .tc .smem S74 .i32 := Memref.whole main_arg0
abbrev used : Memref sig .tc .smem S1 .i32 := Memref.whole main_arg1
abbrev kept1 : Memref sig .tc .vmem S5632x1024 .bf16 := Memref.whole cc0_scratch0

/-- The number of used tiles, as a point reads it. -/
abbrev nUsed (T1 : S1.Idx → Elt F .i32) : BitVec 32 :=
  View.readAt (Elt F) used.view (Rect.unit (s := S1) ![0] S1.size inb_S1_S1_0).toLoadRect T1 (Shape.Idx.first (numel1_S1.symm ▸ Nat.one_pos))
/-- The expert of a point's tile, and of the tile before it. -/
abbrev expertAt (T0 : S74.Idx → Elt F .i32) (i : grid0.Coords) : BitVec 32 :=
  View.readAt (Elt F) experts.view (Rect.unit (s := S74) (k0_off1 i) S1.size (k0_off1_inb i)).toLoadRect T0 (Shape.Idx.first (numel1_S1.symm ▸ Nat.one_pos))
abbrev expertBefore (T0 : S74.Idx → Elt F .i32) (i : grid0.Coords) : BitVec 32 :=
  View.readAt (Elt F) experts.view (Rect.unit (s := S74) (k0_off2 i) S1.size (k0_off2_inb i)).toLoadRect T0 (Shape.Idx.first (numel1_S1.symm ▸ Nat.one_pos))
/-- The test that a used tile's expert is another than the tile's before it. -/
abbrev freshBit (T0 : S74.Idx → Elt F .i32) (T1 : S1.Idx → Elt F .i32) (i : grid0.Coords) : BitVec 1 :=
  Scalar.cmpi .ne (Scalar.extui (Scalar.andi (Scalar.cmpi .slt (BitVec.ofNat 32 (i 1).val) (nUsed T1))
    (Scalar.ori (Scalar.cmpi .eq (BitVec.ofNat 32 (i 1).val) 0#32) (Scalar.cmpi .ne (expertAt T0 i) (expertBefore T0 i))))) 0#32

/-- The kept block is a whole buffer, so reading it gives its contents. -/
theorem read_kept1 (f : S5632x1024.Idx → Elt F .bf16) : View.read (Elt F) kept1.view f = f := rfl

section
variable (c : Dev nD) (i : grid0.Coords) (arg4 : Memref sig .tc .vmem S512x5632 .bf16) (harg4 : arg4.IsWhole)
  (arg5 : Memref sig .tc .vmem S1x5632x1024 .f32) (harg5 : arg5.IsWhole)
  (arg6 : Memref sig .tc .vmem S512x1024 .bf16) (harg6 : arg6.IsWhole) (T0 : S74.Idx → Elt F .i32) (T1 : S1.Idx → Elt F .i32)
  (x0 : S512x5632.Idx → Elt F .bf16) (x1 : S1x5632x1024.Idx → Elt F .f32)

/-- What a point holds while it runs, the kept weights and the result apart. -/
abbrev inputs (q : sProp 𝕄) : sProp 𝕄 :=
  iprop((arg4.view.loc (c : Thread nD τ) ↦[arg4.view.set]{fullShare} arg4.view.rep x0)
    ∗ (arg5.view.loc (c : Thread nD τ) ↦[arg5.view.set]{fullShare} arg5.view.rep x1)
    ∗ (experts.view.loc (c : Thread nD τ) ↦{fullShare.right} T0)
    ∗ (used.view.loc (c : Thread nD τ) ↦{fullShare.right} T1) ∗ q)

/-- The body at a point. -/
abbrev bodyOn : Prog (TpuEff nD τ sig (Elt F) Λ₀ .tc) PUnit :=
  cc0_swiglu_down_cols i experts (Memref.isWhole_whole _) used (Memref.isWhole_whole _) arg4 harg4 arg5 harg5 arg6 harg6
    kept1 (Memref.isWhole_whole _)

/-- What a point leaves: its result, and the kept weights. -/
abbrev left (y : S512x1024.Idx → Elt F .bf16) (b0 : S5632x1024.Idx → Elt F .bf16) : sProp 𝕄 :=
  iprop((∃ f, ⌜arg6.view.read (Elt F) f = y⌝ ∗ (arg6.view.loc (c : Thread nD τ) ↦[arg6.view.set]{fullShare} f))
    ∗ (kept1.view.loc (c : Thread nD τ) ↦{fullShare} b0))

set_option maxHeartbeats 4000000 in
/-- A point of a fresh expert. -/
theorem run_fresh (a0 : S5632x1024.Idx → Elt F .bf16) (hc0 : freshBit T0 T1 i = 1#1) (k0_h2 : k0_cond2 i (nUsed T1) = 1#1) (k0_h3 : ¬k0_cond3 i (nUsed T1) = 1#1)
    (K : PUnit → sProp 𝕄) :
    inputs c arg4 arg5 T0 T1 x0 x1 iprop((∃ d, owns (c : Thread nD τ) arg6 fullShare d)
        ∗ (kept1.view.loc (c : Thread nD τ) ↦{fullShare} a0)
        ∗ (inputs c arg4 arg5 T0 T1 x0 x1 (left c arg6 (k0_pay2 x0 (k0_pay1 x1)) (k0_pay1 x1)) -∗ K ⟨⟩))
      ⊢ wp frame (wpE (defs₀ (F := F)) Variants.none c none) Set.univ (bodyOn i arg4 harg4 arg5 harg5 arg6 harg6) K := by
  unfold owns inputs left bodyOn
  rw [cc0_swiglu_down_cols_eq_skeleton]; unfold cc0_swiglu_down_cols_skel
  iintro ⟨H0, H1, HT0, HT1, ⟨%d3, %f3, -, HO2⟩, HS0, Hk⟩
  have hS0 : kept1.IsWhole := Memref.isWhole_whole _
  have hT0 : experts.IsWhole := Memref.isWhole_whole _
  have hT1 : used.IsWhole := Memref.isWhole_whole _
  sl_exec! (disch := first | (guard_target = Scalar.cmpi _ _ _ = _; exact hc0) | (guard_target = k0_cond2 _ _ = _; exact k0_h2) | (guard_target = ¬(k0_cond3 _ _ = _); exact k0_h3))
  sl_step
  iapply Hk
  isplitl [H0]; · iexact H0
  isplitl [H1]; · iexact H1
  isplitl [HT0]; · iexact HT0
  isplitl [HT1]; · iexact HT1
  isplitl [HO2]
  · iexists _; isplitr; swap
    · iexact HO2
    · ipureintro
      unfold run_fresh.sl.HO2_1 run_fresh.sl.v20 run_fresh.sl.HS0_1
      rw [View.read_writes_full, View.readCov_full, View.readAt_full, View.readAt_full, View.read_rep, View.read_rep]
  have e0 : kept1.view.writes (Elt F) kept1.view.junk (run_fresh.sl.HS0_1 arg5 x1) = k0_pay1 x1 := by
    unfold run_fresh.sl.HS0_1
    refine (read_kept1 _).symm.trans ?_
    rw [View.read_writes_full, View.readAt_full, View.read_rep]
  rw [← e0]; iexact HS0

set_option maxHeartbeats 4000000 in
/-- A used tile of the expert of the tile before it. -/
theorem run_same (a0 : S5632x1024.Idx → Elt F .bf16) (hc0 : ¬freshBit T0 T1 i = 1#1) (k0_h2 : k0_cond2 i (nUsed T1) = 1#1) (k0_h3 : ¬k0_cond3 i (nUsed T1) = 1#1)
    (K : PUnit → sProp 𝕄) :
    inputs c arg4 arg5 T0 T1 x0 x1 iprop((∃ d, owns (c : Thread nD τ) arg6 fullShare d)
        ∗ (kept1.view.loc (c : Thread nD τ) ↦{fullShare} a0)
        ∗ (inputs c arg4 arg5 T0 T1 x0 x1 (left c arg6 (k0_pay2 x0 a0) a0) -∗ K ⟨⟩))
      ⊢ wp frame (wpE (defs₀ (F := F)) Variants.none c none) Set.univ (bodyOn i arg4 harg4 arg5 harg5 arg6 harg6) K := by
  unfold owns inputs left bodyOn
  rw [cc0_swiglu_down_cols_eq_skeleton]; unfold cc0_swiglu_down_cols_skel
  iintro ⟨H0, H1, HT0, HT1, ⟨%d3, %f3, -, HO2⟩, HS0, Hk⟩
  have hS0 : kept1.IsWhole := Memref.isWhole_whole _
  have hT0 : experts.IsWhole := Memref.isWhole_whole _
  have hT1 : used.IsWhole := Memref.isWhole_whole _
  sl_exec! (disch := first | (guard_target = ¬(Scalar.cmpi _ _ _ = _); exact hc0) | (guard_target = k0_cond2 _ _ = _; exact k0_h2) | (guard_target = ¬(k0_cond3 _ _ = _); exact k0_h3))
  sl_step
  iapply Hk
  isplitl [H0]; · iexact H0
  isplitl [H1]; · iexact H1
  isplitl [HT0]; · iexact HT0
  isplitl [HT1]; · iexact HT1
  isplitl [HO2]
  · iexists _; isplitr; swap
    · iexact HO2
    · ipureintro
      unfold run_same.sl.HO2_1
      rw [View.read_writes_full, View.readAt_full, View.readAt_full, View.read_rep, read_kept1]
  iexact HS0

set_option maxHeartbeats 4000000 in
/-- A tile past the used ones. -/
theorem run_idle (a0 : S5632x1024.Idx → Elt F .bf16) (hc0 : ¬freshBit T0 T1 i = 1#1) (k0_h2 : ¬k0_cond2 i (nUsed T1) = 1#1) (k0_h3 : k0_cond3 i (nUsed T1) = 1#1)
    (K : PUnit → sProp 𝕄) :
    inputs c arg4 arg5 T0 T1 x0 x1 iprop((∃ d, owns (c : Thread nD τ) arg6 fullShare d)
        ∗ (kept1.view.loc (c : Thread nD τ) ↦{fullShare} a0)
        ∗ (inputs c arg4 arg5 T0 T1 x0 x1 (left c arg6 (k0_pay3 (F := F)) a0) -∗ K ⟨⟩))
      ⊢ wp frame (wpE (defs₀ (F := F)) Variants.none c none) Set.univ (bodyOn i arg4 harg4 arg5 harg5 arg6 harg6) K := by
  unfold owns inputs left bodyOn
  rw [cc0_swiglu_down_cols_eq_skeleton]; unfold cc0_swiglu_down_cols_skel
  iintro ⟨H0, H1, HT0, HT1, ⟨%d3, %f3, -, HO2⟩, HS0, Hk⟩
  have hS0 : kept1.IsWhole := Memref.isWhole_whole _
  have hT0 : experts.IsWhole := Memref.isWhole_whole _
  have hT1 : used.IsWhole := Memref.isWhole_whole _
  sl_exec! (disch := first | (guard_target = ¬(Scalar.cmpi _ _ _ = _); exact hc0) | (guard_target = ¬(k0_cond2 _ _ = _); exact k0_h2) | (guard_target = k0_cond3 _ _ = _; exact k0_h3))
  sl_step
  iapply Hk
  isplitl [H0]; · iexact H0
  isplitl [H1]; · iexact H1
  isplitl [HT0]; · iexact HT0
  isplitl [HT1]; · iexact HT1
  isplitl [HO2]
  · iexists _; isplitr; swap
    · iexact HO2
    · ipureintro
      unfold run_idle.sl.HO2_1
      rw [View.read_writes_full]
  iexact HS0

end
end Cert.DownIdeal.Run
end
-- ==== Proof.Down.Points.lean ====
/- The points of the down projection's grid and the words of its two tables: which points are of a used tile, whose expert is
   the expert of the tile before, and which blocks of the arrays a point is handed. -/
module

public import proofs.«01_k».proof.Proof.Down.Body
public import Idealize.ShloMosaic.Lib.Affine
public import Idealize.ShloMosaic.Lib.Decide
public import Idealize.ShloMosaic.Lib.Pointwise
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.VecWindow
public import Idealize.ShloMosaic.Lib.Writes
public import Idealize.ShloMosaic.Lib.Ring
public import Idealize.ShloMosaic.Lib.Exec
public import Idealize.ShloMosaic.Lib.Tactic

@[expose] public section

set_option maxRecDepth 16384
set_option Elab.async false

noncomputable section

namespace Cert.DownIdeal.Run

open Cert.DownIdeal Cert.DownIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- Whether a point's tile is a used one. -/
abbrev Active (i : grid0.Coords) (T1 : S1.Idx → Elt F .i32) : Prop := k0_cond2 i (nUsed T1) = 1#1

theorem bit_widened : ∀ b : BitVec 1, Scalar.cmpi .ne (Scalar.extui b : BitVec 32) 0#32 = 1#1 ↔ b = 1#1 := by decide
theorem bit_flipped : ∀ b : BitVec 1, Scalar.cmpi .ne (Scalar.extui (Scalar.xori b 1#1) : BitVec 32) 0#32 = 1#1 ↔ ¬b = 1#1 := by decide

theorem cond2_iff (i : grid0.Coords) (v : BitVec 32) : k0_cond2 i v = 1#1 ↔ Scalar.cmpi .slt (BitVec.ofNat 32 (i 1).val) v = 1#1 := bit_widened _
theorem cond3_iff (i : grid0.Coords) (v : BitVec 32) : k0_cond3 i v = 1#1 ↔ ¬k0_cond2 i v = 1#1 :=
  (bit_flipped _).trans (not_congr (cond2_iff i v).symm)

theorem tile_toInt : ∀ n : Fin 74, (BitVec.ofNat 32 n.val).toInt = (n.val : ℤ) := by decide +kernel

/-- A point's tile is used when its number is below the number of used tiles. -/
theorem active_iff (i : grid0.Coords) (v : BitVec 32) : k0_cond2 i v = 1#1 ↔ ((i 1).val : ℤ) < v.toInt := by
  rw [cond2_iff, ← tile_toInt (i 1)]
  show BitVec.ofBool (BitVec.slt _ _) = 1#1 ↔ _
  rw [BitVec.slt_eq_decide]
  by_cases h : (BitVec.ofNat 32 (i 1).val).toInt < v.toInt <;> simp [h]

/-- A used tile is not fresh just when it isn't the first and its expert is the expert before it. -/
theorem not_fresh (T0 : S74.Idx → Elt F .i32) (T1 : S1.Idx → Elt F .i32) (i : grid0.Coords) (ha : Active i T1) (hf : ¬freshBit T0 T1 i = 1#1) :
    (i 1).val ≠ 0 ∧ expertAt T0 i = expertBefore T0 i := by
  have h1 := (cond2_iff i _).1 ha
  rw [bit_widened] at hf
  unfold Scalar.andi at hf
  rw [h1] at hf
  constructor
  · intro h0; apply hf; rw [h0]
    generalize Scalar.cmpi CmpIPredicate.ne (expertAt T0 i) (expertBefore T0 i) = b
    revert b; decide
  · by_contra hne; apply hf
    have h2 : Scalar.cmpi .ne (expertAt T0 i) (expertBefore T0 i) = 1#1 := by
      show BitVec.ofBool (_ != _) = 1#1
      rw [bne_iff_ne.2 hne]; rfl
    rw [h2]
    generalize Scalar.cmpi CmpIPredicate.eq (BitVec.ofNat 32 (i 1).val) 0#32 = b
    revert b; decide

/-- A fresh tile is a used one. -/
theorem fresh_active (T0 : S74.Idx → Elt F .i32) (T1 : S1.Idx → Elt F .i32) (i : grid0.Coords) (hf : freshBit T0 T1 i = 1#1) : Active i T1 := by
  rw [bit_widened] at hf
  refine (cond2_iff i _).2 ?_
  revert hf
  generalize Scalar.cmpi .slt (BitVec.ofNat 32 (i 1).val) (nUsed T1) = a
  generalize Scalar.ori _ _ = b
  revert a b; decide

theorem expertAt_eq (T0 : S74.Idx → Elt F .i32) (i : grid0.Coords) : expertAt T0 i = T0 (ix1 (i 1)) := by
  show T0 _ = T0 _
  refine congrArg T0 ?_
  funext a
  obtain rfl : a = (0 : Fin 1) := Subsingleton.elim (α := Fin 1) a 0
  apply Fin.ext
  show k0_off1 i 0 + 1 * 0 = (i 1).val
  rw [k0_off1_eq]; rfl

theorem before_word : ∀ n : Fin 74, (Scalar.indexCast (Scalar.maxsi (Scalar.subi (BitVec.ofNat 32 n.val) 1#32) 0#32) : BitVec 32).toNat = n.val - 1 := by decide +kernel

theorem expertBefore_eq (T0 : S74.Idx → Elt F .i32) (i : grid0.Coords) :
    expertBefore T0 i = T0 (ix1 ⟨(i 1).val - 1, by have : (i 1).val < 74 := (i 1).isLt; omega⟩) := by
  show T0 _ = T0 _
  refine congrArg T0 ?_
  funext a
  obtain rfl : a = (0 : Fin 1) := Subsingleton.elim (α := Fin 1) a 0
  apply Fin.ext
  show k0_off2 i 0 + 1 * 0 = (i 1).val - 1
  exact (before_word (i 1))

/-- A point's tile and its chunk of columns. -/
theorem tile_of : ∀ t : Fin grid0.N, (grid0.coords t 1).val = t.val % 74 := by decide +kernel
theorem chunk_of : ∀ t : Fin grid0.N, (grid0.coords t 0).val = t.val / 74 := by decide +kernel

/-- The two tables together. -/
def tabs (T0 : S74.Idx → Elt F .i32) (T1 : S1.Idx → Elt F .i32) : pre0.Contents (Elt F) :=
  fun | ⟨0, _⟩ => T0 | ⟨1, _⟩ => T1 | ⟨_ + 2, h⟩ => absurd h (by simp)

/-- The tile whose rows a point is handed: its own, the last used one at most. -/
def rowsOf (i : grid0.Coords) (v : BitVec 32) : ℕ := (Scalar.minsi (BitVec.ofNat 32 (i 1).val) (Scalar.maxsi (Scalar.subi v 1#32) 0#32)).toNat

theorem rows_idx (T0 : S74.Idx → Elt F .i32) (T1 : S1.Idx → Elt F .i32) (i : grid0.Coords) :
    cc0_transform_0 inb_S1_S1_0 numel1_S1 (tabs T0 T1) i = ![rowsOf i (nUsed T1), 0] := rfl
theorem weights_idx (T0 : S74.Idx → Elt F .i32) (T1 : S1.Idx → Elt F .i32) (i : grid0.Coords) :
    cc0_transform_1 k0_off1_inb numel1_S1 (tabs T0 T1) i = ![(expertAt T0 i).toNat, 0, (BitVec.ofNat 32 (i 0).val).toNat] := rfl
theorem chunk_word (i : grid0.Coords) : (BitVec.ofNat 32 (i 0).val).toNat = (i 0).val := by
  have : (i 0).val < 2 := (i 0).isLt
  rw [BitVec.toNat_ofNat, Nat.mod_eq_of_lt (by omega)]
theorem tile_word (i : grid0.Coords) : (BitVec.ofNat 32 (i 1).val).toNat = (i 1).val := by
  have : (i 1).val < 74 := (i 1).isLt
  rw [BitVec.toNat_ofNat, Nat.mod_eq_of_lt (by omega)]

/-- The rows' tile, from the difference of the number of used tiles and one. -/
theorem rows_toInt (i : grid0.Coords) (v : BitVec 32) (e : ℤ) (he : Affine.IsInt (Scalar.subi v 1#32) e) :
    (rowsOf i v : ℤ) = min ((i 1).val : ℤ) (max e 0) := by
  have hi : (i 1).val < 74 := (i 1).isLt
  have h1 : Affine.IsInt (BitVec.ofNat 32 (i 1).val) ((i 1).val : ℤ) := Affine.ofNat _ (by omega)
  have h0 : Affine.IsInt 0#32 0 := Affine.ofNat _ (by omega)
  exact Affine.toNat_of (Affine.minsi h1 (Affine.maxsi he h0 rfl) rfl) (by omega)

theorem rows_le (i : grid0.Coords) (v : BitVec 32) : rowsOf i v ≤ (i 1).val := by
  have h := rows_toInt i v _ (Affine.word _)
  omega

/-- A used point is handed its own tile. -/
theorem rows_active (i : grid0.Coords) (v : BitVec 32) (h : k0_cond2 i v = 1#1) : rowsOf i v = (i 1).val := by
  rw [active_iff] at h
  have hv := BitVec.toInt_lt (x := v)
  have h := rows_toInt i v (v.toInt - 1) (Affine.subi (Affine.word _) (Affine.ofNat 1 (e := 1) (by omega)) (by have := BitVec.toInt_lt (x := v); omega))
  omega

/-- Every block is inside its array when every expert is one of the sixteen. -/
theorem ok_of (T0 : S74.Idx → Elt F .i32) (T1 : S1.Idx → Elt F .i32) (h : ∀ i, (T0 i : BitVec 32).toNat < 16) : ok0 (F := F) (tabs T0 T1) := by
  have hw : ∀ (i : grid0.Coords) (a : Fin 3), ((![(expertAt T0 i).toNat, 0, (BitVec.ofNat 32 (i 0).val).toNat] : Fin 3 → ℕ) a + 1) * S1x5632x1024.size a ≤ S16x5632x2048.size a := by
    intro i a
    have h0 : (i 0).val < 2 := (i 0).isLt
    have he : (expertAt T0 i).toNat < 16 := by rw [expertAt_eq]; exact h _
    rw [chunk_word]
    fin_cases a
    · show ((expertAt T0 i).toNat + 1) * 1 ≤ 16; omega
    · show (0 + 1) * 5632 ≤ 5632; omega
    · show ((i 0).val + 1) * 1024 ≤ 2048; omega
  refine ⟨fun i => ⟨?_, .inr (Affine.block_words_dvd (s := S37888x5632) (p := EltTy.packing .bf16) (by decide) (by decide))⟩,
    fun i => ⟨fun a => ?_, .inl rfl⟩⟩
  · rw [rows_idx]
    have := rows_le i (nUsed T1)
    have hi : (i 1).val < 74 := (i 1).isLt
    intro a
    fin_cases a
    · show (rowsOf i (nUsed T1) + 1) * 512 ≤ 37888; omega
    · show (0 + 1) * 5632 ≤ 5632; omega
  · rw [weights_idx]; exact hw i a

end Cert.DownIdeal.Run
end
-- ==== Proof.Down.Frame.lean ====
/- The run of the down projection at any tables: every point's body keeps the kept weights those of the point's expert, so each
   block of the result is the product of the point's rows and its expert's weights, or zeros past the used tiles. -/
module

public import proofs.«01_k».proof.Proof.Down.Points
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.VecWindow
public import Idealize.ShloMosaic.Lib.Writes
public import Idealize.ShloMosaic.Lib.Ring
public import Idealize.ShloMosaic.Lib.Exec
public import Idealize.ShloMosaic.Lib.Tactic
public import Idealize.ShloMosaic.Adequacy
public import Idealize.ShloMosaic.Init

@[expose] public section

set_option maxRecDepth 16384
set_option Elab.async false

noncomputable section

namespace Cert.DownIdeal.Run

open Cert.DownIdeal Cert.DownIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

section
variable (T0 : S74.Idx → Elt F .i32) (T1 : S1.Idx → Elt F .i32) (hok : ok0 (F := F) (tabs T0 T1))

/-- The pipeline at the tables. -/
def adm : (pcfg0 (F := F)).Adm := ⟨tabs T0 T1, hok⟩
abbrev cfgA : Pipeline.Cfg sig Λ₀ := cfg0 (F := F) (adm T0 T1 hok)
abbrev pcs : Fin 1 → Pipeline.Cfg sig Λ₀ := Pipeline.pin (pcfgs (F := F)) fun _ => adm T0 T1 hok

variable (m : (ℓ : Loc nD τ sig) → Buf (Elt F) ℓ) (ρ : Dev nD → PrngReg)

/-- A point's coordinates, and the staging buffers it is handed. -/
abbrev crd (t : Fin (cfgA T0 T1 hok).N) : (cfgA T0 T1 hok).grid.Coords := (cfgA T0 T1 hok).grid.coords t
abbrev ms0 (t : Fin (cfgA T0 T1 hok).N) : Memref sig .tc .vmem S512x5632 .bf16 := spec0_0.stage ((cfgA T0 T1 hok).slots t (0 : Fin 3))
abbrev hs0 (t : Fin (cfgA T0 T1 hok).N) : (ms0 T0 T1 hok t).IsWhole := hstage0_0 (((cfgA T0 T1 hok).slots t (0 : Fin 3)).cast nbuf0_0)
abbrev ms1 (t : Fin (cfgA T0 T1 hok).N) : Memref sig .tc .vmem S1x5632x1024 .f32 := spec0_1.stage ((cfgA T0 T1 hok).slots t (1 : Fin 3))
abbrev hs1 (t : Fin (cfgA T0 T1 hok).N) : (ms1 T0 T1 hok t).IsWhole := hstage0_1 (((cfgA T0 T1 hok).slots t (1 : Fin 3)).cast nbuf0_1)
abbrev ms2 (t : Fin (cfgA T0 T1 hok).N) : Memref sig .tc .vmem S512x1024 .bf16 := spec0_2.stage ((cfgA T0 T1 hok).slots t (2 : Fin 3))
abbrev hs2 (t : Fin (cfgA T0 T1 hok).N) : (ms2 T0 T1 hok t).IsWhole := hstage0_2 (((cfgA T0 T1 hok).slots t (2 : Fin 3)).cast nbuf0_2)

/-- Window `w`'s block at point `t`, read off its array at launch. -/
def iblk (c : Dev nD) (w : Fin (cfgA T0 T1 hok).W) (t : Fin (cfgA T0 T1 hok).N) :
    (((cfgA T0 T1 hok).win w).xblock (crd T0 T1 hok t)).Idx → Elt F ((cfgA T0 T1 hok).win w).elt :=
  (((cfgA T0 T1 hok).win w).blk t).view.read (Elt F) ((s₀ m ρ).mem (((cfgA T0 T1 hok).win w).arr.view.loc (c : Thread nD τ)))

/-- The weights a point's expert has in the point's columns, as the kernel keeps them. -/
def w1At (c : Dev nD) (t : Fin (cfgA T0 T1 hok).N) : S5632x1024.Idx → Elt F .bf16 := k0_pay1 (iblk T0 T1 hok m ρ c (1 : Fin 3) t)

open Classical in
/-- What a point leaves in its block of the result. -/
def outAt (c : Dev nD) (t : Fin (cfgA T0 T1 hok).N) : S512x1024.Idx → Elt F .bf16 :=
  if Active (crd T0 T1 hok t) T1 then k0_pay2 (iblk T0 T1 hok m ρ c (0 : Fin 3) t) (w1At T0 T1 hok m ρ c t)
  else k0_pay3 (F := F)

/-- Before point `n`: the kept weights are those of the point before if its tile is a used one, and the tables are at hand. -/
def Phi (c : Dev nD) (n : ℕ) : sProp 𝕄 :=
  iprop(∃ a0, ⌜∀ t' : Fin (cfgA T0 T1 hok).N, t'.val + 1 = n → Active (crd T0 T1 hok t') T1 → a0 = w1At T0 T1 hok m ρ c t'⌝
    ∗ (kept1.view.loc (c : Thread nD τ) ↦{fullShare} a0)
    ∗ (experts.view.loc (c : Thread nD τ) ↦{fullShare.right} T0) ∗ (used.view.loc (c : Thread nD τ) ↦{fullShare.right} T1))

/-- The pipeline's proof data. -/
def dats (_ : Fin 1) (c : Dev nD) : Dat τ (Elt F) Unit ℕ (UR sig nD τ) ℕ (cfgA T0 T1 hok) c where
  A w := (s₀ m ρ).mem (((cfgA T0 T1 hok).win w).arr.view.loc (c : Thread nD τ))
  after w t := match w with
    | ⟨0, _⟩ => iblk T0 T1 hok m ρ c (0 : Fin 3) t
    | ⟨1, _⟩ => iblk T0 T1 hok m ρ c (1 : Fin 3) t
    | ⟨2, _⟩ => outAt T0 T1 hok m ρ c t
  Φ t := Phi T0 T1 hok m ρ c t.val
  q _ := fullShare
  owed _ := 0

theorem after_0 (c : Dev nD) (t : Fin (cfgA T0 T1 hok).N) : (dats T0 T1 hok m ρ 0 c).after (0 : Fin 3) t = iblk T0 T1 hok m ρ c (0 : Fin 3) t := rfl
theorem after_1 (c : Dev nD) (t : Fin (cfgA T0 T1 hok).N) : (dats T0 T1 hok m ρ 0 c).after (1 : Fin 3) t = iblk T0 T1 hok m ρ c (1 : Fin 3) t := rfl
theorem after_2 (c : Dev nD) (t : Fin (cfgA T0 T1 hok).N) : (dats T0 T1 hok m ρ 0 c).after (2 : Fin 3) t = outAt T0 T1 hok m ρ c t := rfl

/-- A fetch at a point brings the point's block. -/
theorem fetched_0 (c : Dev nD) (t : Fin (cfgA T0 T1 hok).N) (d) : (dats T0 T1 hok m ρ 0 c).fetched (0 : Fin 3) t d = iblk T0 T1 hok m ρ c (0 : Fin 3) t := by
  unfold Dat.fetched Dat.blockOf iblk; rfl
theorem fetched_1 (c : Dev nD) (t : Fin (cfgA T0 T1 hok).N) (d) : (dats T0 T1 hok m ρ 0 c).fetched (1 : Fin 3) t d = iblk T0 T1 hok m ρ c (1 : Fin 3) t := by
  unfold Dat.fetched Dat.blockOf iblk; rfl

/-- An input's buffer holds the point's block when the body runs. -/
theorem before_0 (c : Dev nD) (t : Fin (cfgA T0 T1 hok).N) (d) : (dats T0 T1 hok m ρ 0 c).before (0 : Fin 3) t d = iblk T0 T1 hok m ρ c (0 : Fin 3) t :=
  ((dats T0 T1 hok m ρ 0 c).before_in_eq_fetched (0 : Fin 3) rfl (fun _ => rfl) (fun _ _ _ => rfl) (fun t => by rw [after_0]; unfold Dat.blockOf iblk; rfl) t d).trans
    (fetched_0 T0 T1 hok m ρ c t d)
theorem before_1 (c : Dev nD) (t : Fin (cfgA T0 T1 hok).N) (d) : (dats T0 T1 hok m ρ 0 c).before (1 : Fin 3) t d = iblk T0 T1 hok m ρ c (1 : Fin 3) t :=
  ((dats T0 T1 hok m ρ 0 c).before_in_eq_fetched (1 : Fin 3) rfl (fun _ => rfl) (fun _ _ _ => rfl) (fun t => by rw [after_1]; unfold Dat.blockOf iblk; rfl) t d).trans
    (fetched_1 T0 T1 hok m ρ c t d)

/-- Points whose blocks of weights have one index have one block. -/
theorem w1At_congr (c : Dev nD) (t t' : Fin (cfgA T0 T1 hok).N) (h : ((cfgA T0 T1 hok).win (1 : Fin 3)).index t = ((cfgA T0 T1 hok).win (1 : Fin 3)).index t') :
    w1At T0 T1 hok m ρ c t = w1At T0 T1 hok m ρ c t' :=
  congrArg (fun x => k0_pay1 (F := F) x) ((fetched_1 T0 T1 hok m ρ c t default).symm.trans
    (((dats T0 T1 hok m ρ 0 c).fetched_congr (1 : Fin 3) h rfl default).trans (fetched_1 T0 T1 hok m ρ c t' default)))

/-- A used tile that isn't fresh follows a used tile with the same weights. -/
theorem follows (c : Dev nD) (t : Fin (cfgA T0 T1 hok).N) (ha : Active (crd T0 T1 hok t) T1) (hf : ¬freshBit T0 T1 (crd T0 T1 hok t) = 1#1) :
    ∃ t' : Fin (cfgA T0 T1 hok).N, t'.val + 1 = t.val ∧ Active (crd T0 T1 hok t') T1 ∧ w1At T0 T1 hok m ρ c t' = w1At T0 T1 hok m ρ c t := by
  obtain ⟨hi, he⟩ := not_fresh T0 T1 _ ha hf
  have h1 : (crd T0 T1 hok t 1).val = t.val % 74 := tile_of t
  have h0 : (crd T0 T1 hok t 0).val = t.val / 74 := chunk_of t
  have ht : t.val ≠ 0 := by intro h; rw [h] at h1; exact hi h1
  let t' : Fin (cfgA T0 T1 hok).N := ⟨t.val - 1, by omega⟩
  have h1' : (crd T0 T1 hok t' 1).val = (t.val - 1) % 74 := tile_of t'
  have h0' : (crd T0 T1 hok t' 0).val = (t.val - 1) / 74 := chunk_of t'
  have e1 : (crd T0 T1 hok t' 1).val = (crd T0 T1 hok t 1).val - 1 := by omega
  have e0 : (crd T0 T1 hok t' 0).val = (crd T0 T1 hok t 0).val := by omega
  have hx : expertAt T0 (crd T0 T1 hok t') = expertAt T0 (crd T0 T1 hok t) := by
    rw [he, expertBefore_eq, expertAt_eq]
    refine congrArg (fun k => T0 (ix1 k)) (Fin.ext e1)
  have hix : (![(expertAt T0 (crd T0 T1 hok t')).toNat, 0, (BitVec.ofNat 32 (crd T0 T1 hok t' 0).val).toNat] : Fin 3 → ℕ)
      = ![(expertAt T0 (crd T0 T1 hok t)).toNat, 0, (BitVec.ofNat 32 (crd T0 T1 hok t 0).val).toNat] := by rw [hx, e0]
  refine ⟨t', by show t.val - 1 + 1 = t.val; omega, ?_, w1At_congr T0 T1 hok m ρ c t' t hix⟩
  have := (active_iff _ _).1 ha
  exact (active_iff _ _).2 (by omega)

/-- No point leaves the result's buffer as it found it. -/
theorem never_idle (t : Fin (cfgA T0 T1 hok).N) : (cfgA T0 T1 hok).idle (2 : Fin 3) ((cfgA T0 T1 hok).grid.coords t) = false := by
  show (!(k0_cond2 (crd T0 T1 hok t) _ == 1#1) && !(k0_cond3 (crd T0 T1 hok t) _ == 1#1)) = false
  generalize Pipeline.Prefetch.Contents.atD (adm T0 T1 hok).1 1 ![0] = v
  have h := cond3_iff (crd T0 T1 hok t) v
  by_cases h2 : k0_cond2 (crd T0 T1 hok t) v = 1#1
  · simp [h2]
  · simp [h.2 h2]

/-- The body at point `t` on its staging memrefs, as the pipeline calls it. -/
abbrev bodyAt (t : Fin (cfgA T0 T1 hok).N) : Prog (TpuEff nD τ sig (Elt F) Λ₀ .tc) PUnit :=
  bodyOn (crd T0 T1 hok t) (ms0 T0 T1 hok t) (hs0 T0 T1 hok t) (ms1 T0 T1 hok t) (hs1 T0 T1 hok t) (ms2 T0 T1 hok t) (hs2 T0 T1 hok t)

/-- What the body leaves of the result and the kept weights, in each of its three cases, from what it finds. -/
theorem run_point (c : Dev nD) (t : Fin (cfgA T0 T1 hok).N) (a0 : S5632x1024.Idx → Elt F .bf16)
    (ha : ∀ t' : Fin (cfgA T0 T1 hok).N, t'.val + 1 = t.val → Active (crd T0 T1 hok t') T1 → a0 = w1At T0 T1 hok m ρ c t') :
    ∃ b0, (Active (crd T0 T1 hok t) T1 → b0 = w1At T0 T1 hok m ρ c t) ∧ ∀ K : PUnit → sProp 𝕄,
      inputs c (ms0 T0 T1 hok t) (ms1 T0 T1 hok t) T0 T1 (iblk T0 T1 hok m ρ c (0 : Fin 3) t) (iblk T0 T1 hok m ρ c (1 : Fin 3) t)
        iprop((∃ d, owns (c : Thread nD τ) (ms2 T0 T1 hok t) fullShare d)
        ∗ (kept1.view.loc (c : Thread nD τ) ↦{fullShare} a0)
        ∗ (inputs c (ms0 T0 T1 hok t) (ms1 T0 T1 hok t) T0 T1 (iblk T0 T1 hok m ρ c (0 : Fin 3) t) (iblk T0 T1 hok m ρ c (1 : Fin 3) t)
            (left c (ms2 T0 T1 hok t) (outAt T0 T1 hok m ρ c t) b0) -∗ K ⟨⟩))
      ⊢ wp frame (wpE (defs₀ (F := F)) Variants.none c none) Set.univ (bodyAt T0 T1 hok t) K := by
  by_cases h2 : Active (crd T0 T1 hok t) T1
  · have h3 : ¬k0_cond3 (crd T0 T1 hok t) (nUsed T1) = 1#1 := fun h => (cond3_iff _ _).1 h h2
    have ho : outAt T0 T1 hok m ρ c t = k0_pay2 (iblk T0 T1 hok m ρ c (0 : Fin 3) t) (w1At T0 T1 hok m ρ c t) := if_pos h2
    rw [ho]
    by_cases hf : freshBit T0 T1 (crd T0 T1 hok t) = 1#1
    · exact ⟨_, fun _ => rfl, fun K => run_fresh c _ _ _ _ _ _ _ T0 T1 _ _ a0 hf h2 h3 K⟩
    · obtain ⟨t', ht, ha', e1⟩ := follows T0 T1 hok m ρ c t h2 hf
      obtain rfl := ha t' ht ha'
      rw [e1]
      exact ⟨_, fun _ => rfl, fun K => run_same c _ _ _ _ _ _ _ T0 T1 _ _ _ hf h2 h3 K⟩
  · have h3 : k0_cond3 (crd T0 T1 hok t) (nUsed T1) = 1#1 := (cond3_iff _ _).2 h2
    have ho : outAt T0 T1 hok m ρ c t = k0_pay3 (F := F) := if_neg h2
    rw [ho]
    exact ⟨a0, fun h => absurd h h2, fun K => run_idle c _ _ _ _ _ _ _ T0 T1 _ _ a0 (fun h => h2 (fresh_active _ _ _ h)) h2 h3 K⟩

end
end Cert.DownIdeal.Run
end
-- ==== Proof.Down.Sound.lean ====
/- The body's obligation at a point of the down projection. -/
module

public import proofs.«01_k».proof.Proof.Down.Frame
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.VecWindow
public import Idealize.ShloMosaic.Lib.Writes
public import Idealize.ShloMosaic.Lib.Ring
public import Idealize.ShloMosaic.Lib.Exec
public import Idealize.ShloMosaic.Lib.Tactic
public import Idealize.ShloMosaic.Adequacy
public import Idealize.ShloMosaic.Init

@[expose] public section

set_option maxRecDepth 16384
set_option Elab.async false

noncomputable section

namespace Cert.DownIdeal.Run

open Cert.DownIdeal Cert.DownIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

section
variable (T0 : S74.Idx → Elt F .i32) (T1 : S1.Idx → Elt F .i32) (hok : ok0 (F := F) (tabs T0 T1))

variable (m : (ℓ : Loc nD τ sig) → Buf (Elt F) ℓ) (ρ : Dev nD → PrngReg)

set_option maxHeartbeats 4000000 in
/-- The body's obligation at a point. -/
theorem sound_body (c : Dev nD) (t : Fin (cfgA T0 T1 hok).N) :
    iprop((dats T0 T1 hok m ρ 0 c).Φ t.castSucc ∗ (dats T0 T1 hok m ρ 0 c).owesAt () t.castSucc
        ∗ (∃ d, owns (c : Thread nD τ) (ms0 T0 T1 hok t) fullShare ((dats T0 T1 hok m ρ 0 c).before (0 : Fin 3) t d))
        ∗ (∃ d, owns (c : Thread nD τ) (ms1 T0 T1 hok t) fullShare ((dats T0 T1 hok m ρ 0 c).before (1 : Fin 3) t d))
        ∗ (∃ d, owns (c : Thread nD τ) (ms2 T0 T1 hok t) fullShare ((dats T0 T1 hok m ρ 0 c).before (2 : Fin 3) t d)))
      ⊢ wp frame (wpE (defs₀ (F := F)) Variants.none c none) Set.univ (bodyAt T0 T1 hok t) fun _ =>
          iprop((dats T0 T1 hok m ρ 0 c).Φ t.succ ∗ (dats T0 T1 hok m ρ 0 c).owesAt () t.succ
            ∗ bigSep Finset.univ fun w : Fin (cfgA T0 T1 hok).W =>
                match (cfgA T0 T1 hok).idle w ((cfgA T0 T1 hok).grid.coords t) with
                | true =>
                  match ((cfgA T0 T1 hok).win w).flush t with
                  | false => iprop(∃ d, owns (c : Thread nD τ) (((cfgA T0 T1 hok).win w).stage ((cfgA T0 T1 hok).slots t w)) fullShare ((dats T0 T1 hok m ρ 0 c).before w t d))
                  | true => owns (c : Thread nD τ) (((cfgA T0 T1 hok).win w).stage ((cfgA T0 T1 hok).slots t w)) fullShare ((dats T0 T1 hok m ρ 0 c).after w t)
                | false => owns (c : Thread nD τ) (((cfgA T0 T1 hok).win w).stage ((cfgA T0 T1 hok).slots t w)) fullShare ((dats T0 T1 hok m ρ 0 c).after w t)) := by
  rw [bigSep_W0]
  have i3 := never_idle T0 T1 hok t
  rewrite [i3]
  simp only [before_0, before_1, after_0, after_1, after_2]
  rewrite [show (dats T0 T1 hok m ρ 0 c).Φ t.succ = Phi T0 T1 hok m ρ c t.succ.val from rfl, show (dats T0 T1 hok m ρ 0 c).Φ t.castSucc = Phi T0 T1 hok m ρ c t.castSucc.val from rfl,
    show (dats T0 T1 hok m ρ 0 c).owesAt () t.succ = (dats T0 T1 hok m ρ 0 c).owesAt () t.castSucc from rfl, Fin.val_castSucc, Fin.val_succ]
  unfold Phi
  iintro ⟨⟨%a0, %ha, HS0, HT0, HT1⟩, Ho, ⟨%d0, H0⟩, ⟨%d1, H1⟩, ⟨%d3, H3⟩⟩
  obtain ⟨b0, hb, hrun⟩ := run_point T0 T1 hok m ρ c t a0 ha
  iapply (hrun _)
  unfold inputs left
  isplitl [H0]; · iapply rep_of_owns; iexact H0
  isplitl [H1]; · iapply rep_of_owns; iexact H1
  isplitl [HT0]; · iexact HT0
  isplitl [HT1]; · iexact HT1
  isplitl [H3]; · iexists _; iexact H3
  isplitl [HS0]; · iexact HS0
  iintro ⟨H0, H1, HT0, HT1, ⟨%e3, %he, H3⟩, HS0⟩
  isplitl [HS0 HT0 HT1]
  · iexists b0
    isplitr
    · ipureintro
      intro t' ht ha'
      obtain rfl : t' = t := Fin.ext (Nat.succ.inj ht)
      exact hb ha'
    isplitl [HS0]; · iexact HS0
    isplitl [HT0]; · iexact HT0
    iexact HT1
  isplitl [Ho]; · iexact Ho
  isplitl [H0]
  · iapply owns_of_rep; iexact H0
  isplitl [H1]
  · iapply owns_of_rep; iexact H1
  unfold owns; iexists _; isplitr; swap
  · iexact H3
  · ipureintro; exact he

end
end Cert.DownIdeal.Run
end
-- ==== Proof.Down.Run.lean ====
/- The run of the down projection from the launch on, and its frame. -/
module

public import proofs.«01_k».proof.Proof.Down.Sound
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.VecWindow
public import Idealize.ShloMosaic.Lib.Writes
public import Idealize.ShloMosaic.Lib.Ring
public import Idealize.ShloMosaic.Lib.Exec
public import Idealize.ShloMosaic.Lib.Tactic
public import Idealize.ShloMosaic.Adequacy
public import Idealize.ShloMosaic.Init

@[expose] public section

set_option maxRecDepth 16384
set_option Elab.async false

noncomputable section

namespace Cert.DownIdeal.Run

open Cert.DownIdeal Cert.DownIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The proof's resource algebra: the rounds library's, embedded whole. -/
abbrev EP : Emb (UR sig nD τ) 𝕄 := emb₁

section
variable (T0 : S74.Idx → Elt F .i32) (T1 : S1.Idx → Elt F .i32) (hok : ok0 (F := F) (tabs T0 T1))

variable (m : (ℓ : Loc nD τ sig) → Buf (Elt F) ℓ) (ρ : Dev nD → PrngReg)

/-- The library's body obligation, at every point. -/
theorem body_obligation (c : Dev nD) : BodyObligation (dats T0 T1 hok m ρ 0 c) (defs₀ (F := F)) Variants.none () Set.univ := fun t => by
  rw [bigSep_W0]
  exact sound_body T0 T1 hok m ρ c t

/-- The rounds library's launch element. -/
def u₀ : UR sig nD τ :=
  initOf (Pipeline.cells (pcs T0 T1 hok) ((launch0 (F := F)).cellOf_inj fun _ => adm T0 T1 hok))
    (Pipeline.launchToks (pcs T0 T1 hok) ((launch0 (F := F)).cellOf_inj fun _ => adm T0 T1 hok))

theorem share_eq (c : Dev nD) (w : Fin (cfgA T0 T1 hok).W) : (dats T0 T1 hok m ρ 0 c).share w = fullShare := by unfold Dat.share; split <;> rfl

/-- The tables as the launch hands them to the region, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant before the first point, from the tables and the scratch buffers. -/
theorem phi0_intro (c : Dev nD) :
    iprop(BI.emp ∗ Pipeline.prefHeld pre0 c (fun _ => fullShare.right) (adm T0 T1 hok).1 ∗ Pipeline.scopedRest spec0 c) ⊢ (dats T0 T1 hok m ρ 0 c).Φ 0 := by
  rw [prefHeld_eq, scopedRest0_eq, show (dats T0 T1 hok m ρ 0 c).Φ 0 = Phi T0 T1 hok m ρ c (0 : Fin ((cfgA T0 T1 hok).N + 1)).val from rfl]
  unfold Phi
  iintro ⟨-, ⟨HT0, HT1⟩, ⟨%a0, HS0⟩⟩
  iexists a0
  isplitr
  · ipureintro; intro t' ht; exact absurd ht (Nat.succ_ne_zero _)
  isplitl [HS0]; · iexact HS0
  isplitl [HT0]; · iexact HT0
  iexact HT1

/-- The scratch buffers given back after the last point. -/
theorem phiN_exit (c : Dev nD) : (dats T0 T1 hok m ρ 0 c).Φ (Fin.last (cfgA T0 T1 hok).N) ⊢ iprop(BI.emp ∗ Pipeline.scopedRest spec0 c) := by
  rw [scopedRest0_eq, show (dats T0 T1 hok m ρ 0 c).Φ (Fin.last (cfgA T0 T1 hok).N) = Phi T0 T1 hok m ρ c (Fin.last (cfgA T0 T1 hok).N).val from rfl]
  unfold Phi
  iintro ⟨%a0, -, HS0, -, -⟩
  isplitr; · iempintro
  iexists a0; iexact HS0

/-- What the run leaves: every array at what the pipeline's blocks make it, every table as it was. -/
def QC : PUnit × MemSt nD τ sig (Elt F) → Prop := fun r =>
  ∀ c : Dev nD, (∀ w : Fin (cfgA T0 T1 hok).W, r.2.mem (((cfgA T0 T1 hok).win w).arr.view.loc (c : Thread nD τ)) = (dats T0 T1 hok m ρ 0 c).arrAt w (cfgA T0 T1 hok).N)
    ∧ ∀ j, r.2.mem ((c : Thread nD τ).loc (pre0.ref j)) = (adm T0 T1 hok).1 j

/-- The launch memory holds the tables. -/
def Held : Prop := (∀ c : Dev nD, m ((c : Thread nD τ).loc main_arg0) = T0) ∧ (∀ c : Dev nD, m ((c : Thread nD τ).loc main_arg1) = T1)

theorem V_pre (hp : Held T0 T1 m) (c : Dev nD) (j : Fin 2) : m ((c : Thread nD τ).loc (pre0.ref j)) = (adm T0 T1 hok).1 j := by
  fin_cases j
  · exact hp.1 c
  · exact hp.2 c

set_option backward.isDefEq.respectTransparency.types false in
set_option maxHeartbeats 4000000 in
/-- Every run from a memory that holds the tables ends with `QC` and every semaphore at zero. -/
theorem run_main_quiescent (hp : Held T0 T1 m) : θ_run (defs (F := F)) (onTc (τ := τ) (main (F := F))) (s₀ m ρ) (fun r => QC T0 T1 hok m ρ r ∧ r.2.sem = fun _ => 0) :=
  Pipeline.θ_run_region_noSem_pf_quiescent pcfgs (fun _ => adm T0 T1 hok) (dats T0 T1 hok m ρ) () ((launch0 (F := F)).cellOf_inj fun _ => adm T0 T1 hok) (0 : Fin 1)
    (launch0 (F := F)).win.to₀ (launch0 (F := F)).pre EP defs₀ Variants.none m ρ main
    (hbody := fun c => (body_obligation T0 T1 hok m ρ c).loose) (hne := (launch0 (F := F)).block_pos)
    (harr := (launch0 (F := F)).arr_whole) (hstage := (launch0 (F := F)).stage_whole) (howed := fun _ _ => rfl)
    (u₀ := u₀ T0 T1 hok) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T0 T1 hok) (dats T0 T1 hok m ρ) 0 (launch0 (F := F)).win.arr_inj c (launch0 (F := F)).arr_whole
      (share_eq T0 T1 hok m ρ c) _ _ fun _ => rfl)
    (hpf := V_pre T0 T1 hok m hp)
    (X := fun _ => iprop(emp)) (Y := fun _ => iprop(emp)) (Z := fun _ => iprop(emp))
    (hX := fun c => by rw [unscopedRestP0_eq]; iintro -; isplitr <;> iempintro)
    (hin := phi0_intro T0 T1 hok m ρ)
    (hout := phiN_exit T0 T1 hok m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

include hok in
/-- **The frame**: every run ends, the arguments are as they were, and every semaphore is at zero. -/
theorem frame_of (hp : Held T0 T1 m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).2 0).trans (hp.1 c).symm, ((h.1 c).2 1).trans (hp.2 c).symm,
    ((h.1 c).1 (0 : Fin 3)).trans ((dats T0 T1 hok m ρ 0 c).arrAt_in (0 : Fin 3) rfl _), ((h.1 c).1 (1 : Fin 3)).trans ((dats T0 T1 hok m ρ 0 c).arrAt_in (1 : Fin 3) rfl _)⟩, h.2⟩) (run_main_quiescent T0 T1 hok m ρ hp)

end
end Cert.DownIdeal.Run
end
-- ==== Proof.Down.Bits.lean ====
/- The frames of the down projection: the program on bits is, term for term, the program over the ideal reals at the bits'
   numbers, so one run serves both. -/
module

public import proofs.«01_k».proof.Proof.Down.Run
public import proofs.«01_k».proof.Proof.Gen.Down
public import proofs.«01_k».proof.Proof.Gen.Pre_experts_down
public import proofs.«01_k».proof.Defs
@[expose] public section

set_option maxRecDepth 65536
set_option maxHeartbeats 4000000

namespace Cert.DownIdeal.Run

open Idealize.ShloMosaic Idealize.ShloMosaic.TcCoe Idealize.SL.Sem
set_option Elab.async false

/-- The two programs' bodies, definitions, launches and main functions are the same. -/
theorem body_same {F : FTy → Type} [FloatOps F] : (Cert.Down.cc0_swiglu_down_cols (F := F)) = (Cert.DownIdeal.cc0_swiglu_down_cols (F := F)) := by
  unfold Cert.Down.cc0_swiglu_down_cols Cert.DownIdeal.cc0_swiglu_down_cols
  rfl
theorem defs₀_same {F : FTy → Type} [FloatOps F] : (Cert.Down.defs₀ (F := F)) = (Cert.DownIdeal.defs₀ (F := F)) := by
  unfold Cert.Down.defs₀ Cert.DownIdeal.defs₀
  refine congrArg Defs.onTc ?_
  funext l a
  match l, a with
  | ⟨0, _⟩, (t, s) =>
    show Cert.Down.cc0_swiglu_down_cols (F := F) _ _ _ _ _ _ _ _ _ _ _ _ _ = _
    rw [body_same]
    rfl
theorem pcfgs_same {F : FTy → Type} [FloatOps F] : (Cert.Down.pcfgs (F := F)) = (Cert.DownIdeal.pcfgs (F := F)) := rfl
theorem defs_same {F : FTy → Type} [FloatOps F] : (Cert.Down.defs (F := F)) = (Cert.DownIdeal.defs (F := F)) := by
  show Pipeline.defs Cert.DownIdeal.pcfgs Cert.Down.defs₀ = Pipeline.defs Cert.DownIdeal.pcfgs Cert.DownIdeal.defs₀
  rw [defs₀_same]
theorem main_same {F : FTy → Type} [FloatOps F] : (Cert.Down.main (F := F)) = (Cert.DownIdeal.main (F := F)) := rfl

/-- A table of the precondition names experts below sixteen. -/
theorem below {F : FTy → Type} [FloatOps F] (x0 : IVec Cert.Pre_experts_down.S74 32) (x1 : IVec Cert.Pre_experts_down.S1 32) (x2 x3)
    (h : Cert.Pre_experts_down.fn (F := F) x0 x1 x2 x3 = fun _ => 1#1) (i) : (x0 i).toNat < 16 := by
  have h0 := congrFun h i
  have e : ∀ a b : BitVec 1, IntOp.andi a b = 1#1 → a = 1#1 ∧ b = 1#1 := by decide
  obtain ⟨h1, h2⟩ := e _ _ h0
  have h1 : BitVec.ofBool (BitVec.sle 0#32 (x0 i)) = 1#1 := h1
  have h2 : BitVec.ofBool (BitVec.slt (x0 i) 16#32) = 1#1 := h2
  have hb : ∀ b : Bool, BitVec.ofBool b = 1#1 → b = true := by decide
  have h1 := hb _ h1
  have h2 := hb _ h2
  rw [BitVec.sle_eq_decide, decide_eq_true_eq] at h1
  rw [BitVec.slt_eq_decide, decide_eq_true_eq] at h2
  have e16 : (16#32).toInt = 16 := rfl
  have e0 : (0#32).toInt = 0 := rfl
  have := BitVec.toInt_eq_toNat_cond (x0 i)
  split at this <;> omega

/-- The frame of the kernel on bits. -/
theorem downBits_frame : quiescent_Down := fun m g hpre => by
  rw [defs_same, main_same]
  exact frame_of (F := Bits) (m (((0 : Dev Cert.Down.nD).tc : Thread Cert.Down.nD Cert.Down.τ).loc Cert.Down.main_arg0)) (m (((0 : Dev Cert.Down.nD).tc : Thread Cert.Down.nD Cert.Down.τ).loc Cert.Down.main_arg1))
    (ok_of _ _ (below _ _ _ _ (hpre 0))) m g
    ⟨fun c => by obtain rfl : c = 0 := Subsingleton.elim _ _; rfl, fun c => by obtain rfl : c = 0 := Subsingleton.elim _ _; rfl⟩

/-- The frame of the idealized kernel. -/
theorem downIdeal_frame : quiescent_DownIdeal := fun m g hpre =>
  frame_of (F := Ideal) (m (((0 : Dev Cert.DownIdeal.nD).tc : Thread Cert.DownIdeal.nD Cert.DownIdeal.τ).loc Cert.DownIdeal.main_arg0)) (m (((0 : Dev Cert.DownIdeal.nD).tc : Thread Cert.DownIdeal.nD Cert.DownIdeal.τ).loc Cert.DownIdeal.main_arg1))
    (ok_of _ _ (below _ _ _ _ (hpre 0))) m g
    ⟨fun c => by obtain rfl : c = 0 := Subsingleton.elim _ _; rfl, fun c => by obtain rfl : c = 0 := Subsingleton.elim _ _; rfl⟩
end Cert.DownIdeal.Run
end
-- ==== Proof.Down.Ref.lean ====
/- The down projection's reference read entry by entry: a used tile's entry is the product of the row and its expert's
   column; an unused tile's entry is zero. -/
module

public import proofs.«01_k».proof.Proof.Gen.DownRefIdeal.Run
public import proofs.«01_k».proof.Proof.Gen.DownRefIdeal.Read
public import Idealize.ShloMosaic.Lib.Pointwise

@[expose] public section

set_option maxRecDepth 16384

noncomputable section

namespace Cert.DownRefIdeal.Val

open Cert.DownRefIdeal Cert.DownRefIdeal.Gen Cert.DownRefIdeal.Read
open Idealize.ShloMosaic Idealize.ShloMosaic.TcCoe Idealize.SL.Sem Idealize.ShloMosaic.Pointwise

/-- A slice of the experts' weights, by the entry of the table of starts. -/
theorem gather_apply {α : Type} (x : S16x5632x2048.Idx → α) (t : IVec S74x1 32) (p : Fin 74) (k : Fin 5632) (f : Fin 2048) :
    Host.gather gather_S16x5632x2048_S74x1_S74x5632x2048_12_0_n_n_0_1_156322048 x t (ix3 p k f)
      = x (ix3 ⟨min (t (ix2 p 0)).toInt.toNat 15, by omega⟩ k f) := by
  unfold Host.gather
  congr 1
  funext a
  refine Fin.ext ?_
  generalize hd : gather_S16x5632x2048_S74x1_S74x5632x2048_12_0_n_n_0_1_156322048 = d
  show d.start (ix3 p k f) t a + d.batchCoord (ix3 p k f) a + d.offCoord (ix3 p k f) a = _
  rw [GatherDims.batchCoord_eq_zero _ _ _ (by subst hd; exact List.not_mem_nil), Nat.add_zero]
  have ha : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  subst hd
  rcases ha with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ gather_S16x5632x2048_S74x1_S74x5632x2048_12_0_n_n_0_1_156322048.startIndexMap from List.mem_singleton.mpr rfl)]
    have hsi : gather_S16x5632x2048_S74x1_S74x5632x2048_12_0_n_n_0_1_156322048.siIdx (ix3 p k f)
        ⟨List.idxOf (0 : Fin 3) gather_S16x5632x2048_S74x1_S74x5632x2048_12_0_n_n_0_1_156322048.startIndexMap,
          List.idxOf_lt_length_iff.2 (List.mem_singleton.mpr rfl)⟩ = ix2 p 0 := by
      funext b; refine Fin.ext ?_
      match b with
      | ⟨0, _⟩ => rfl
      | ⟨1, _⟩ => rfl
    rw [hsi]
    rfl
  · unfold GatherDims.start
    rw [dif_neg (show ¬(1 : Fin 3) ∈ gather_S16x5632x2048_S74x1_S74x5632x2048_12_0_n_n_0_1_156322048.startIndexMap by decide), Nat.zero_add]
    rfl
  · unfold GatherDims.start
    rw [dif_neg (show ¬(2 : Fin 3) ∈ gather_S16x5632x2048_S74x1_S74x5632x2048_12_0_n_n_0_1_156322048.startIndexMap by decide), Nat.zero_add]
    rfl

/-- An expert's number is not negative and not clamped. -/
theorem small_word (v : BitVec 32) (h : v.toNat < 16) : IntOp.cmpi .slt v 0#32 = 0#1 ∧ min v.toInt.toNat 15 = v.toNat := by
  have e : v.toInt = (v.toNat : ℤ) := by rw [BitVec.toInt_eq_toNat_cond, if_pos (by omega)]
  refine ⟨?_, by omega⟩
  show BitVec.ofBool (BitVec.slt _ _) = 0#1
  rw [BitVec.slt_eq_decide, e, decide_eq_false (by show ¬((v.toNat : ℤ) < 0); omega)]
  rfl

variable (x0 : (⟨S74, .i32⟩ : BufTy).Contents (Elt Ideal)) (x1 : (⟨S1, .i32⟩ : BufTy).Contents (Elt Ideal)) (x2 : (⟨S37888x5632, .bf16⟩ : BufTy).Contents (Elt Ideal))
  (x3 : (⟨S16x5632x2048, .f32⟩ : BufTy).Contents (Elt Ideal))

/-- The tables' entries as the reference takes them: as they are. -/
theorem start1 (h : ∀ i, (x0 i : BitVec 32).toNat < 16) (p : Fin 74) : val_main_v7 (F := Ideal) x0 (ix2 p 0) = x0 (ix1 p) := by
  rw [val_main_v7_apply, val_main_v6_apply, val_main_v3_apply, val_main_v2_apply, val_main_c_apply]
  have e : idx_main_v7 (ix2 p 0) = ix1 p := by funext a; obtain rfl : a = (0 : Fin 1) := Subsingleton.elim (α := Fin 1) a 0; rfl
  rw [e, (small_word _ (h _)).1]
  rfl
/-- A row times a column of an expert's weights. -/
def times (w : (⟨S16x5632x2048, .f32⟩ : BufTy).Contents (Elt Ideal)) (e : Fin 16) (r : Fin 37888) (f : Fin 2048) : EReal :=
  ∑ k : Fin 5632, (x2 (ix2 r k) : EReal) * (w (ix3 e k f) : EReal)

/-- Row `r` of tile `p`. -/
abbrev rowAt (p : Fin 74) (r : Fin 512) : Fin 37888 := ⟨p.val * 512 + r.val, by omega⟩

/-- A tile's rows. -/
theorem lhs_apply (p : Fin 74) (r : Fin 512) (k : Fin 5632) : (val_main_v0 (F := Ideal) x2 (ix3 p r k) : EReal) = x2 (ix2 (rowAt p r) k) := by
  rw [val_main_v0_apply]
  refine congrArg x2 ((eq_ix2 _).trans ?_)
  have e0 : idx_main_v0 (ix3 p r k) 0 = rowAt p r := Fin.ext (by show ((p.val * 512 + r.val) * 5632 + k.val) / 5632 = p.val * 512 + r.val; omega)
  have e1 : idx_main_v0 (ix3 p r k) 1 = k := Fin.ext (by show ((p.val * 512 + r.val) * 5632 + k.val) % 5632 = k.val; omega)
  rw [e0, e1]

/-- The product. -/
theorem h1_apply (h : ∀ i, (x0 i : BitVec 32).toNat < 16) (p : Fin 74) (r : Fin 512) (f : Fin 2048) :
    (val_main_v9 (F := Ideal) x0 x2 x3 (ix3 p r f) : EReal) = times x2 x3 ⟨(x0 (ix1 p) : BitVec 32).toNat, h _⟩ (rowAt p r) f := by
  rw [val_main_v9_apply]
  unfold times
  refine Finset.sum_congr rfl fun k _ => ?_
  have e1 : lidx_main_v9 (ix3 p r f) k = ix3 p r k := eq_ix3 _
  have e2 : ridx_main_v9 (ix3 p r f) k = ix3 p k f := eq_ix3 _
  rw [e1, e2, ← lhs_apply x2 p r k]
  refine congrArg₂ (· * ·) rfl ?_
  unfold val_main_v8
  rw [gather_apply]
  refine congrArg (fun e => x3 (ix3 e k f)) (Fin.ext ?_)
  show min _ 15 = _
  rw [start1 x0 h]
  exact (small_word _ (h _)).2

open Classical in
/-- **An entry of the reference.** -/
theorem out_apply (h : ∀ i, (x0 i : BitVec 32).toNat < 16) (p : Fin 74) (r : Fin 512) (f : Fin 2048) :
    (val_main_v19 (F := Ideal) x0 x1 x2 x3 (ix2 (rowAt p r) f) : EReal)
      = if (p.val : ℤ) < (x1 (ix1 0) : BitVec 32).toInt then
          times x2 x3 ⟨(x0 (ix1 p) : BitVec 32).toNat, h _⟩ (rowAt p r) f
        else 0 := by
  rw [val_main_v19_apply]
  have e : idx_main_v19 (ix2 (rowAt p r) f) = ix3 p r f := by
    refine (eq_ix3 _).trans ?_
    have e0 : idx_main_v19 (ix2 (rowAt p r) f) 0 = p := Fin.ext (by show ((p.val * 512 + r.val) * 2048 + f.val) / 1048576 = p.val; omega)
    have e1 : idx_main_v19 (ix2 (rowAt p r) f) 1 = r := Fin.ext (by show ((p.val * 512 + r.val) * 2048 + f.val) / 2048 % 512 = r.val; omega)
    have e2 : idx_main_v19 (ix2 (rowAt p r) f) 2 = f := Fin.ext (by show ((p.val * 512 + r.val) * 2048 + f.val) % 2048 = f.val; omega)
    rw [e0, e1, e2]
  rw [e, val_main_v18_apply, val_main_v10_apply, show FloatOps.truncf (F := Ideal) .bf16 bitsLt_bf16_f32 (val_main_v9 (F := Ideal) x0 x2 x3 (ix3 p r f)) = val_main_v9 (F := Ideal) x0 x2 x3 (ix3 p r f) from rfl, h1_apply x0 x2 x3 h, val_main_v16_apply, val_main_v15_apply, val_main_v14_apply, val_main_v17_apply, val_main_cst_apply,
    val_main_v11_apply, val_main_v13_apply]
  have hz : (FloatOps.ofBits .bf16 0x0000#16 : Ideal .bf16) = (0 : EReal) := by
    show Ideal.ofBits .bf16 0x0000#16 = 0
    simp [Ideal.ofBits, Ideal.ieee]
  have hv : val_main_v12 (F := Ideal) x1 (idx_main_v13 (idx_main_v15 (idx_main_v16 (ix3 p r f)))) = x1 (ix1 0) := by
    unfold val_main_v12
    refine congrArg x1 ?_
    funext a
    obtain rfl : a = (0 : Fin 1) := Subsingleton.elim (α := Fin 1) a 0
    exact Subsingleton.elim (α := Fin 1) _ _
  have hw : ((idx_main_v15 (idx_main_v16 (ix3 p r f))) 0).val = p.val := rfl
  have hp : (BitVec.ofNat 32 p.val).toInt = (p.val : ℤ) := by
    have := p.isLt
    rw [BitVec.toInt_eq_toNat_cond, BitVec.toNat_ofNat, Nat.mod_eq_of_lt (by omega), if_pos (by omega)]
  rw [hv, hw, hz]
  generalize times _ _ _ _ _ = g
  have hc : IntOp.cmpi .slt (BitVec.ofNat 32 p.val) (x1 (ix1 0) : BitVec 32) = BitVec.ofBool (decide ((p.val : ℤ) < (x1 (ix1 0) : BitVec 32).toInt)) := by
    show BitVec.ofBool (BitVec.slt _ _) = _
    rw [BitVec.slt_eq_decide, hp]
  rw [hc]
  by_cases hlt : (p.val : ℤ) < (x1 (ix1 0) : BitVec 32).toInt
  · rw [if_pos hlt, decide_eq_true hlt]; rfl
  · rw [if_neg hlt, decide_eq_false hlt]; rfl

end Cert.DownRefIdeal.Val
end
-- ==== Proof.Down.Value.lean ====
/- What the down projection leaves in its array: each tile's rows times the columns of its expert's weights. -/
module

public import proofs.«01_k».proof.Proof.Down.Run
public import proofs.«01_k».proof.Proof.Down.Ref
public import Idealize.ShloMosaic.Lib.Pipeline.Covers
public import Idealize.ShloMosaic.Lib.Pipeline.ValueKit

@[expose] public section

set_option maxRecDepth 16384
set_option Elab.async false

noncomputable section

namespace Cert.DownIdeal.Val

open Cert.DownIdeal Cert.DownIdeal.Gen Cert.DownIdeal.Run
open Idealize.ShloMosaic Idealize.ShloMosaic.TcCoe Idealize.SL.Sem Idealize.ShloMosaic.Pointwise
open Cert.DownRefIdeal.Val (times rowAt)

/-- A point's payload, entry by entry. -/
theorem pay1_apply (w : Vec Ideal S1x5632x1024 .f32) (k : Fin 5632) (f : Fin 1024) : (k0_pay1 (F := Ideal) w (ix2 k f) : EReal) = w (ix3 0 k f) := by
  unfold_payloads
  pointwise
theorem pay2_apply (a : Vec Ideal S512x5632 .bf16) (u : Vec Ideal S5632x1024 .bf16) (r : Fin 512) (f : Fin 1024) :
    (k0_pay2 (F := Ideal) a u (ix2 r f) : EReal) = ∑ k : Fin 5632, (a (ix2 r k) : EReal) * (u (ix2 k f) : EReal) := by
  unfold_payloads
  pointwise
theorem pay3_apply (r : Fin 512) (f : Fin 1024) : (k0_pay3 (F := Ideal) (ix2 r f) : EReal) = 0 := by
  unfold_payloads
  pointwise

variable (T0 : S74.Idx → Elt Ideal .i32) (T1 : S1.Idx → Elt Ideal .i32) (hok : ok0 (F := Ideal) (tabs T0 T1))
variable (m : (ℓ : Loc nD τ sig) → Buf (Elt Ideal) ℓ) (ρ : Dev nD → PrngReg) (c : Dev nD)

/-- The rows and the experts' weights, as the launch memory holds them. -/
abbrev x2 : Vec Ideal S37888x5632 .bf16 := m ((c.tc : Thread nD τ).loc main_arg2)
abbrev x3 : Vec Ideal S16x5632x2048 .f32 := m ((c.tc : Thread nD τ).loc main_arg3)

/-- A point's tile, and its chunk of the columns. -/
abbrev tile (t : Fin (cfgA T0 T1 hok).N) : Fin 74 := crd T0 T1 hok t 1
abbrev chunk (t : Fin (cfgA T0 T1 hok).N) : Fin 2 := crd T0 T1 hok t 0
/-- A column of a point's chunk. -/
abbrev colAt (q : Fin 2) (f : Fin 1024) : Fin 2048 := ⟨q.val * 1024 + f.val, by omega⟩

/-- A used point's rows. -/
theorem rows_read (t : Fin (cfgA T0 T1 hok).N) (ha : Active (crd T0 T1 hok t) T1) (r : Fin 512) (k : Fin 5632) :
    (iblk T0 T1 hok m ρ c (0 : Fin 3) t (ix2 r k) : EReal) = x2 m c (ix2 (rowAt (tile T0 T1 hok t) r) k) := by
  show x2 m c ((((cfgA T0 T1 hok).win (0 : Fin 3)).blk t).view.emb (ix2 r k)) = _
  refine congrArg (x2 m c) ((eq_ix2 _).trans ?_)
  have e0 : ((((cfgA T0 T1 hok).win (0 : Fin 3)).blk t).view.emb (ix2 r k) (0 : Fin 2) : Fin 37888) = rowAt (tile T0 T1 hok t) r := Fin.ext (by
    show rowsOf (crd T0 T1 hok t) (nUsed T1) * 512 + 1 * r.val = (crd T0 T1 hok t 1).val * 512 + r.val
    rw [rows_active _ _ ha, Nat.one_mul])
  have e1 : ((((cfgA T0 T1 hok).win (0 : Fin 3)).blk t).view.emb (ix2 r k) (1 : Fin 2) : Fin 5632) = k := Fin.ext (by
    show 0 * 5632 + 1 * k.val = k.val
    omega)
  exact congrArg₂ ix2 e0 e1

/-- A point's expert. -/
abbrev expert (h : ∀ i, (T0 i : BitVec 32).toNat < 16) (t : Fin (cfgA T0 T1 hok).N) : Fin 16 := ⟨(T0 (ix1 (tile T0 T1 hok t)) : BitVec 32).toNat, h _⟩

/-- A point's block of the weights. -/
theorem weights_read (h : ∀ i, (T0 i : BitVec 32).toNat < 16) (t : Fin (cfgA T0 T1 hok).N) (k : Fin 5632) (f : Fin 1024) :
    (iblk T0 T1 hok m ρ c (1 : Fin 3) t (ix3 0 k f) : EReal) = x3 m c (ix3 (expert T0 T1 hok h t) k (colAt (chunk T0 T1 hok t) f)) := by
  show x3 m c ((((cfgA T0 T1 hok).win (1 : Fin 3)).blk t).view.emb (ix3 0 k f)) = _
  refine congrArg (x3 m c) ((eq_ix3 _).trans ?_)
  have e0 : ((((cfgA T0 T1 hok).win (1 : Fin 3)).blk t).view.emb (ix3 0 k f) (0 : Fin 3) : Fin 16) = expert T0 T1 hok h t := Fin.ext (by
    show (expertAt T0 (crd T0 T1 hok t)).toNat * 1 + 1 * 0 = (T0 (ix1 (crd T0 T1 hok t 1)) : BitVec 32).toNat
    rw [expertAt_eq]; omega)
  have e1 : ((((cfgA T0 T1 hok).win (1 : Fin 3)).blk t).view.emb (ix3 0 k f) (1 : Fin 3) : Fin 5632) = k := Fin.ext (by
    show 0 * 5632 + 1 * k.val = k.val
    omega)
  have e2 : ((((cfgA T0 T1 hok).win (1 : Fin 3)).blk t).view.emb (ix3 0 k f) (2 : Fin 3) : Fin 2048) = colAt (chunk T0 T1 hok t) f := Fin.ext (by
    show (BitVec.ofNat 32 (crd T0 T1 hok t 0).val).toNat * 1024 + 1 * f.val = (crd T0 T1 hok t 0).val * 1024 + f.val
    rw [chunk_word, Nat.one_mul])
  rw [e0, e1, e2]

open Classical in
/-- **A point's block.** -/
theorem outAt_apply (h : ∀ i, (T0 i : BitVec 32).toNat < 16) (t : Fin (cfgA T0 T1 hok).N) (r : Fin 512) (f : Fin 1024) :
    (outAt T0 T1 hok m ρ c t (ix2 r f) : EReal)
      = if ((tile T0 T1 hok t).val : ℤ) < (T1 (ix1 0) : BitVec 32).toInt then
          times (x2 m c) (x3 m c) (expert T0 T1 hok h t) (rowAt (tile T0 T1 hok t) r) (colAt (chunk T0 T1 hok t) f)
        else 0 := by
  have hn : nUsed T1 = T1 (ix1 0) := by
    show T1 _ = T1 _
    refine congrArg T1 ?_
    funext a
    obtain rfl : a = (0 : Fin 1) := Subsingleton.elim (α := Fin 1) a 0
    exact Subsingleton.elim (α := Fin 1) _ _
  have hiff := active_iff (crd T0 T1 hok t) (nUsed T1)
  rw [hn] at hiff
  unfold outAt
  by_cases ha : Active (crd T0 T1 hok t) T1
  · rw [if_pos ha, if_pos (by rw [← hiff, ← hn]; exact ha), pay2_apply]
    unfold times w1At
    simp only [pay1_apply, rows_read T0 T1 hok m ρ c t ha, weights_read T0 T1 hok m ρ c h]
  · rw [if_neg ha, if_neg (by rw [← hiff, ← hn]; exact ha), pay3_apply]

/-- The word of a result's block of rows: the tile's number with nothing added. -/
theorem out_word (n : Fin 74) : (Scalar.addi (BitVec.ofNat 32 n.val) 0#32 : BitVec 32).toNat = n.val := by
  show (BitVec.ofNat 32 n.val + 0#32).toNat = n.val
  rw [BitVec.add_zero, BitVec.toNat_ofNat, Nat.mod_eq_of_lt (by omega)]

/-- Every block of the result is some point's. -/
theorem covers : ((cfgA T0 T1 hok).win (2 : Fin 3)).Covers := by
  have n0 : ((cfgA T0 T1 hok).win (2 : Fin 3)).nblk (0 : Fin 2) = 74 := by
    show (37888 + 512 - 1) / 512 = 74
    norm_num
  have n1 : ((cfgA T0 T1 hok).win (2 : Fin 3)).nblk (1 : Fin 2) = 2 := by
    show (2048 + 1024 - 1) / 1024 = 2
    norm_num
  refine Pipeline.Window.covers_of_indexMap_surj _ rfl (fun a => ?_) fun β =>
    ⟨fun a => match a with
      | ⟨0, _⟩ => (⟨(β (1 : Fin 2)).val, lt_of_lt_of_eq (β (1 : Fin 2)).isLt n1⟩ : Fin 2)
      | ⟨1, _⟩ => (⟨(β (0 : Fin 2)).val, lt_of_lt_of_eq (β (0 : Fin 2)).isLt n0⟩ : Fin 74), fun a => ?_⟩
  · fin_cases a
    · show 0 < 512; norm_num
    · show 0 < 1024; norm_num
  · fin_cases a
    · exact out_word ⟨(β (0 : Fin 2)).val, lt_of_lt_of_eq (β (0 : Fin 2)).isLt n0⟩
    · show (BitVec.ofNat 32 (β (1 : Fin 2)).val).toNat = (β (1 : Fin 2)).val
      have := lt_of_lt_of_eq (β (1 : Fin 2)).isLt n1
      simp only [BitVec.toNat_ofNat]
      omega

/-- The array ends as `G` if every point's block is `G`'s. -/
theorem array_of (G : Vec Ideal S37888x2048 .bf16)
    (hG : ∀ (t : Fin (cfgA T0 T1 hok).N) (r : Fin 512) (f : Fin 1024), outAt T0 T1 hok m ρ c t (ix2 r f) = G (ix2 (rowAt (tile T0 T1 hok t) r) (colAt (chunk T0 T1 hok t) f))) :
    (dats T0 T1 hok m ρ 0 c).arrAt (2 : Fin 3) (cfgA T0 T1 hok).N = G := by
  refine (dats T0 T1 hok m ρ 0 c).arrAt_eq_of_covers (2 : Fin 3) G (covers T0 T1 hok) fun t _ y => ?_
  show outAt T0 T1 hok m ρ c t y = G _
  rw [show y = ix2 (y 0) (y 1) from eq_ix2 _]
  refine (hG t _ _).trans (congrArg G ?_)
  refine Eq.trans ?_ (eq_ix2 _).symm
  refine congrArg₂ ix2 (Fin.ext ?_) (Fin.ext ?_)
  · show (crd T0 T1 hok t 1).val * 512 + _ = (Scalar.addi (BitVec.ofNat 32 (crd T0 T1 hok t 1).val) 0#32).toNat * 512 + 1 * _
    rw [show (Scalar.addi (BitVec.ofNat 32 (crd T0 T1 hok t 1).val) 0#32).toNat = (crd T0 T1 hok t 1).val from out_word _, Nat.one_mul]; rfl
  · show (crd T0 T1 hok t 0).val * 1024 + _ = (BitVec.ofNat 32 (crd T0 T1 hok t 0).val).toNat * 1024 + 1 * _
    rw [chunk_word, Nat.one_mul]; rfl

/-- **The array is the reference's.** -/
theorem array_eq (h : ∀ i, (T0 i : BitVec 32).toNat < 16) :
    (dats T0 T1 hok m ρ 0 c).arrAt (2 : Fin 3) (cfgA T0 T1 hok).N = Cert.DownRefIdeal.Read.val_main_v19 (F := Ideal) T0 T1 (x2 m c) (x3 m c) :=
  array_of T0 T1 hok m ρ c _ fun t r f =>
    (outAt_apply T0 T1 hok m ρ c h t r f).trans (Cert.DownRefIdeal.Val.out_apply T0 T1 (x2 m c) (x3 m c) h (tile T0 T1 hok t) r (colAt (chunk T0 T1 hok t) f)).symm

end Cert.DownIdeal.Val
end
-- ==== Proof.Down.Claims.lean ====
/- The claims of the down projection over the ideal reals: the reference runs, and the kernel computes what it computes. -/
module

public import proofs.«01_k».proof.Proof.Down.Bits
public import proofs.«01_k».proof.Proof.Down.Value
public import proofs.«01_k».proof.Proof.Gen.DownRefIdeal.Run
public import proofs.«01_k».proof.Proof.Gen.DownRefIdeal.Read

@[expose] public section

set_option maxRecDepth 65536
set_option maxHeartbeats 1000000

namespace Cert.DownIdeal.Run

open Idealize.ShloMosaic Idealize.ShloMosaic.TcCoe Idealize.SL.Sem

/-- The reference runs and leaves its arguments. -/
theorem downRef_frame_pre : quiescent_DownRefIdeal_pre_experts_down := fun m g _ =>
  (θ_run _ _ _).mono (fun r h => ⟨fun c => (h c).2, sem_eq_zero_of_no_sems (by decide) r.2⟩) (Cert.DownRefIdeal.Value.run m g)
theorem downRef_frame : quiescent_DownRefIdeal := fun m g _ =>
  (θ_run _ _ _).mono (fun r h => ⟨fun c => (h c).2, sem_eq_zero_of_no_sems (by decide) r.2⟩) (Cert.DownRefIdeal.Value.run m g)

/-- The kernel's array is the reference's: both memories hold the same tables, rows and weights. -/
theorem down_algebraic : algebraic_DownIdeal_DownRefIdeal := by
  intro m g m' g' hpre hagree
  have h16 := below (F := Ideal) _ _ _ _ (hpre 0)
  have hok := ok_of (F := Ideal) (m (((0 : Dev Cert.DownIdeal.nD).tc : Thread Cert.DownIdeal.nD Cert.DownIdeal.τ).loc Cert.DownIdeal.main_arg0)) (m (((0 : Dev Cert.DownIdeal.nD).tc : Thread Cert.DownIdeal.nD Cert.DownIdeal.τ).loc Cert.DownIdeal.main_arg1)) h16
  have hp : Held (F := Ideal) (m (((0 : Dev Cert.DownIdeal.nD).tc : Thread Cert.DownIdeal.nD Cert.DownIdeal.τ).loc Cert.DownIdeal.main_arg0)) (m (((0 : Dev Cert.DownIdeal.nD).tc : Thread Cert.DownIdeal.nD Cert.DownIdeal.τ).loc Cert.DownIdeal.main_arg1)) m :=
    ⟨fun c => by obtain rfl : c = 0 := Subsingleton.elim _ _; rfl, fun c => by obtain rfl : c = 0 := Subsingleton.elim _ _; rfl⟩
  refine ⟨fun c => (dats _ _ hok m g 0 c).arrAt (2 : Fin 3) (cfgA _ _ hok).N, ?_, ?_⟩
  · exact (θ_run Cert.DownIdeal.defs _ _).mono (fun _ h c => ⟨(h.1 c).1 (2 : Fin 3), ((h.1 c).2 0).trans (hp.1 c).symm, ((h.1 c).2 1).trans (hp.2 c).symm,
      ((h.1 c).1 (0 : Fin 3)).trans ((dats _ _ hok m g 0 c).arrAt_in (0 : Fin 3) rfl _), ((h.1 c).1 (1 : Fin 3)).trans ((dats _ _ hok m g 0 c).arrAt_in (1 : Fin 3) rfl _)⟩) (run_main_quiescent _ _ hok m g hp)
  · refine (θ_run _ _ _).mono (fun r h c => ?_) (Cert.DownRefIdeal.Value.run m' g')
    refine ⟨(h c).1.trans ?_, (h c).2⟩
    obtain ⟨e0, e1, e2, e3⟩ := hagree c
    rw [Cert.DownRefIdeal.Read.val_main_v19_eq, e0, e1, e2, e3]
    obtain rfl : c = 0 := Subsingleton.elim _ _
    exact (Cert.DownIdeal.Val.array_eq _ _ hok m g 0 h16).symm

end Cert.DownIdeal.Run

end
-- ==== Proof.InProj.Ref.lean ====
/-
The first projection's reference read entry by entry: a row is divided by the root of its mean square, scaled by the
norm's gain, modulated by its sample's scale and shift, and multiplied with a column of the weights.
-/
module
public import proofs.«01_k».proof.Proof.Gen.InRefIdeal.Read
public import Idealize.ShloMosaic.Lib.Pointwise
@[expose] public section
set_option maxRecDepth 16384
noncomputable section
namespace Cert.InRefIdeal.Val
open Cert.InRefIdeal Cert.InRefIdeal.Gen Cert.InRefIdeal.Read Idealize.ShloMosaic Idealize.ShloMosaic.TcCoe Idealize.SL.Sem Idealize.ShloMosaic.Pointwise

/-- An entry of the modulated norm of a row `x`: `g` is the gain, `s` the scale and `h` the shift of its channel. -/
def modded (x : Fin 2048 → EReal) (g s h : EReal) (k : Fin 2048) : EReal :=
  x k * Ideal.rsqrt (Ideal.div (∑ y : Fin 2048, x y * x y) (Ideal.ofBits .f32 0x45000000#32) + Ideal.ofBits .f32 0x358637BD#32) * g * (1 + s) + h

variable (x0 : Vec Ideal S32768x2048 .f32) (x1 : Vec Ideal S1x2048 .f32) (x2 : Vec Ideal S4x6x2048 .f32) (x3 : Vec Ideal S2048x10752 .bf16)

/-- The sample that a row is of. -/
abbrev sample (r : Fin 32768) : Fin 4 := ⟨r.val / 8192, by omega⟩
/-- A row's place in its sample. -/
abbrev place (r : Fin 32768) : Fin 8192 := ⟨r.val % 8192, by omega⟩

/-- The product of a row, normed and modulated, with a column of the weights. -/
def proj (r : Fin 32768) (f : Fin 10752) : EReal :=
  ∑ k : Fin 2048, modded (fun y => x0 (ix2 r y)) (x1 (ix2 0 k)) (x2 (ix3 (sample r) 1 k)) (x2 (ix3 (sample r) 0 k)) k * (x3 (ix2 k f) : EReal)

/-- A row of the samples' arrays. -/
theorem row_apply (r : Fin 32768) (k : Fin 2048) : (val_main_v0 (F := Ideal) x0 (ix3 (sample r) (place r) k) : EReal) = x0 (ix2 r k) := by
  rw [val_main_v0_apply]
  refine congrArg x0 ((eq_ix2 _).trans ?_)
  congr 1
  · exact Fin.ext (show ((r.val / 8192 * 8192 + r.val % 8192) * 2048 + k.val) / 2048 = r.val by omega)
  · exact Fin.ext (show ((r.val / 8192 * 8192 + r.val % 8192) * 2048 + k.val) % 2048 = k.val by omega)

/-- The sum of a row's squares. -/
theorem squares_apply (r : Fin 32768) : (val_main_v2 (F := Ideal) x0 (ix2 (sample r) (place r)) : EReal) = ∑ y : Fin 2048, (x0 (ix2 r y) * x0 (ix2 r y) : EReal) := by
  have e : ∀ y, idx_main_v2 (ix2 (sample r) (place r)) y = ix3 (sample r) (place r) y := fun y => eq_ix3 _
  rw [val_main_v2_apply, show val_main_cst (F := Ideal) (Shape.Idx.first h_S_) = (0 : EReal) from Ideal.ofBits_zero_f32, zero_add]
  refine Finset.sum_congr rfl fun y _ => ?_
  rw [e, val_main_v1_apply, row_apply]
  rfl

/-- One over the root of a row's mean square. -/
theorem root_apply (r : Fin 32768) : (val_main_v8 (F := Ideal) x0 (ix3 (sample r) (place r) 0) : EReal) =
    Ideal.rsqrt (Ideal.div (∑ y : Fin 2048, (x0 (ix2 r y) * x0 (ix2 r y) : EReal)) (Ideal.ofBits .f32 0x45000000#32) + Ideal.ofBits .f32 0x358637BD#32 : EReal) := by
  have e : idx_main_v3 (ix3 (sample r) (place r) 0) = ix2 (sample r) (place r) := eq_ix2 _
  rw [val_main_v8_apply, val_main_v7_apply, val_main_v6_apply, val_main_v5_apply, val_main_v4_apply, val_main_v3_apply, e, squares_apply]
  rfl

/-- The gain of a channel. -/
theorem gain_apply (b : Fin 4) (n : Fin 8192) (k : Fin 2048) : (val_main_v13 (F := Ideal) x1 (ix3 b n k) : EReal) = x1 (ix2 0 k) := by
  rw [val_main_v13_apply, val_main_v12_apply, val_main_v11_apply]
  refine congrArg x1 ((eq_ix2 _).trans ?_)
  congr 1
  exact Fin.ext (show k.val % 2048 = k.val by omega)

/-- One plus the scale of a sample's channel. -/
theorem scale_apply (b : Fin 4) (n : Fin 8192) (k : Fin 2048) : (val_main_v18 (F := Ideal) x2 (ix3 b n k) : EReal) = 1 + x2 (ix3 b 1 k) := by
  have e : idx_main_v15 (idx_main_v18 (ix3 b n k)) = ix3 b 1 k := eq_ix3 _
  have e0 : idx_main_v16 (idx_main_v18 (ix3 b n k)) = ix0 := funext fun a => a.elim0
  rw [val_main_v18_apply, val_main_v17_apply, val_main_v16_apply, val_main_v15_apply, e, e0,
    show val_main_cst_2 (F := Ideal) ix0 = (1 : EReal) from Ideal.ofBits_one_f32]
  rfl

/-- The shift of a sample's channel. -/
theorem shift_apply (b : Fin 4) (n : Fin 8192) (k : Fin 2048) : (val_main_v21 (F := Ideal) x2 (ix3 b n k) : EReal) = x2 (ix3 b 0 k) := by
  have e : idx_main_v20 (idx_main_v21 (ix3 b n k)) = ix3 b 0 k := eq_ix3 _
  rw [val_main_v21_apply, val_main_v20_apply, e]

/-- A row normed and modulated. -/
theorem modded_apply (r : Fin 32768) (k : Fin 2048) : (val_main_v22 (F := Ideal) x0 x1 x2 (ix3 (sample r) (place r) k) : EReal) =
    modded (fun y => x0 (ix2 r y)) (x1 (ix2 0 k)) (x2 (ix3 (sample r) 1 k)) (x2 (ix3 (sample r) 0 k)) k := by
  have e : idx_main_v9 (ix3 (sample r) (place r) k) = ix3 (sample r) (place r) 0 := eq_ix3 _
  rw [val_main_v22_apply, shift_apply, val_main_v19_apply, scale_apply, val_main_v14_apply, gain_apply, val_main_v10_apply, row_apply, val_main_v9_apply, e, root_apply]
  rfl

/-- **An entry of the reference's result.** -/
theorem out_apply (r : Fin 32768) (f : Fin 10752) : (val_main_v26 (F := Ideal) x0 x1 x2 x3 (ix2 r f) : EReal) = proj x0 x1 x2 x3 r f := by
  have e : idx_main_v26 (ix2 r f) = ix3 (sample r) (place r) f := by
    refine (eq_ix3 _).trans ?_
    congr 1
    · exact Fin.ext (show (r.val * 10752 + f.val) / 88080384 = r.val / 8192 by omega)
    · exact Fin.ext (show (r.val * 10752 + f.val) / 10752 % 8192 = r.val % 8192 by omega)
    · exact Fin.ext (show (r.val * 10752 + f.val) % 10752 = f.val by omega)
  have el : ∀ k, lidx_main_v24 (ix3 (sample r) (place r) f) k = ix3 (sample r) (place r) k := fun k => eq_ix3 _
  have er : ∀ k, ridx_main_v24 (ix3 (sample r) (place r) f) k = ix2 k f := fun k => eq_ix2 _
  rw [val_main_v26_apply, e, val_main_v25_apply]
  refine (val_main_v24_apply x0 x1 x2 x3 _).trans (Finset.sum_congr rfl fun k _ => ?_)
  rw [el, er, modded_apply, val_main_v23_apply]
  rfl
end Cert.InRefIdeal.Val
end
end
-- ==== Proof.InProj.Array.lean ====
/-
The array that the first projection leaves is the reference's. The first of the seven points of a tile of rows stores the
tile normed and modulated; the other six keep it; each multiplies it with its own columns of the weights.
-/
module
public import proofs.«01_k».proof.Proof.Gen.InProjIdeal.Value
public import proofs.«01_k».proof.Proof.InProj.Ref
public import Idealize.ShloMosaic.Lib.Pipeline.ValueKit
public import Idealize.ShloMosaic.Lib.Pipeline.ReadBack
@[expose] public section
set_option maxRecDepth 16384
noncomputable section
namespace Cert.InProjIdeal.Val
open Cert.InProjIdeal Cert.InProjIdeal.Gen Idealize.ShloMosaic Idealize.ShloMosaic.TcCoe Idealize.SL.Sem Idealize.ShloMosaic.Pointwise
open Cert.InRefIdeal.Val (modded proj sample)

/-- The block that each window is on at point `t`: row tile `t / 7`, eight tiles to a sample, columns `t % 7`. -/
theorem idx (t : Fin cfg0.N) :
    win0_0.index t = ![t.val / 7, 0] ∧ win0_1.index t = ![0, 0] ∧ win0_2.index t = ![t.val / 56, 0, 0] ∧
    win0_3.index t = ![0, t.val % 7] ∧ win0_4.index t = ![t.val / 7, t.val % 7] :=
  (by decide +kernel : ∀ t : Fin grid0.N,
    win0_0.index t = ![t.val / 7, 0] ∧ win0_1.index t = ![0, 0] ∧ win0_2.index t = ![t.val / 56, 0, 0] ∧
    win0_3.index t = ![0, t.val % 7] ∧ win0_4.index t = ![t.val / 7, t.val % 7]) t

/-- The stored rows, entry by entry. -/
theorem pay1_apply (d : Vec Ideal S1x6x2048 .f32) (x : Vec Ideal S1024x2048 .f32) (g : Vec Ideal S1x2048 .f32) (r : Fin 1024) (k : Fin 2048) :
    (k0_pay1 (F := Ideal) d x g (ix2 r k) : EReal) = modded (fun y => x (ix2 r y)) (g (ix2 0 k)) (d (ix3 0 1 k)) (d (ix3 0 0 k)) k := by
  unfold modded
  unfold_payloads
  pointwise

/-- The product, entry by entry. -/
theorem pay2_apply (a : Vec Ideal S1024x2048 .bf16) (w : Vec Ideal S2048x1536 .bf16) (r : Fin 1024) (f : Fin 1536) :
    (k0_pay2 (F := Ideal) a w (ix2 r f) : EReal) = ∑ k : Fin 2048, (a (ix2 r k) : EReal) * (w (ix2 k f) : EReal) := by
  unfold_payloads
  pointwise

variable (m : (ℓ : Loc nD τ sig) → Buf (Elt Ideal) ℓ) (c : Dev nD)

/-- The points of a tile of rows have the same rows, the same gain and the same modulation. -/
theorem iblk0_congr (t t' : Fin cfg0.N) (h : t.val / 7 = t'.val / 7) : iblk m c 0 t = iblk m c 0 t' := by
  funext y
  blk_ext [iblk, idx t, idx t']
theorem iblk1_congr (t t' : Fin cfg0.N) : iblk m c 1 t = iblk m c 1 t' := by
  funext y
  blk_ext [iblk, idx t, idx t']
theorem iblk2_congr (t t' : Fin cfg0.N) (h : t.val / 7 = t'.val / 7) : iblk m c 2 t = iblk m c 2 t' := by
  funext y
  blk_ext [iblk, idx t, idx t']

/-- The rows that a point holds. -/
theorem held_eq (n : ℕ) (hn : n < cfg0.N) :
    (outsAt0 m c n hn).2 = k0_pay1 (iblk m c 2 ⟨n, hn⟩) (iblk m c 0 ⟨n, hn⟩) (iblk m c 1 ⟨n, hn⟩) := by
  induction n with
  | zero =>
    rw [outsAt0_A m c ⟨0, hn⟩ rfl]
    frame_out
  | succ n ih =>
    by_cases h : (n + 1) % 7 = 0
    · rw [outsAt0_A m c ⟨n + 1, hn⟩ h]
      frame_out
    · have e := ih (Nat.lt_of_succ_lt hn)
      rw [iblk0_congr m c ⟨n, _⟩ ⟨n + 1, hn⟩ (by dsimp only; omega), iblk1_congr m c ⟨n, _⟩ ⟨n + 1, hn⟩,
        iblk2_congr m c ⟨n, _⟩ ⟨n + 1, hn⟩ (by dsimp only; omega)] at e
      rw [outsAt0_B m c ⟨n + 1, hn⟩ h]
      exact e

/-- The block that a point leaves: the rows it holds times its columns. -/
theorem block_eq (t : Fin cfg0.N) : (outsAt0 m c t.val t.isLt).1 = k0_pay2 (outsAt0 m c t.val t.isLt).2 (iblk m c 3 t) := by
  by_cases h : t.val % 7 = 0
  · rw [outsAt0_A m c t h]
    frame_out
  · rw [outsAt0_B m c t h]
    frame_out
    simp only [read_unread_whole]
    rfl

/-- The arguments. -/
abbrev a0 : Vec Ideal S32768x2048 .f32 := m ((c.tc : Thread nD τ).loc main_arg0)
abbrev a1 : Vec Ideal S1x2048 .f32 := m ((c.tc : Thread nD τ).loc main_arg1)
abbrev a2 : Vec Ideal S4x6x2048 .f32 := m ((c.tc : Thread nD τ).loc main_arg2)
abbrev a3 : Vec Ideal S2048x10752 .bf16 := m ((c.tc : Thread nD τ).loc main_arg3)

/-- A row and a column of a point. -/
abbrev row (t : Fin cfg0.N) (r : Fin 1024) : Fin 32768 := ⟨t.val / 7 * 1024 + r.val, by have h : t.val < 224 := t.isLt; omega⟩
abbrev col (t : Fin cfg0.N) (f : Fin 1536) : Fin 10752 := ⟨t.val % 7 * 1536 + f.val, by omega⟩

/-! ## The blocks of a point, from the arguments -/

theorem read0 (t : Fin cfg0.N) (r : Fin 1024) (k : Fin 2048) : (iblk m c 0 t (ix2 r k) : EReal) = a0 m c (ix2 (row t r) k) := by
  blk_ext [iblk, V, idx t]
theorem read1 (t : Fin cfg0.N) (k : Fin 2048) : (iblk m c 1 t (ix2 0 k) : EReal) = a1 m c (ix2 0 k) := by
  blk_ext [iblk, V, idx t]
theorem read2 (t : Fin cfg0.N) (r : Fin 1024) (i : Fin 6) (k : Fin 2048) :
    (iblk m c 2 t (ix3 0 i k) : EReal) = a2 m c (ix3 (sample (row t r)) i k) := by
  have e : t.val / 56 = (t.val / 7 * 1024 + r.val) / 8192 := by omega
  blk_ext [iblk, V, idx t]
theorem read3 (t : Fin cfg0.N) (k : Fin 2048) (f : Fin 1536) : (iblk m c 3 t (ix2 k f) : EReal) = a3 m c (ix2 k (col t f)) := by
  blk_ext [iblk, V, idx t]

/-- **A point's block is the reference's.** -/
theorem point_eq (t : Fin cfg0.N) (r : Fin 1024) (f : Fin 1536) :
    ((outsAt0 m c t.val t.isLt).1 (ix2 r f) : EReal) = proj (a0 m c) (a1 m c) (a2 m c) (a3 m c) (row t r) (col t f) := by
  rw [block_eq, pay2_apply, held_eq, proj]
  refine Finset.sum_congr rfl fun k _ => ?_
  rw [pay1_apply, read1, read2 m c t r, read2 m c t r, read3]
  simp only [read0]

/-- **The kernel's result is the reference's.** -/
theorem array_eq : (dats m 0 c).arrAt 4 cfg0.N = Cert.InRefIdeal.Read.val_main_v26 (a0 m c) (a1 m c) (a2 m c) (a3 m c) := by
  refine (dats m 0 c).arrAt_eq_of_covers 4 _ (by decide +kernel) fun t hf y => ?_
  blk_simp
  rw [after0_4]
  idx_vars y
  rw [point_eq m c t y0 y1, ← Cert.InRefIdeal.Val.out_apply]
  blk_ext [idx t]
end Cert.InProjIdeal.Val
end
end
-- ==== Proof.Merge.Ref.lean ====
/-
The merge's reference read entry by entry: each branch of a row is multiplied with its weights and gated, the sum of the
three is projected and normed, added to the row under its sample's gate, and the new row is normed and modulated.
-/
module
public import proofs.«01_k».proof.Proof.Gen.MergeRefIdeal.Read
public import Idealize.ShloMosaic.Lib.Pointwise
@[expose] public section
set_option maxRecDepth 16384
noncomputable section
namespace Cert.MergeRefIdeal.Val
open Cert.MergeRefIdeal Cert.MergeRefIdeal.Gen Cert.MergeRefIdeal.Read Idealize.ShloMosaic Idealize.ShloMosaic.TcCoe Idealize.SL.Sem Idealize.ShloMosaic.Pointwise

/-- One over the root of a row's mean square. -/
def root (x : Fin 2048 → EReal) : EReal :=
  Ideal.rsqrt (Ideal.div (∑ y : Fin 2048, x y * x y) (Ideal.ofBits .f32 0x45000000#32) + Ideal.ofBits .f32 0x358637BD#32)

/-- The sample that a row is of. -/
abbrev sample (r : Fin 32768) : Fin 4 := ⟨r.val / 8192, by omega⟩
/-- A row's place in its sample. -/
abbrev place (r : Fin 32768) : Fin 8192 := ⟨r.val % 8192, by omega⟩
/-- A channel's column in the gates of a branch, and that column in the wider array the gates are cut from. -/
abbrev col (b : Fin 3) (f : Fin 2048) : Fin 6144 := ⟨b.val * 2048 + f.val, by omega⟩
abbrev wide (j : Fin 6144) : Fin 10752 := ⟨j.val, by omega⟩

variable (x0 : Vec Ideal S32768x10752 .bf16) (x1 : Vec Ideal S32768x512 .f32) (x2 : Vec Ideal S32768x512 .bf16) (x3 : Vec Ideal S32768x1024 .bf16)
  (x4 : Vec Ideal S32768x2048 .f32) (x5 : Vec Ideal S1x6144 .f32) (x6 x7 : Vec Ideal S512x2048 .bf16) (x8 : Vec Ideal S1024x2048 .bf16)
  (x9 : Vec Ideal S2048x2048 .bf16) (x10 : Vec Ideal S1x2048 .f32) (x11 : Vec Ideal S4x6x2048 .f32) (x12 : Vec Ideal S1x2048 .f32)

/-- A gate. -/
def gate (r : Fin 32768) (j : Fin 6144) : EReal := Ideal.logistic ((x0 (ix2 r (wide j)) : EReal) + x5 (ix2 0 j))

/-- The gated sum of the three branches. -/
def mixed (r : Fin 32768) (f : Fin 2048) : EReal :=
  gate x0 x5 r (col 0 f) * ∑ k : Fin 512, (x1 (ix2 r k) : EReal) * (x6 (ix2 k f) : EReal) +
    gate x0 x5 r (col 1 f) * ∑ k : Fin 512, (x2 (ix2 r k) : EReal) * (x7 (ix2 k f) : EReal) +
    gate x0 x5 r (col 2 f) * ∑ k : Fin 1024, (x3 (ix2 r k) : EReal) * (x8 (ix2 k f) : EReal)

/-- The projected sum. -/
def projected (r : Fin 32768) (f : Fin 2048) : EReal := ∑ k : Fin 2048, mixed x0 x1 x2 x3 x5 x6 x7 x8 r k * (x9 (ix2 k f) : EReal)

/-- The new row. -/
def fresh (r : Fin 32768) (f : Fin 2048) : EReal :=
  x4 (ix2 r f) + x11 (ix3 (sample r) 2 f) *
    (projected x0 x1 x2 x3 x5 x6 x7 x8 x9 r f * root (projected x0 x1 x2 x3 x5 x6 x7 x8 x9 r) * x10 (ix2 0 f))

/-- The new row, normed and modulated. -/
def next (r : Fin 32768) (f : Fin 2048) : EReal :=
  fresh x0 x1 x2 x3 x4 x5 x6 x7 x8 x9 x10 x11 r f * root (fresh x0 x1 x2 x3 x4 x5 x6 x7 x8 x9 x10 x11 r) * x12 (ix2 0 f) *
    (1 + x11 (ix3 (sample r) 4 f)) + x11 (ix3 (sample r) 3 f)

/-- A gate of the reference: one over one plus the exponential. -/
theorem gate_apply (r : Fin 32768) (j : Fin 6144) : (val_main_v11 (F := Ideal) x0 x5 (ix2 r j) : EReal) = gate x0 x5 r j := by
  have e : idx_main_v0 (ix2 r j) = ix2 r (wide j) := eq_ix2 _
  have e5 : idx_main_v2 (idx_main_v3 (idx_main_v4 (ix2 r j))) = ix2 0 j := by
    refine (eq_ix2 _).trans ?_
    congr 1
    exact Fin.ext (show j.val % 6144 = j.val by omega)
  rw [val_main_v11_apply, val_main_v10_apply, val_main_v9_apply, val_main_v8_apply, val_main_v7_apply, val_main_v6_apply, val_main_v5_apply,
    val_main_v4_apply, val_main_v3_apply, val_main_v2_apply, val_main_v1_apply, val_main_v0_apply, e, e5,
    show ∀ i, val_main_cst (F := Ideal) i = (1 : EReal) from fun _ => Ideal.ofBits_one_f32,
    show ∀ i, val_main_cst_0 (F := Ideal) i = (1 : EReal) from fun _ => Ideal.ofBits_one_f32]
  rfl

/-- The three branches' products. -/
theorem first_apply (r : Fin 32768) (f : Fin 2048) :
    (val_main_v14 (F := Ideal) x1 x6 (ix2 r f) : EReal) = ∑ k : Fin 512, (x1 (ix2 r k) : EReal) * (x6 (ix2 k f) : EReal) := by
  refine (val_main_v14_apply x1 x6 _).trans (Finset.sum_congr rfl fun k _ => ?_)
  rw [show lidx_main_v14 (ix2 r f) k = ix2 r k from eq_ix2 _, show ridx_main_v14 (ix2 r f) k = ix2 k f from eq_ix2 _, val_main_v13_apply]
  rfl
theorem second_apply (r : Fin 32768) (f : Fin 2048) :
    (val_main_v19 (F := Ideal) x2 x7 (ix2 r f) : EReal) = ∑ k : Fin 512, (x2 (ix2 r k) : EReal) * (x7 (ix2 k f) : EReal) := by
  refine (val_main_v19_apply x2 x7 _).trans (Finset.sum_congr rfl fun k _ => ?_)
  rw [show lidx_main_v19 (ix2 r f) k = ix2 r k from eq_ix2 _, show ridx_main_v19 (ix2 r f) k = ix2 k f from eq_ix2 _, val_main_v17_apply, val_main_v18_apply]
  rfl
theorem third_apply (r : Fin 32768) (f : Fin 2048) :
    (val_main_v25 (F := Ideal) x3 x8 (ix2 r f) : EReal) = ∑ k : Fin 1024, (x3 (ix2 r k) : EReal) * (x8 (ix2 k f) : EReal) := by
  refine (val_main_v25_apply x3 x8 _).trans (Finset.sum_congr rfl fun k _ => ?_)
  rw [show lidx_main_v25 (ix2 r f) k = ix2 r k from eq_ix2 _, show ridx_main_v25 (ix2 r f) k = ix2 k f from eq_ix2 _, val_main_v23_apply, val_main_v24_apply]
  rfl

/-- The gated sum. -/
theorem mixed_apply (r : Fin 32768) (f : Fin 2048) :
    (val_main_v27 (F := Ideal) x0 x1 x2 x3 x5 x6 x7 x8 (ix2 r f) : EReal) = mixed x0 x1 x2 x3 x5 x6 x7 x8 r f := by
  have e0 : idx_main_v12 (ix2 r f) = ix2 r (col 0 f) := by
    refine (eq_ix2 _).trans (congrArg (ix2 r) (Fin.ext ?_))
    show f.val = 0 * 2048 + f.val
    omega
  have e1 : idx_main_v16 (ix2 r f) = ix2 r (col 1 f) := by
    refine (eq_ix2 _).trans (congrArg (ix2 r) (Fin.ext ?_))
    show 2048 + f.val = 1 * 2048 + f.val
    omega
  have e2 : idx_main_v22 (ix2 r f) = ix2 r (col 2 f) := by
    refine (eq_ix2 _).trans (congrArg (ix2 r) (Fin.ext ?_))
    show 4096 + f.val = 2 * 2048 + f.val
    omega
  rw [val_main_v27_apply, val_main_v26_apply, val_main_v22_apply, e2, gate_apply, third_apply, val_main_v21_apply, val_main_v20_apply, val_main_v16_apply,
    e1, gate_apply, second_apply, val_main_v15_apply, val_main_v12_apply, e0, gate_apply, first_apply]
  rfl

/-- The projected sum. -/
theorem projected_apply (r : Fin 32768) (f : Fin 2048) :
    (val_main_v29 (F := Ideal) x0 x1 x2 x3 x5 x6 x7 x8 x9 (ix2 r f) : EReal) = projected x0 x1 x2 x3 x5 x6 x7 x8 x9 r f := by
  refine (val_main_v29_apply x0 x1 x2 x3 x5 x6 x7 x8 x9 _).trans (Finset.sum_congr rfl fun k _ => ?_)
  rw [show lidx_main_v29 (ix2 r f) k = ix2 r k from eq_ix2 _, show ridx_main_v29 (ix2 r f) k = ix2 k f from eq_ix2 _, mixed_apply, val_main_v28_apply]
  rfl

/-- The projected sum, normed. -/
theorem normed_apply (r : Fin 32768) (f : Fin 2048) : (val_main_v43 (F := Ideal) x0 x1 x2 x3 x5 x6 x7 x8 x9 x10 (ix2 r f) : EReal) =
    projected x0 x1 x2 x3 x5 x6 x7 x8 x9 r f * root (projected x0 x1 x2 x3 x5 x6 x7 x8 x9 r) * x10 (ix2 0 f) := by
  have eg : idx_main_v40 (idx_main_v41 (idx_main_v42 (ix2 r f))) = ix2 0 f := by
    refine (eq_ix2 _).trans ?_
    congr 1
    exact Fin.ext (show f.val % 2048 = f.val by omega)
  have er : idx_main_v32 (idx_main_v38 (ix2 r f)) = ix1 r := eq_ix1 _
  have es : ∀ y, idx_main_v31 (ix1 r) y = ix2 r y := fun y => eq_ix2 _
  rw [val_main_v43_apply, val_main_v42_apply, val_main_v41_apply, val_main_v40_apply, eg, val_main_v39_apply, projected_apply, val_main_v38_apply,
    val_main_v37_apply, val_main_v36_apply, val_main_v35_apply, val_main_v34_apply, val_main_v33_apply, val_main_v32_apply, er, val_main_v31_apply,
    show val_main_cst_1 (F := Ideal) (Shape.Idx.first h_S_) = (0 : EReal) from Ideal.ofBits_zero_f32, zero_add]
  simp only [es, val_main_v30_apply, projected_apply]
  rfl

/-- The new row, in the samples' arrays. -/
theorem fresh_apply (r : Fin 32768) (f : Fin 2048) : (val_main_v49 (F := Ideal) x0 x1 x2 x3 x4 x5 x6 x7 x8 x9 x10 x11 (ix3 (sample r) (place r) f) : EReal) =
    fresh x0 x1 x2 x3 x4 x5 x6 x7 x8 x9 x10 x11 r f := by
  have e4 : idx_main_v44 (ix3 (sample r) (place r) f) = ix2 r f := by
    refine (eq_ix2 _).trans ?_
    congr 1
    · exact Fin.ext (show ((r.val / 8192 * 8192 + r.val % 8192) * 2048 + f.val) / 2048 = r.val by omega)
    · exact Fin.ext (show ((r.val / 8192 * 8192 + r.val % 8192) * 2048 + f.val) % 2048 = f.val by omega)
  have e46 : idx_main_v46 (ix3 (sample r) (place r) f) = ix2 r f := e4
  have em : idx_main_v45 (idx_main_v47 (ix3 (sample r) (place r) f)) = ix3 (sample r) 2 f := eq_ix3 _
  rw [val_main_v49_apply, val_main_v48_apply, val_main_v47_apply, val_main_v46_apply, val_main_v45_apply, val_main_v44_apply, e4, e46, em, normed_apply]
  rfl

/-- The new row, normed and modulated, in the samples' arrays. -/
theorem next_apply (r : Fin 32768) (f : Fin 2048) :
    (val_main_v71 (F := Ideal) x0 x1 x2 x3 x4 x5 x6 x7 x8 x9 x10 x11 x12 (ix3 (sample r) (place r) f) : EReal) =
      next x0 x1 x2 x3 x4 x5 x6 x7 x8 x9 x10 x11 x12 r f := by
  have eg : idx_main_v60 (idx_main_v61 (idx_main_v62 (ix3 (sample r) (place r) f))) = ix2 0 f := by
    refine (eq_ix2 _).trans ?_
    congr 1
    exact Fin.ext (show f.val % 2048 = f.val by omega)
  have e4 : idx_main_v64 (idx_main_v67 (ix3 (sample r) (place r) f)) = ix3 (sample r) 4 f := eq_ix3 _
  have e3 : idx_main_v69 (idx_main_v70 (ix3 (sample r) (place r) f)) = ix3 (sample r) 3 f := eq_ix3 _
  have er : idx_main_v52 (idx_main_v58 (ix3 (sample r) (place r) f)) = ix2 (sample r) (place r) := eq_ix2 _
  have es : ∀ y, idx_main_v51 (ix2 (sample r) (place r)) y = ix3 (sample r) (place r) y := fun y => eq_ix3 _
  rw [val_main_v71_apply, val_main_v70_apply, val_main_v69_apply, e3, val_main_v68_apply, val_main_v67_apply, val_main_v66_apply, val_main_v65_apply,
    val_main_v64_apply, e4, show ∀ i, val_main_cst_7 (F := Ideal) i = (1 : EReal) from fun _ => Ideal.ofBits_one_f32,
    val_main_v63_apply, val_main_v62_apply, val_main_v61_apply, val_main_v60_apply, eg, val_main_v59_apply, fresh_apply, val_main_v58_apply,
    val_main_v57_apply, val_main_v56_apply, val_main_v55_apply, val_main_v54_apply, val_main_v53_apply, val_main_v52_apply, er, val_main_v51_apply,
    show val_main_cst_4 (F := Ideal) (Shape.Idx.first h_S_) = (0 : EReal) from Ideal.ofBits_zero_f32, zero_add]
  simp only [es, val_main_v50_apply, fresh_apply]
  rfl

/-- A row's entry in the samples' arrays. -/
theorem split_eq (r : Fin 32768) (f : Fin 2048) : idx_main_v72 (ix2 r f) = ix3 (sample r) (place r) f := by
  refine (eq_ix3 _).trans ?_
  congr 1
  · exact Fin.ext (show (r.val * 2048 + f.val) / 16777216 = r.val / 8192 by omega)
  · exact Fin.ext (show (r.val * 2048 + f.val) / 2048 % 8192 = r.val % 8192 by omega)
  · exact Fin.ext (show (r.val * 2048 + f.val) % 2048 = f.val by omega)

/-- **An entry of the reference's first result.** -/
theorem out_apply (r : Fin 32768) (f : Fin 2048) :
    (val_main_v72 (F := Ideal) x0 x1 x2 x3 x4 x5 x6 x7 x8 x9 x10 x11 (ix2 r f) : EReal) = fresh x0 x1 x2 x3 x4 x5 x6 x7 x8 x9 x10 x11 r f := by
  rw [val_main_v72_apply, split_eq, fresh_apply]

/-- **An entry of the reference's second result.** -/
theorem out2_apply (r : Fin 32768) (f : Fin 2048) :
    (val_main_v74 (F := Ideal) x0 x1 x2 x3 x4 x5 x6 x7 x8 x9 x10 x11 x12 (ix2 r f) : EReal) = next x0 x1 x2 x3 x4 x5 x6 x7 x8 x9 x10 x11 x12 r f := by
  rw [val_main_v74_apply, show idx_main_v74 (ix2 r f) = ix3 (sample r) (place r) f from split_eq r f, val_main_v73_apply, next_apply]
  rfl
end Cert.MergeRefIdeal.Val
end
end
-- ==== Proof.Merge.Array.lean ====
/-
The two arrays that the merge leaves are the reference's: each point takes a tile of 256 rows through the whole of it.
-/
module
public import proofs.«01_k».proof.Proof.Gen.MergeIdeal.Value
public import proofs.«01_k».proof.Proof.Merge.Ref
public import Idealize.ShloMosaic.Lib.Pipeline.ValueKit
public import Idealize.ShloMosaic.Lib.Pipeline.ReadBack
@[expose] public section
set_option maxRecDepth 16384
noncomputable section
namespace Cert.MergeIdeal.Val
open Cert.MergeIdeal Cert.MergeIdeal.Gen Idealize.ShloMosaic Idealize.ShloMosaic.TcCoe Idealize.SL.Sem Idealize.ShloMosaic.Pointwise
open Cert.MergeRefIdeal.Val (root gate mixed projected fresh next sample col wide)

/-- The block that each window is on at point `t`: tile of rows `t`, 32 tiles to a sample, a third of the gates' columns each. -/
theorem idx (t : Fin cfg0.N) :
    (win0_0.index t = ![t.val, 0] ∧ win0_1.index t = ![t.val, 1] ∧ win0_2.index t = ![t.val, 2] ∧ win0_3.index t = ![t.val, 0] ∧
      win0_4.index t = ![t.val, 0] ∧ win0_5.index t = ![t.val, 0] ∧ win0_6.index t = ![t.val, 0] ∧ win0_7.index t = ![0, 0]) ∧
    win0_8.index t = ![0, 0] ∧ win0_9.index t = ![0, 0] ∧ win0_10.index t = ![0, 0] ∧ win0_11.index t = ![0, 0] ∧
      win0_12.index t = ![0, 0] ∧ win0_13.index t = ![t.val / 32, 0, 0] ∧ win0_14.index t = ![0, 0] ∧ win0_15.index t = ![t.val, 0] ∧
      win0_16.index t = ![t.val, 0] :=
  (by decide +kernel : ∀ t : Fin grid0.N,
    (win0_0.index t = ![t.val, 0] ∧ win0_1.index t = ![t.val, 1] ∧ win0_2.index t = ![t.val, 2] ∧ win0_3.index t = ![t.val, 0] ∧
      win0_4.index t = ![t.val, 0] ∧ win0_5.index t = ![t.val, 0] ∧ win0_6.index t = ![t.val, 0] ∧ win0_7.index t = ![0, 0]) ∧
    win0_8.index t = ![0, 0] ∧ win0_9.index t = ![0, 0] ∧ win0_10.index t = ![0, 0] ∧ win0_11.index t = ![0, 0] ∧
      win0_12.index t = ![0, 0] ∧ win0_13.index t = ![t.val / 32, 0, 0] ∧ win0_14.index t = ![0, 0] ∧ win0_15.index t = ![t.val, 0] ∧
      win0_16.index t = ![t.val, 0]) t

/-! ## The stored values, entry by entry -/

/-- The first two branches, gated. -/
theorem pay2_apply (p : Vec Ideal S256x2048 .bf16) (b : Vec Ideal S1x2048 .f32) (a : Vec Ideal S256x512 .f32) (w : Vec Ideal S512x2048 .bf16)
    (p' : Vec Ideal S256x2048 .bf16) (b' : Vec Ideal S1x2048 .f32) (a' : Vec Ideal S256x512 .bf16) (w' : Vec Ideal S512x2048 .bf16) (r : Fin 256) (f : Fin 2048) :
    (k0_pay2 (F := Ideal) p b a w p' b' a' w' (ix2 r f) : EReal) =
      Ideal.logistic ((p (ix2 r f) : EReal) + b (ix2 0 f)) * ∑ k : Fin 512, (a (ix2 r k) : EReal) * (w (ix2 k f) : EReal) +
        Ideal.logistic ((p' (ix2 r f) : EReal) + b' (ix2 0 f)) * ∑ k : Fin 512, (a' (ix2 r k) : EReal) * (w' (ix2 k f) : EReal) := by
  unfold_payloads
  pointwise

/-- The third branch, gated. -/
theorem pay3_apply (p : Vec Ideal S256x2048 .bf16) (b : Vec Ideal S1x2048 .f32) (a : Vec Ideal S256x1024 .bf16) (w : Vec Ideal S1024x2048 .bf16)
    (r : Fin 256) (f : Fin 2048) :
    (k0_pay3 (F := Ideal) p b a w (ix2 r f) : EReal) =
      Ideal.logistic ((p (ix2 r f) : EReal) + b (ix2 0 f)) * ∑ k : Fin 1024, (a (ix2 r k) : EReal) * (w (ix2 k f) : EReal) := by
  unfold_payloads
  pointwise

/-- The new rows. -/
theorem pay5_apply (u v : FVec Ideal S256x2048 .f32) (w : Vec Ideal S2048x2048 .bf16) (d : Vec Ideal S1x6x2048 .f32) (x : Vec Ideal S256x2048 .f32)
    (g : Vec Ideal S1x2048 .f32) (r : Fin 256) (f : Fin 2048) :
    (k0_pay5 (F := Ideal) u v w d x g (ix2 r f) : EReal) = x (ix2 r f) + d (ix3 0 2 f) *
      ((∑ k : Fin 2048, ((u (ix2 r k) : EReal) + v (ix2 r k)) * (w (ix2 k f) : EReal)) *
        root (fun y => ∑ k : Fin 2048, ((u (ix2 r k) : EReal) + v (ix2 r k)) * (w (ix2 k y) : EReal)) * g (ix2 0 f)) := by
  unfold root
  unfold_payloads
  pointwise

/-- The new rows, normed. -/
theorem pay6_apply (u v : FVec Ideal S256x2048 .f32) (w : Vec Ideal S2048x2048 .bf16) (d : Vec Ideal S1x6x2048 .f32) (x : Vec Ideal S256x2048 .f32)
    (g g' : Vec Ideal S1x2048 .f32) (r : Fin 256) (f : Fin 2048) :
    (k0_pay6 (F := Ideal) u v w d x g g' (ix2 r f) : EReal) = k0_pay5 (F := Ideal) u v w d x g (ix2 r f) *
      root (fun y => k0_pay5 (F := Ideal) u v w d x g (ix2 r y)) * g' (ix2 0 f) := by
  unfold root k0_pay6
  generalize k0_pay5 (F := Ideal) u v w d x g = z
  pointwise

/-- The normed rows, modulated. -/
theorem pay1_apply (d : Vec Ideal S1x6x2048 .f32) (z : FVec Ideal S256x2048 .f32) (r : Fin 256) (f : Fin 2048) :
    (k0_pay1 (F := Ideal) (k0_pay4 d) z (k0_pay7 d) (ix2 r f) : EReal) = z (ix2 r f) * (1 + d (ix3 0 4 f)) + d (ix3 0 3 f) := by
  unfold_payloads
  pointwise

variable (m : (ℓ : Loc nD τ sig) → Buf (Elt Ideal) ℓ) (c : Dev nD)

/-- The arguments. -/
abbrev a0 : Vec Ideal S32768x10752 .bf16 := m ((c.tc : Thread nD τ).loc main_arg0)
abbrev a1 : Vec Ideal S32768x512 .f32 := m ((c.tc : Thread nD τ).loc main_arg1)
abbrev a2 : Vec Ideal S32768x512 .bf16 := m ((c.tc : Thread nD τ).loc main_arg2)
abbrev a3 : Vec Ideal S32768x1024 .bf16 := m ((c.tc : Thread nD τ).loc main_arg3)
abbrev a4 : Vec Ideal S32768x2048 .f32 := m ((c.tc : Thread nD τ).loc main_arg4)
abbrev a5 : Vec Ideal S1x6144 .f32 := m ((c.tc : Thread nD τ).loc main_arg5)
abbrev a6 : Vec Ideal S512x2048 .bf16 := m ((c.tc : Thread nD τ).loc main_arg6)
abbrev a7 : Vec Ideal S512x2048 .bf16 := m ((c.tc : Thread nD τ).loc main_arg7)
abbrev a8 : Vec Ideal S1024x2048 .bf16 := m ((c.tc : Thread nD τ).loc main_arg8)
abbrev a9 : Vec Ideal S2048x2048 .bf16 := m ((c.tc : Thread nD τ).loc main_arg9)
abbrev a10 : Vec Ideal S1x2048 .f32 := m ((c.tc : Thread nD τ).loc main_arg10)
abbrev a11 : Vec Ideal S4x6x2048 .f32 := m ((c.tc : Thread nD τ).loc main_arg11)
abbrev a12 : Vec Ideal S1x2048 .f32 := m ((c.tc : Thread nD τ).loc main_arg12)

/-- The thirds of the gates' offsets, one to a branch. -/
abbrev third0 (t : Fin cfg0.N) : Vec Ideal S1x2048 .f32 := View.ld (iblk m c 7 t) (Rect.unit ![0, 0] ![1, 2048] inb_S1x6144_S1x2048_0_0)
abbrev third1 (t : Fin cfg0.N) : Vec Ideal S1x2048 .f32 := View.ld (iblk m c 7 t) (Rect.unit ![0, 2048] ![1, 2048] inb_S1x6144_S1x2048_0_2048)
abbrev third2 (t : Fin cfg0.N) : Vec Ideal S1x2048 .f32 := View.ld (iblk m c 7 t) (Rect.unit ![0, 4096] ![1, 2048] inb_S1x6144_S1x2048_0_4096)

/-- The gated sum that a point makes, in its two parts. -/
abbrev part1 (t : Fin cfg0.N) : FVec Ideal S256x2048 .f32 :=
  k0_pay2 (X0_0 m c t) (third0 m c t) (iblk m c 3 t) (iblk m c 8 t) (X0_1 m c t) (third1 m c t) (iblk m c 4 t) (iblk m c 9 t)
abbrev part2 (t : Fin cfg0.N) : FVec Ideal S256x2048 .f32 := k0_pay3 (X0_2 m c t) (third2 m c t) (iblk m c 5 t) (iblk m c 10 t)

/-- The two blocks that a point leaves. -/
theorem block1_eq (t : Fin cfg0.N) : (outsAt0 m c t).1 =
    k0_pay5 (part1 m c t) (part2 m c t) (iblk m c 11 t) (iblk m c 13 t) (iblk m c 6 t) (iblk m c 12 t) := by
  unfold outsAt0
  frame_out
  rfl
theorem block2_eq (t : Fin cfg0.N) : (outsAt0 m c t).2 = k0_pay1 (k0_pay4 (iblk m c 13 t))
    (k0_pay6 (part1 m c t) (part2 m c t) (iblk m c 11 t) (iblk m c 13 t) (iblk m c 6 t) (iblk m c 12 t) (iblk m c 14 t)) (k0_pay7 (iblk m c 13 t)) := by
  unfold outsAt0
  frame_out
  rfl

/-- A row of a point. -/
abbrev row (t : Fin cfg0.N) (r : Fin 256) : Fin 32768 := ⟨t.val * 256 + r.val, by have h : t.val < 128 := t.isLt; omega⟩

/-! ## The blocks of a point, from the arguments -/

theorem read0 (t : Fin cfg0.N) (r : Fin 256) (f : Fin 2048) : (X0_0 m c t (ix2 r f) : EReal) = a0 m c (ix2 (row t r) (wide (col 0 f))) := by
  unfold X0_0 Pipeline.Window.fill
  rw [dif_pos (moved0_0 t _)]
  blk_ext [iblk, V, idx t]
theorem read1 (t : Fin cfg0.N) (r : Fin 256) (f : Fin 2048) : (X0_1 m c t (ix2 r f) : EReal) = a0 m c (ix2 (row t r) (wide (col 1 f))) := by
  unfold X0_1 Pipeline.Window.fill
  rw [dif_pos (moved0_1 t _)]
  blk_ext [iblk, V, idx t]
theorem read2 (t : Fin cfg0.N) (r : Fin 256) (f : Fin 2048) : (X0_2 m c t (ix2 r f) : EReal) = a0 m c (ix2 (row t r) (wide (col 2 f))) := by
  unfold X0_2 Pipeline.Window.fill
  rw [dif_pos (moved0_2 t _)]
  blk_ext [iblk, V, idx t]
theorem read3 (t : Fin cfg0.N) (r : Fin 256) (k : Fin 512) : (iblk m c 3 t (ix2 r k) : EReal) = a1 m c (ix2 (row t r) k) := by
  blk_ext [iblk, V, idx t]
theorem read4 (t : Fin cfg0.N) (r : Fin 256) (k : Fin 512) : (iblk m c 4 t (ix2 r k) : EReal) = a2 m c (ix2 (row t r) k) := by
  blk_ext [iblk, V, idx t]
theorem read5 (t : Fin cfg0.N) (r : Fin 256) (k : Fin 1024) : (iblk m c 5 t (ix2 r k) : EReal) = a3 m c (ix2 (row t r) k) := by
  blk_ext [iblk, V, idx t]
theorem read6 (t : Fin cfg0.N) (r : Fin 256) (f : Fin 2048) : (iblk m c 6 t (ix2 r f) : EReal) = a4 m c (ix2 (row t r) f) := by
  blk_ext [iblk, V, idx t]
theorem read7 (t : Fin cfg0.N) (j : Fin 6144) : (iblk m c 7 t (ix2 0 j) : EReal) = a5 m c (ix2 0 j) := by
  blk_ext [iblk, V, idx t]
/-- A third of the offsets, loaded. -/
theorem ld7 (t : Fin cfg0.N) (b : Fin 3) (inb) (f : Fin 2048) :
    (View.ld (Val := Elt Ideal) (e' := .f32) (iblk m c 7 t) (Rect.unit (s := S1x6144) ![0, b.val * 2048] ![1, 2048] inb) (ix2 0 f) : EReal) = a5 m c (ix2 0 (col b f)) :=
  (View.ld_unit_apply_of (S := S1x6144) _ _ _ inb _ (ix2 0 (col b f)) fun a => match a with
    | ⟨0, _⟩ => rfl
    | ⟨1, _⟩ => rfl).trans (read7 m c t _)
theorem third0_apply (t : Fin cfg0.N) (f : Fin 2048) : (third0 m c t (ix2 0 f) : EReal) = a5 m c (ix2 0 (col 0 f)) := ld7 m c t 0 _ f
theorem third1_apply (t : Fin cfg0.N) (f : Fin 2048) : (third1 m c t (ix2 0 f) : EReal) = a5 m c (ix2 0 (col 1 f)) := ld7 m c t 1 _ f
theorem third2_apply (t : Fin cfg0.N) (f : Fin 2048) : (third2 m c t (ix2 0 f) : EReal) = a5 m c (ix2 0 (col 2 f)) := ld7 m c t 2 _ f
theorem read8 (t : Fin cfg0.N) (k : Fin 512) (f : Fin 2048) : (iblk m c 8 t (ix2 k f) : EReal) = a6 m c (ix2 k f) := by
  blk_ext [iblk, V, idx t]
theorem read9 (t : Fin cfg0.N) (k : Fin 512) (f : Fin 2048) : (iblk m c 9 t (ix2 k f) : EReal) = a7 m c (ix2 k f) := by
  blk_ext [iblk, V, idx t]
theorem read10 (t : Fin cfg0.N) (k : Fin 1024) (f : Fin 2048) : (iblk m c 10 t (ix2 k f) : EReal) = a8 m c (ix2 k f) := by
  blk_ext [iblk, V, idx t]
theorem read11 (t : Fin cfg0.N) (k : Fin 2048) (f : Fin 2048) : (iblk m c 11 t (ix2 k f) : EReal) = a9 m c (ix2 k f) := by
  blk_ext [iblk, V, idx t]
theorem read12 (t : Fin cfg0.N) (f : Fin 2048) : (iblk m c 12 t (ix2 0 f) : EReal) = a10 m c (ix2 0 f) := by
  blk_ext [iblk, V, idx t]
theorem read13 (t : Fin cfg0.N) (r : Fin 256) (i : Fin 6) (f : Fin 2048) :
    (iblk m c 13 t (ix3 0 i f) : EReal) = a11 m c (ix3 (sample (row t r)) i f) := by
  have e : t.val / 32 = (t.val * 256 + r.val) / 8192 := by omega
  blk_ext [iblk, V, idx t]
theorem read14 (t : Fin cfg0.N) (f : Fin 2048) : (iblk m c 14 t (ix2 0 f) : EReal) = a12 m c (ix2 0 f) := by
  blk_ext [iblk, V, idx t]

/-- A point's gated sum is the reference's. -/
theorem parts_eq (t : Fin cfg0.N) (r : Fin 256) (f : Fin 2048) : (part1 m c t (ix2 r f) : EReal) + part2 m c t (ix2 r f) =
    mixed (a0 m c) (a1 m c) (a2 m c) (a3 m c) (a5 m c) (a6 m c) (a7 m c) (a8 m c) (row t r) f := by
  unfold part1 part2
  rw [pay2_apply, pay3_apply, read0, read1, read2, third0_apply, third1_apply, third2_apply]
  simp only [read3, read4, read5, read8, read9, read10]
  rfl

/-- **A point's first block is the reference's.** -/
theorem point1_eq (t : Fin cfg0.N) (r : Fin 256) (f : Fin 2048) : ((outsAt0 m c t).1 (ix2 r f) : EReal) =
    fresh (a0 m c) (a1 m c) (a2 m c) (a3 m c) (a4 m c) (a5 m c) (a6 m c) (a7 m c) (a8 m c) (a9 m c) (a10 m c) (a11 m c) (row t r) f := by
  rw [block1_eq, pay5_apply, read6, read12, read13 m c t r]
  simp only [parts_eq, read11]
  rfl

/-- **A point's second block is the reference's.** -/
theorem point2_eq (t : Fin cfg0.N) (r : Fin 256) (f : Fin 2048) : ((outsAt0 m c t).2 (ix2 r f) : EReal) =
    next (a0 m c) (a1 m c) (a2 m c) (a3 m c) (a4 m c) (a5 m c) (a6 m c) (a7 m c) (a8 m c) (a9 m c) (a10 m c) (a11 m c) (a12 m c) (row t r) f := by
  rw [block2_eq, pay1_apply, pay6_apply, read14, read13 m c t r, read13 m c t r, ← block1_eq]
  simp only [point1_eq]
  rfl

/-- **The kernel's first result is the reference's.** -/
theorem array1_eq : (dats m 0 c).arrAt 15 cfg0.N = Cert.MergeRefIdeal.Read.val_main_v72 (a0 m c) (a1 m c) (a2 m c) (a3 m c) (a4 m c) (a5 m c)
    (a6 m c) (a7 m c) (a8 m c) (a9 m c) (a10 m c) (a11 m c) := by
  refine (dats m 0 c).arrAt_eq_of_covers 15 _ (by decide +kernel) fun t hf y => ?_
  blk_simp
  rw [after0_15]
  idx_vars y
  rw [point1_eq m c t y0 y1, ← Cert.MergeRefIdeal.Val.out_apply]
  blk_ext [idx t]

/-- **The kernel's second result is the reference's.** -/
theorem array2_eq : (dats m 0 c).arrAt 16 cfg0.N = Cert.MergeRefIdeal.Read.val_main_v74 (a0 m c) (a1 m c) (a2 m c) (a3 m c) (a4 m c) (a5 m c)
    (a6 m c) (a7 m c) (a8 m c) (a9 m c) (a10 m c) (a11 m c) (a12 m c) := by
  refine (dats m 0 c).arrAt_eq_of_covers 16 _ (by decide +kernel) fun t hf y => ?_
  blk_simp
  rw [after0_16]
  idx_vars y
  rw [point2_eq m c t y0 y1, ← Cert.MergeRefIdeal.Val.out2_apply]
  blk_ext [idx t]
end Cert.MergeIdeal.Val
end
end
-- ==== Proof.MergeOne.Array.lean ====
/-
The merge of a layer of experts leaves the new stream alone: the same rows by the same payloads as the dense layers' merge,
whose entries `Merge/Ref.lean` and `Merge/Array.lean` give.
-/
module
public import proofs.«01_k».proof.Proof.Gen.MergeOneIdeal.Value
public import proofs.«01_k».proof.Proof.Gen.MergeOneRefIdeal.Read
public import proofs.«01_k».proof.Proof.Merge.Array
@[expose] public section
set_option maxRecDepth 16384
noncomputable section
namespace Cert.MergeOneIdeal.Val
open Cert.MergeOneIdeal Cert.MergeOneIdeal.Gen Idealize.ShloMosaic Idealize.ShloMosaic.TcCoe Idealize.SL.Sem Idealize.ShloMosaic.Pointwise
open Cert.MergeRefIdeal.Val (root gate mixed projected fresh sample col wide)

/-- The block that each window is on at point `t`, as in the dense layers' merge. -/
theorem idx (t : Fin cfg0.N) :
    (win0_0.index t = ![t.val, 0] ∧ win0_1.index t = ![t.val, 1] ∧ win0_2.index t = ![t.val, 2] ∧ win0_3.index t = ![t.val, 0] ∧
      win0_4.index t = ![t.val, 0] ∧ win0_5.index t = ![t.val, 0] ∧ win0_6.index t = ![t.val, 0] ∧ win0_7.index t = ![0, 0]) ∧
    win0_8.index t = ![0, 0] ∧ win0_9.index t = ![0, 0] ∧ win0_10.index t = ![0, 0] ∧ win0_11.index t = ![0, 0] ∧
      win0_12.index t = ![0, 0] ∧ win0_13.index t = ![t.val / 32, 0, 0] ∧ win0_14.index t = ![t.val, 0] :=
  (by decide +kernel : ∀ t : Fin grid0.N,
    (win0_0.index t = ![t.val, 0] ∧ win0_1.index t = ![t.val, 1] ∧ win0_2.index t = ![t.val, 2] ∧ win0_3.index t = ![t.val, 0] ∧
      win0_4.index t = ![t.val, 0] ∧ win0_5.index t = ![t.val, 0] ∧ win0_6.index t = ![t.val, 0] ∧ win0_7.index t = ![0, 0]) ∧
    win0_8.index t = ![0, 0] ∧ win0_9.index t = ![0, 0] ∧ win0_10.index t = ![0, 0] ∧ win0_11.index t = ![0, 0] ∧
      win0_12.index t = ![0, 0] ∧ win0_13.index t = ![t.val / 32, 0, 0] ∧ win0_14.index t = ![t.val, 0]) t

/-- The payloads are the dense layers'. -/
theorem pay1_eq : @k0_pay1 Ideal _ = @Cert.MergeIdeal.Gen.k0_pay5 Ideal _ := rfl
theorem pay2_eq : @k0_pay2 Ideal _ = @Cert.MergeIdeal.Gen.k0_pay2 Ideal _ := rfl
theorem pay3_eq : @k0_pay3 Ideal _ = @Cert.MergeIdeal.Gen.k0_pay3 Ideal _ := rfl

variable (m : (ℓ : Loc nD τ sig) → Buf (Elt Ideal) ℓ) (c : Dev nD)

/-- The arguments. -/
abbrev a0 : Vec Ideal S32768x10752 .bf16 := m ((c.tc : Thread nD τ).loc main_arg0)
abbrev a1 : Vec Ideal S32768x512 .f32 := m ((c.tc : Thread nD τ).loc main_arg1)
abbrev a2 : Vec Ideal S32768x512 .bf16 := m ((c.tc : Thread nD τ).loc main_arg2)
abbrev a3 : Vec Ideal S32768x1024 .bf16 := m ((c.tc : Thread nD τ).loc main_arg3)
abbrev a4 : Vec Ideal S32768x2048 .f32 := m ((c.tc : Thread nD τ).loc main_arg4)
abbrev a5 : Vec Ideal S1x6144 .f32 := m ((c.tc : Thread nD τ).loc main_arg5)
abbrev a6 : Vec Ideal S512x2048 .bf16 := m ((c.tc : Thread nD τ).loc main_arg6)
abbrev a7 : Vec Ideal S512x2048 .bf16 := m ((c.tc : Thread nD τ).loc main_arg7)
abbrev a8 : Vec Ideal S1024x2048 .bf16 := m ((c.tc : Thread nD τ).loc main_arg8)
abbrev a9 : Vec Ideal S2048x2048 .bf16 := m ((c.tc : Thread nD τ).loc main_arg9)
abbrev a10 : Vec Ideal S1x2048 .f32 := m ((c.tc : Thread nD τ).loc main_arg10)
abbrev a11 : Vec Ideal S4x6x2048 .f32 := m ((c.tc : Thread nD τ).loc main_arg11)

/-- The thirds of the gates' offsets, one to a branch. -/
abbrev third0 (t : Fin cfg0.N) : Vec Ideal S1x2048 .f32 := View.ld (iblk m c 7 t) (Rect.unit ![0, 0] ![1, 2048] inb_S1x6144_S1x2048_0_0)
abbrev third1 (t : Fin cfg0.N) : Vec Ideal S1x2048 .f32 := View.ld (iblk m c 7 t) (Rect.unit ![0, 2048] ![1, 2048] inb_S1x6144_S1x2048_0_2048)
abbrev third2 (t : Fin cfg0.N) : Vec Ideal S1x2048 .f32 := View.ld (iblk m c 7 t) (Rect.unit ![0, 4096] ![1, 2048] inb_S1x6144_S1x2048_0_4096)

/-- The gated sum that a point makes, in its two parts. -/
abbrev part1 (t : Fin cfg0.N) : FVec Ideal S256x2048 .f32 :=
  k0_pay2 (X0_0 m c t) (third0 m c t) (iblk m c 3 t) (iblk m c 8 t) (X0_1 m c t) (third1 m c t) (iblk m c 4 t) (iblk m c 9 t)
abbrev part2 (t : Fin cfg0.N) : FVec Ideal S256x2048 .f32 := k0_pay3 (X0_2 m c t) (third2 m c t) (iblk m c 5 t) (iblk m c 10 t)

/-- The block that a point leaves. -/
theorem block_eq (t : Fin cfg0.N) : outsAt0 m c t =
    k0_pay1 (part1 m c t) (part2 m c t) (iblk m c 11 t) (iblk m c 13 t) (iblk m c 6 t) (iblk m c 12 t) := by
  unfold outsAt0
  frame_out
  rfl

/-- A row of a point. -/
abbrev row (t : Fin cfg0.N) (r : Fin 256) : Fin 32768 := ⟨t.val * 256 + r.val, by have h : t.val < 128 := t.isLt; omega⟩

/-! ## The blocks of a point, from the arguments -/

theorem read0 (t : Fin cfg0.N) (r : Fin 256) (f : Fin 2048) : (X0_0 m c t (ix2 r f) : EReal) = a0 m c (ix2 (row t r) (wide (col 0 f))) := by
  unfold X0_0 Pipeline.Window.fill
  rw [dif_pos (moved0_0 t _)]
  blk_ext [iblk, V, idx t]
theorem read1 (t : Fin cfg0.N) (r : Fin 256) (f : Fin 2048) : (X0_1 m c t (ix2 r f) : EReal) = a0 m c (ix2 (row t r) (wide (col 1 f))) := by
  unfold X0_1 Pipeline.Window.fill
  rw [dif_pos (moved0_1 t _)]
  blk_ext [iblk, V, idx t]
theorem read2 (t : Fin cfg0.N) (r : Fin 256) (f : Fin 2048) : (X0_2 m c t (ix2 r f) : EReal) = a0 m c (ix2 (row t r) (wide (col 2 f))) := by
  unfold X0_2 Pipeline.Window.fill
  rw [dif_pos (moved0_2 t _)]
  blk_ext [iblk, V, idx t]
theorem read3 (t : Fin cfg0.N) (r : Fin 256) (k : Fin 512) : (iblk m c 3 t (ix2 r k) : EReal) = a1 m c (ix2 (row t r) k) := by
  blk_ext [iblk, V, idx t]
theorem read4 (t : Fin cfg0.N) (r : Fin 256) (k : Fin 512) : (iblk m c 4 t (ix2 r k) : EReal) = a2 m c (ix2 (row t r) k) := by
  blk_ext [iblk, V, idx t]
theorem read5 (t : Fin cfg0.N) (r : Fin 256) (k : Fin 1024) : (iblk m c 5 t (ix2 r k) : EReal) = a3 m c (ix2 (row t r) k) := by
  blk_ext [iblk, V, idx t]
theorem read6 (t : Fin cfg0.N) (r : Fin 256) (f : Fin 2048) : (iblk m c 6 t (ix2 r f) : EReal) = a4 m c (ix2 (row t r) f) := by
  blk_ext [iblk, V, idx t]
theorem read7 (t : Fin cfg0.N) (j : Fin 6144) : (iblk m c 7 t (ix2 0 j) : EReal) = a5 m c (ix2 0 j) := by
  blk_ext [iblk, V, idx t]
/-- A third of the offsets, loaded. -/
theorem ld7 (t : Fin cfg0.N) (b : Fin 3) (inb) (f : Fin 2048) :
    (View.ld (Val := Elt Ideal) (e' := .f32) (iblk m c 7 t) (Rect.unit (s := S1x6144) ![0, b.val * 2048] ![1, 2048] inb) (ix2 0 f) : EReal) = a5 m c (ix2 0 (col b f)) :=
  (View.ld_unit_apply_of (S := S1x6144) _ _ _ inb _ (ix2 0 (col b f)) fun a => match a with
    | ⟨0, _⟩ => rfl
    | ⟨1, _⟩ => rfl).trans (read7 m c t _)
theorem third0_apply (t : Fin cfg0.N) (f : Fin 2048) : (third0 m c t (ix2 0 f) : EReal) = a5 m c (ix2 0 (col 0 f)) := ld7 m c t 0 _ f
theorem third1_apply (t : Fin cfg0.N) (f : Fin 2048) : (third1 m c t (ix2 0 f) : EReal) = a5 m c (ix2 0 (col 1 f)) := ld7 m c t 1 _ f
theorem third2_apply (t : Fin cfg0.N) (f : Fin 2048) : (third2 m c t (ix2 0 f) : EReal) = a5 m c (ix2 0 (col 2 f)) := ld7 m c t 2 _ f
theorem read8 (t : Fin cfg0.N) (k : Fin 512) (f : Fin 2048) : (iblk m c 8 t (ix2 k f) : EReal) = a6 m c (ix2 k f) := by
  blk_ext [iblk, V, idx t]
theorem read9 (t : Fin cfg0.N) (k : Fin 512) (f : Fin 2048) : (iblk m c 9 t (ix2 k f) : EReal) = a7 m c (ix2 k f) := by
  blk_ext [iblk, V, idx t]
theorem read10 (t : Fin cfg0.N) (k : Fin 1024) (f : Fin 2048) : (iblk m c 10 t (ix2 k f) : EReal) = a8 m c (ix2 k f) := by
  blk_ext [iblk, V, idx t]
theorem read11 (t : Fin cfg0.N) (k : Fin 2048) (f : Fin 2048) : (iblk m c 11 t (ix2 k f) : EReal) = a9 m c (ix2 k f) := by
  blk_ext [iblk, V, idx t]
theorem read12 (t : Fin cfg0.N) (f : Fin 2048) : (iblk m c 12 t (ix2 0 f) : EReal) = a10 m c (ix2 0 f) := by
  blk_ext [iblk, V, idx t]
theorem read13 (t : Fin cfg0.N) (r : Fin 256) (i : Fin 6) (f : Fin 2048) :
    (iblk m c 13 t (ix3 0 i f) : EReal) = a11 m c (ix3 (sample (row t r)) i f) := by
  have e : t.val / 32 = (t.val * 256 + r.val) / 8192 := by omega
  blk_ext [iblk, V, idx t]

/-- A point's gated sum is the reference's. -/
theorem parts_eq (t : Fin cfg0.N) (r : Fin 256) (f : Fin 2048) : (part1 m c t (ix2 r f) : EReal) + part2 m c t (ix2 r f) =
    mixed (a0 m c) (a1 m c) (a2 m c) (a3 m c) (a5 m c) (a6 m c) (a7 m c) (a8 m c) (row t r) f := by
  unfold part1 part2
  rw [pay2_eq, pay3_eq, Cert.MergeIdeal.Val.pay2_apply, Cert.MergeIdeal.Val.pay3_apply, read0, read1, read2, third0_apply, third1_apply, third2_apply]
  simp only [read3, read4, read5, read8, read9, read10]
  rfl

/-- **A point's block is the reference's.** -/
theorem point_eq (t : Fin cfg0.N) (r : Fin 256) (f : Fin 2048) : (outsAt0 m c t (ix2 r f) : EReal) =
    fresh (a0 m c) (a1 m c) (a2 m c) (a3 m c) (a4 m c) (a5 m c) (a6 m c) (a7 m c) (a8 m c) (a9 m c) (a10 m c) (a11 m c) (row t r) f := by
  rw [block_eq, pay1_eq, Cert.MergeIdeal.Val.pay5_apply, read6, read12, read13 m c t r]
  simp only [parts_eq, read11]
  rfl

/-- The reference's result is the first of the dense layers' reference. -/
theorem ref_eq : @Cert.MergeOneRefIdeal.Read.val_main_v50 Ideal _ = @Cert.MergeRefIdeal.Read.val_main_v72 Ideal _ := rfl

/-- **The kernel's result is the reference's.** -/
theorem array_eq : (dats m 0 c).arrAt 14 cfg0.N = Cert.MergeOneRefIdeal.Read.val_main_v50 (a0 m c) (a1 m c) (a2 m c) (a3 m c) (a4 m c) (a5 m c)
    (a6 m c) (a7 m c) (a8 m c) (a9 m c) (a10 m c) (a11 m c) := by
  rw [ref_eq]
  refine (dats m 0 c).arrAt_eq_of_covers 14 _ (by decide +kernel) fun t hf y => ?_
  blk_simp
  rw [after0_14]
  idx_vars y
  rw [point_eq m c t y0 y1, ← Cert.MergeRefIdeal.Val.out_apply]
  blk_ext [idx t]
end Cert.MergeOneIdeal.Val
end
end
-- ==== Proof.lean ====
module

public import proofs.«01_k».proof.Defs
public import proofs.«01_k».proof.Proof.Gen.AttnIdeal.Value
public import proofs.«01_k».proof.Proof.Gen.AttnRefIdeal.Run
public import proofs.«01_k».proof.Proof.Gen.AttnRefIdeal.Read
public import proofs.«01_k».proof.Proof.Attn.Array
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Pre_finite
public import proofs.«01_k».proof.Proof.Up.Claims
public import proofs.«01_k».proof.Proof.Gen.Up
public import proofs.«01_k».proof.Proof.Gen.UpIdeal
public import proofs.«01_k».proof.Proof.Gen.UpRefIdeal
public import proofs.«01_k».proof.Proof.Gen.UpRefIdeal.Run
public import proofs.«01_k».proof.Proof.Gen.UpRefIdeal.Read
public import proofs.«01_k».proof.Proof.Gen.Pre_experts_up
public import proofs.«01_k».proof.Proof.Down.Claims
public import proofs.«01_k».proof.Proof.Gen.Down
public import proofs.«01_k».proof.Proof.Gen.DownIdeal
public import proofs.«01_k».proof.Proof.Gen.DownRefIdeal
public import proofs.«01_k».proof.Proof.Gen.DownRefIdeal.Run
public import proofs.«01_k».proof.Proof.Gen.DownRefIdeal.Read
public import proofs.«01_k».proof.Proof.Gen.Pre_experts_down
public import proofs.«01_k».proof.Proof.InProj.Array
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.InRefIdeal
public import proofs.«01_k».proof.Proof.Gen.InRefIdeal.Run
public import proofs.«01_k».proof.Proof.Gen.InRefIdeal.Read
public import proofs.«01_k».proof.Proof.Merge.Array
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import proofs.«01_k».proof.Proof.MergeOne.Array
public import proofs.«01_k».proof.Proof.Gen.MergeOne
public import proofs.«01_k».proof.Proof.Gen.MergeOne.Skeleton
public import proofs.«01_k».proof.Proof.Gen.MergeOne.Launch
public import proofs.«01_k».proof.Proof.Gen.MergeOne.Points
public import proofs.«01_k».proof.Proof.Gen.MergeOne.Frame
public import proofs.«01_k».proof.Proof.Gen.MergeOneIdeal
public import proofs.«01_k».proof.Proof.Gen.MergeOneIdeal.Skeleton
public import proofs.«01_k».proof.Proof.Gen.MergeOneIdeal.Launch
public import proofs.«01_k».proof.Proof.Gen.MergeOneIdeal.Points
public import proofs.«01_k».proof.Proof.Gen.MergeOneIdeal.Frame
public import proofs.«01_k».proof.Proof.Gen.MergeOneIdeal.Value
public import proofs.«01_k».proof.Proof.Gen.MergeOneRefIdeal
public import proofs.«01_k».proof.Proof.Gen.MergeOneRefIdeal.Run
public import proofs.«01_k».proof.Proof.Gen.MergeOneRefIdeal.Read
public import Idealize.ShloMosaic.Lib.Quiescent
public import Idealize.ShloMosaic.Adequacy
public import Idealize.ShloMosaic.Init

@[expose] public section

noncomputable section

namespace Cert.Proof

open Idealize.ShloMosaic Idealize.SL.Sem Cert.Attn

/-- The reference has no kernel and no semaphore; its run leaves its arguments as they were. -/
theorem attnRef_frame : quiescent_AttnRefIdeal := fun m g _ =>
  (θ_run _ _ _).mono (fun r h => ⟨fun c => (h c).2, sem_eq_zero_of_no_sems (by decide) r.2⟩) (Cert.AttnRefIdeal.Value.run m g)

/-- The kernel's array is the reference's, and the reference's memory holds the same arguments. -/
theorem attn_algebraic : algebraic_AttnIdeal_AttnRefIdeal_pre_finite := by
  intro m g m' g' hpre hagree
  refine ⟨fun c => (Cert.AttnIdeal.Gen.dats m 0 c).arrAt 8 Cert.AttnIdeal.cfg0.N, Cert.AttnIdeal.Value.run_blocks m g, ?_⟩
  refine (θ_run _ _ _).mono (fun r h c => ?_) (Cert.AttnRefIdeal.Value.run m' g')
  refine ⟨(h c).1.trans ?_, (h c).2⟩
  obtain ⟨e0, e1, e2, e3, e4, e5, e6⟩ := hagree c
  rw [Cert.AttnRefIdeal.Read.val_main_v77_eq, e0, e1, e2, e3, e4, e5, e6]
  exact (Cert.AttnIdeal.Val.array_eq m c (hpre c)).symm

/-- The first projection's array is its reference's, whatever the arguments. -/
theorem in_algebraic : algebraic_InProjIdeal_InRefIdeal := by
  intro m g m' g' _ hagree
  refine ⟨fun c => (Cert.InProjIdeal.Gen.dats m 0 c).arrAt 4 Cert.InProjIdeal.cfg0.N, Cert.InProjIdeal.Value.run_blocks m g, ?_⟩
  refine (θ_run _ _ _).mono (fun r h c => ?_) (Cert.InRefIdeal.Value.run m' g')
  refine ⟨(h c).1.trans ?_, (h c).2⟩
  obtain ⟨e0, e1, e2, e3⟩ := hagree c
  rw [Cert.InRefIdeal.Read.val_main_v26_eq, e0, e1, e2, e3]
  exact (Cert.InProjIdeal.Val.array_eq m c).symm

/-- The first projection's reference leaves its arguments as they were. -/
theorem inRef_frame : quiescent_InRefIdeal := fun m g _ =>
  (θ_run _ _ _).mono (fun r h => ⟨fun c => (h c).2, sem_eq_zero_of_no_sems (by decide) r.2⟩) (Cert.InRefIdeal.Value.run m g)

/-- The merge's two arrays are its reference's, whatever the arguments. -/
theorem merge_algebraic : algebraic_MergeIdeal_MergeRefIdeal := by
  intro m g m' g' _ hagree
  refine ⟨fun c => (Cert.MergeIdeal.Gen.dats m 0 c).arrAt 15 Cert.MergeIdeal.cfg0.N,
    fun c => (Cert.MergeIdeal.Gen.dats m 0 c).arrAt 16 Cert.MergeIdeal.cfg0.N, Cert.MergeIdeal.Value.run_blocks m g, ?_⟩
  refine (θ_run _ _ _).mono (fun r h c => ?_) (Cert.MergeRefIdeal.Value.run m' g')
  obtain ⟨e0, e1, e2, e3, e4, e5, e6, e7, e8, e9, e10, e11, e12⟩ := hagree c
  refine ⟨(h c).1.trans ?_, (h c).2.1.trans ?_, (h c).2.2⟩
  · rw [Cert.MergeRefIdeal.Read.val_main_v72_eq, e0, e1, e2, e3, e4, e5, e6, e7, e8, e9, e10, e11]
    exact (Cert.MergeIdeal.Val.array1_eq m c).symm
  · rw [Cert.MergeRefIdeal.Read.val_main_v74_eq, e0, e1, e2, e3, e4, e5, e6, e7, e8, e9, e10, e11, e12]
    exact (Cert.MergeIdeal.Val.array2_eq m c).symm

/-- The merge's reference leaves its arguments as they were. -/
theorem mergeRef_frame : quiescent_MergeRefIdeal := fun m g _ =>
  (θ_run _ _ _).mono (fun r h => ⟨fun c => (h c).2.2, sem_eq_zero_of_no_sems (by decide) r.2⟩) (Cert.MergeRefIdeal.Value.run m g)

/-- The array of the merge in a layer of experts is its reference's, whatever the arguments. -/
theorem mergeOne_algebraic : algebraic_MergeOneIdeal_MergeOneRefIdeal := by
  intro m g m' g' _ hagree
  refine ⟨fun c => (Cert.MergeOneIdeal.Gen.dats m 0 c).arrAt 14 Cert.MergeOneIdeal.cfg0.N, Cert.MergeOneIdeal.Value.run_blocks m g, ?_⟩
  refine (θ_run _ _ _).mono (fun r h c => ?_) (Cert.MergeOneRefIdeal.Value.run m' g')
  refine ⟨(h c).1.trans ?_, (h c).2⟩
  obtain ⟨e0, e1, e2, e3, e4, e5, e6, e7, e8, e9, e10, e11⟩ := hagree c
  rw [Cert.MergeOneRefIdeal.Read.val_main_v50_eq, e0, e1, e2, e3, e4, e5, e6, e7, e8, e9, e10, e11]
  exact (Cert.MergeOneIdeal.Val.array_eq m c).symm

/-- Its reference leaves its arguments as they were. -/
theorem mergeOneRef_frame : quiescent_MergeOneRefIdeal := fun m g _ =>
  (θ_run _ _ _).mono (fun r h => ⟨fun c => (h c).2, sem_eq_zero_of_no_sems (by decide) r.2⟩) (Cert.MergeOneRefIdeal.Value.run m g)

theorem claim : Cert.Claim := ⟨Cert.Attn.Gen.facts, Cert.AttnIdeal.Gen.facts, Cert.AttnRefIdeal.Gen.facts, Cert.Up.Gen.facts, Cert.UpIdeal.Gen.facts, Cert.UpRefIdeal.Gen.facts,
  Cert.Down.Gen.facts, Cert.DownIdeal.Gen.facts, Cert.DownRefIdeal.Gen.facts, Cert.InProj.Gen.facts, Cert.InProjIdeal.Gen.facts, Cert.InRefIdeal.Gen.facts,
  Cert.Merge.Gen.facts, Cert.MergeIdeal.Gen.facts, Cert.MergeRefIdeal.Gen.facts,
  Cert.MergeOne.Gen.facts, Cert.MergeOneIdeal.Gen.facts, Cert.MergeOneRefIdeal.Gen.facts,
  Cert.Pre_finite.Gen.facts, Cert.Pre_experts_up.Gen.facts, Cert.Pre_experts_down.Gen.facts,
  fun m g _ => Cert.Attn.Gen.frame m g, fun m g _ => Cert.AttnIdeal.Gen.frame m g, fun m g _ => Cert.AttnIdeal.Gen.frame m g,
  attnRef_frame, fun m g _ => attnRef_frame m g trivial,
  Cert.UpIdeal.Run.upBits_frame, Cert.UpIdeal.Run.upIdeal_frame, Cert.UpIdeal.Run.upRef_frame, Cert.UpIdeal.Run.upRef_frame_pre,
  Cert.DownIdeal.Run.downBits_frame, Cert.DownIdeal.Run.downIdeal_frame, Cert.DownIdeal.Run.downRef_frame, Cert.DownIdeal.Run.downRef_frame_pre,
  fun m g _ => Cert.InProj.Gen.frame m g, fun m g _ => Cert.InProjIdeal.Gen.frame m g, inRef_frame,
  fun m g _ => Cert.Merge.Gen.frame m g, fun m g _ => Cert.MergeIdeal.Gen.frame m g, mergeRef_frame,
  fun m g _ => Cert.MergeOne.Gen.frame m g, fun m g _ => Cert.MergeOneIdeal.Gen.frame m g, mergeOneRef_frame,
  trivial, attn_algebraic, trivial, Cert.UpIdeal.Run.up_algebraic, trivial, Cert.DownIdeal.Run.down_algebraic,
  trivial, in_algebraic, trivial, merge_algebraic, trivial, mergeOne_algebraic⟩

end Cert.Proof

end
